-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v21) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v99) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v100) = v2 c
          ∧ r.2.mem ((c.tc : Thread Cert.Reference2Ideal.nD Cert.Reference2Ideal.τ).loc Cert.Reference2Ideal.main_v102) = v3 c
          ∧ r.2.mem ((c.tc : Thread Cert.Reference2Ideal.nD Cert.Reference2Ideal.τ).loc Cert.Reference2Ideal.main_v98) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v80) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8192x1024 : Shape := ⟨2, ![8192, 1024]⟩
abbrev S2x16x1024 : Shape := ⟨3, ![2, 16, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2x16x1024 : S_.BroadcastsInDim S2x16x1024 (![] : Fin 0 → Fin S2x16x1024.rank)
  reducesTo_S2x16x1024_S_d0_1_2 : S2x16x1024.ReducesTo [0, 1, 2] S_

variable [Facts]

def fn {F : FTy → Type} [FloatOps F] (main_arg0 : FVec F S8192x1024 .f32) (main_arg1 : FVec F S8192x1024 .bf16) (main_arg2 : FVec F S8192x1024 .bf16) (main_arg3 : FVec F S2x16x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S2x16x1024 .f32 := Host.absf main_arg3
  let main_cst_2 : FVec F S_ .f32 := constant S_ .f32 0x7F800000#32
  let main_v11 : FVec F S2x16x1024 .f32 := broadcastInDim S2x16x1024 ![] bcast_S_S2x16x1024 main_cst_2
  let main_v12 : IVec S2x16x1024 1 := cmpf .olt main_v10 main_v11
  let main_c_3 : IVec S_ 1 := constantI S_ 1 1#1
  let main_v13 : IVec S_ 1 := (fun x v => Host.reduce IntOp.andi x v reducesTo_S2x16x1024_S_d0_1_2 h_S_) main_v12 main_c_3
  let main_v14 : IVec S_ 1 := andi main_v9 main_v13
  main_v14
-- ==== Kernel.lean ====
abbrev S8192x1024 : Shape := ⟨2, ![8192, 1024]⟩
abbrev S2x16x1024 : Shape := ⟨3, ![2, 16, 1024]⟩
abbrev S256x1024 : Shape := ⟨2, ![256, 1024]⟩
abbrev S4096x1024 : Shape := ⟨2, ![4096, 1024]⟩
abbrev S1x16x1024 : Shape := ⟨3, ![1, 16, 1024]⟩
abbrev S512x128 : Shape := ⟨2, ![512, 128]⟩
abbrev S256x512 : Shape := ⟨2, ![256, 512]⟩
abbrev S16x256 : Shape := ⟨2, ![16, 256]⟩
abbrev S256x128 : Shape := ⟨2, ![256, 128]⟩
abbrev S1x16x128 : Shape := ⟨3, ![1, 16, 128]⟩
abbrev S16x128 : Shape := ⟨2, ![16, 128]⟩
abbrev S256 : Shape := ⟨1, ![256]⟩
abbrev S1x256 : Shape := ⟨2, ![1, 256]⟩
abbrev S112x256 : Shape := ⟨2, ![112, 256]⟩
abbrev S128x256 : Shape := ⟨2, ![128, 256]⟩
abbrev S256x256 : Shape := ⟨2, ![256, 256]⟩
abbrev S512x256 : Shape := ⟨2, ![512, 256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S2x16x1024, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S1x16x1024, .f32⟩
  | .local _ .vmem, ⟨7, _⟩ => ⟨S1x16x1024, .f32⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 16], ![false, false, false]⟩

def k0_mult1 (i : grid0.Coords) : BitVec 32 :=
  let arg2 : BitVec 32 := BitVec.ofNat 32 (i 2).val
  let c1_i32 : BitVec 32 := 1#32
  let v0 : BitVec 32 := Scalar.shrui arg2 c1_i32
  let c512_i32 : BitVec 32 := 512#32
  let v98 : BitVec 32 := Scalar.muli v0 c512_i32
  v98
def k0_off1 (i : grid0.Coords) : Fin 2 → Nat :=
  let arg2 : BitVec 32 := BitVec.ofNat 32 (i 2).val
  let c1_i32 : BitVec 32 := 1#32
  let v0 : BitVec 32 := Scalar.shrui arg2 c1_i32
  let c512_i32 : BitVec 32 := 512#32
  let v98 : BitVec 32 := Scalar.muli v0 c512_i32
  let v99 : BitVec 32 := v98
  let v108 : Index := Scalar.indexCast v99
  let c0_33 : Index := 0#32
  ![v108.toNat, 0]
def k0_mult2 (i : grid0.Coords) : BitVec 32 :=
  let arg2 : BitVec 32 := BitVec.ofNat 32 (i 2).val
  let c1_i32 : BitVec 32 := 1#32
  let v0 : BitVec 32 := Scalar.shrui arg2 c1_i32
  let c512_i32_71 : BitVec 32 := 512#32
  let v214 : BitVec 32 := Scalar.muli v0 c512_i32_71
  v214
def k0_off2 (i : grid0.Coords) : Fin 2 → Nat :=
  let arg2 : BitVec 32 := BitVec.ofNat 32 (i 2).val
  let c1_i32 : BitVec 32 := 1#32
  let v0 : BitVec 32 := Scalar.shrui arg2 c1_i32
  let c512_i32_71 : BitVec 32 := 512#32
  let v214 : BitVec 32 := Scalar.muli v0 c512_i32_71
  let v215 : BitVec 32 := v214
  let v224 : Index := Scalar.indexCast v215
  let c128_75 : Index := 128#32
  ![v224.toNat, 128]
def k0_mult3 (i : grid0.Coords) : BitVec 32 :=
  let arg2 : BitVec 32 := BitVec.ofNat 32 (i 2).val
  let c1_i32 : BitVec 32 := 1#32
  let v0 : BitVec 32 := Scalar.shrui arg2 c1_i32
  let c512_i32_113 : BitVec 32 := 512#32
  let v330 : BitVec 32 := Scalar.muli v0 c512_i32_113
  v330
def k0_off3 (i : grid0.Coords) : Fin 2 → Nat :=
  let arg2 : BitVec 32 := BitVec.ofNat 32 (i 2).val
  let c1_i32 : BitVec 32 := 1#32
  let v0 : BitVec 32 := Scalar.shrui arg2 c1_i32
  let c512_i32_113 : BitVec 32 := 512#32
  let v330 : BitVec 32 := Scalar.muli v0 c512_i32_113
  let v331 : BitVec 32 := v330
  let v340 : Index := Scalar.indexCast v331
  let c256_117 : Index := 256#32
  ![v340.toNat, 256]
def k0_mult4 (i : grid0.Coords) : BitVec 32 :=
  let arg2 : BitVec 32 := BitVec.ofNat 32 (i 2).val
  let c1_i32 : BitVec 32 := 1#32
  let v0 : BitVec 32 := Scalar.shrui arg2 c1_i32
  let c512_i32_155 : BitVec 32 := 512#32
  let v446 : BitVec 32 := Scalar.muli v0 c512_i32_155
  v446
def k0_off4 (i : grid0.Coords) : Fin 2 → Nat :=
  let arg2 : BitVec 32 := BitVec.ofNat 32 (i 2).val
  let c1_i32 : BitVec 32 := 1#32
  let v0 : BitVec 32 := Scalar.shrui arg2 c1_i32
  let c512_i32_155 : BitVec 32 := 512#32
  let v446 : BitVec 32 := Scalar.muli v0 c512_i32_155
  let v447 : BitVec 32 := v446
  let v456 : Index := Scalar.indexCast v447
  let c384_159 : Index := 384#32
  ![v456.toNat, 384]
def k0_mult5 (i : grid0.Coords) : BitVec 32 :=
  let arg2 : BitVec 32 := BitVec.ofNat 32 (i 2).val
  let c1_i32 : BitVec 32 := 1#32
  let v0 : BitVec 32 := Scalar.shrui arg2 c1_i32
  let c512_i32_197 : BitVec 32 := 512#32
  let v562 : BitVec 32 := Scalar.muli v0 c512_i32_197
  v562
def k0_off5 (i : grid0.Coords) : Fin 2 → Nat :=
  let arg2 : BitVec 32 := BitVec.ofNat 32 (i 2).val
  let c1_i32 : BitVec 32 := 1#32
  let v0 : BitVec 32 := Scalar.shrui arg2 c1_i32
  let c512_i32_197 : BitVec 32 := 512#32
  let v562 : BitVec 32 := Scalar.muli v0 c512_i32_197
  let v563 : BitVec 32 := v562
  let v572 : Index := Scalar.indexCast v563
  let c512_201 : Index := 512#32
  ![v572.toNat, 512]
def k0_mult6 (i : grid0.Coords) : BitVec 32 :=
  let arg2 : BitVec 32 := BitVec.ofNat 32 (i 2).val
  let c1_i32 : BitVec 32 := 1#32
  let v0 : BitVec 32 := Scalar.shrui arg2 c1_i32
  let c512_i32_239 : BitVec 32 := 512#32
  let v678 : BitVec 32 := Scalar.muli v0 c512_i32_239
  v678
def k0_off6 (i : grid0.Coords) : Fin 2 → Nat :=
  let arg2 : BitVec 32 := BitVec.ofNat 32 (i 2).val
  let c1_i32 : BitVec 32 := 1#32
  let v0 : BitVec 32 := Scalar.shrui arg2 c1_i32
  let c512_i32_239 : BitVec 32 := 512#32
  let v678 : BitVec 32 := Scalar.muli v0 c512_i32_239
  let v679 : BitVec 32 := v678
  let v688 : Index := Scalar.indexCast v679
  let c640_243 : Index := 640#32
  ![v688.toNat, 640]
def k0_mult7 (i : grid0.Coords) : BitVec 32 :=
  let arg2 : BitVec 32 := BitVec.ofNat 32 (i 2).val
  let c1_i32 : BitVec 32 := 1#32
  let v0 : BitVec 32 := Scalar.shrui arg2 c1_i32
  let c512_i32_281 : BitVec 32 := 512#32
  let v794 : BitVec 32 := Scalar.muli v0 c512_i32_281
  v794
def k0_off7 (i : grid0.Coords) : Fin 2 → Nat :=
  let arg2 : BitVec 32 := BitVec.ofNat 32 (i 2).val
  let c1_i32 : BitVec 32 := 1#32
  let v0 : BitVec 32 := Scalar.shrui arg2 c1_i32
  let c512_i32_281 : BitVec 32 := 512#32
  let v794 : BitVec 32 := Scalar.muli v0 c512_i32_281
  let v795 : BitVec 32 := v794
  let v804 : Index := Scalar.indexCast v795
  let c768_285 : Index := 768#32
  ![v804.toNat, 768]
def k0_mult8 (i : grid0.Coords) : BitVec 32 :=
  let arg2 : BitVec 32 := BitVec.ofNat 32 (i 2).val
  let c1_i32 : BitVec 32 := 1#32
  let v0 : BitVec 32 := Scalar.shrui arg2 c1_i32
  let c512_i32_323 : BitVec 32 := 512#32
  let v910 : BitVec 32 := Scalar.muli v0 c512_i32_323
  v910
def k0_off8 (i : grid0.Coords) : Fin 2 → Nat :=
  let arg2 : BitVec 32 := BitVec.ofNat 32 (i 2).val
  let c1_i32 : BitVec 32 := 1#32
  let v0 : BitVec 32 := Scalar.shrui arg2 c1_i32
  let c512_i32_323 : BitVec 32 := 512#32
  let v910 : BitVec 32 := Scalar.muli v0 c512_i32_323
  let v911 : BitVec 32 := v910
  let v920 : Index := Scalar.indexCast v911
  let c896_327 : Index := 896#32
  ![v920.toNat, 896]
@[reducible] def k0_t1_loop (i : grid0.Coords) : Scf.Loop 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_337 : BitVec 32 := 1#32
  ⟨c0_i32_335, v946, c1_i32_337⟩
def k0_mult9 (i : grid0.Coords) (k0_t1 : Fin (k0_t1_loop i).trips) : BitVec 32 :=
  let c0_i32_335 : BitVec 32 := 0#32
  let c1_i32_337 : BitVec 32 := 1#32
  let arg8 : BitVec 32 := Scf.iv c0_i32_335 c1_i32_337 k0_t1
  let c512_i32_355 : BitVec 32 := 512#32
  let v989 : BitVec 32 := Scalar.muli arg8 c512_i32_355
  v989
def k0_off9 (i : grid0.Coords) (k0_t1 : Fin (k0_t1_loop i).trips) : Fin 2 → Nat :=
  let c0_i32_335 : BitVec 32 := 0#32
  let c1_i32_337 : BitVec 32 := 1#32
  let arg8 : BitVec 32 := Scf.iv c0_i32_335 c1_i32_337 k0_t1
  let c512_i32_355 : BitVec 32 := 512#32
  let v989 : BitVec 32 := Scalar.muli arg8 c512_i32_355
  let v990 : BitVec 32 := v989
  let v999 : Index := Scalar.indexCast v990
  let c0_359 : Index := 0#32
  ![v999.toNat, 0]
def k0_mult10 (i : grid0.Coords) (k0_t1 : Fin (k0_t1_loop i).trips) : BitVec 32 :=
  let c0_i32_335 : BitVec 32 := 0#32
  let c1_i32_337 : BitVec 32 := 1#32
  let arg8 : BitVec 32 := Scf.iv c0_i32_335 c1_i32_337 k0_t1
  let c512_i32_365 : BitVec 32 := 512#32
  let v1021 : BitVec 32 := Scalar.muli arg8 c512_i32_365
  v1021
def k0_off10 (i : grid0.Coords) (k0_t1 : Fin (k0_t1_loop i).trips) : Fin 2 → Nat :=
  let c0_i32_335 : BitVec 32 := 0#32
  let c1_i32_337 : BitVec 32 := 1#32
  let arg8 : BitVec 32 := Scf.iv c0_i32_335 c1_i32_337 k0_t1
  let c512_i32_365 : BitVec 32 := 512#32
  let v1021 : BitVec 32 := Scalar.muli arg8 c512_i32_365
  let v1022 : BitVec 32 := v1021
  let v1031 : Index := Scalar.indexCast v1022
  let c128_369 : Index := 128#32
  ![v1031.toNat, 128]
def k0_mult11 (i : grid0.Coords) (k0_t1 : Fin (k0_t1_loop i).trips) : BitVec 32 :=
  let c0_i32_335 : BitVec 32 := 0#32
  let c1_i32_337 : BitVec 32 := 1#32
  let arg8 : BitVec 32 := Scf.iv c0_i32_335 c1_i32_337 k0_t1
  let c512_i32_375 : BitVec 32 := 512#32
  let v1053 : BitVec 32 := Scalar.muli arg8 c512_i32_375
  v1053
def k0_off11 (i : grid0.Coords) (k0_t1 : Fin (k0_t1_loop i).trips) : Fin 2 → Nat :=
  let c0_i32_335 : BitVec 32 := 0#32
  let c1_i32_337 : BitVec 32 := 1#32
  let arg8 : BitVec 32 := Scf.iv c0_i32_335 c1_i32_337 k0_t1
  let c512_i32_375 : BitVec 32 := 512#32
  let v1053 : BitVec 32 := Scalar.muli arg8 c512_i32_375
  let v1054 : BitVec 32 := v1053
  let v1063 : Index := Scalar.indexCast v1054
  let c256_379 : Index := 256#32
  ![v1063.toNat, 256]
def k0_mult12 (i : grid0.Coords) (k0_t1 : Fin (k0_t1_loop i).trips) : BitVec 32 :=
  let c0_i32_335 : BitVec 32 := 0#32
  let c1_i32_337 : BitVec 32 := 1#32
  let arg8 : BitVec 32 := Scf.iv c0_i32_335 c1_i32_337 k0_t1
  let c512_i32_385 : BitVec 32 := 512#32
  let v1085 : BitVec 32 := Scalar.muli arg8 c512_i32_385
  v1085
def k0_off12 (i : grid0.Coords) (k0_t1 : Fin (k0_t1_loop i).trips) : Fin 2 → Nat :=
  let c0_i32_335 : BitVec 32 := 0#32
  let c1_i32_337 : BitVec 32 := 1#32
  let arg8 : BitVec 32 := Scf.iv c0_i32_335 c1_i32_337 k0_t1
  let c512_i32_385 : BitVec 32 := 512#32
  let v1085 : BitVec 32 := Scalar.muli arg8 c512_i32_385
  let v1086 : BitVec 32 := v1085
  let v1095 : Index := Scalar.indexCast v1086
  let c384_389 : Index := 384#32
  ![v1095.toNat, 384]
def k0_mult13 (i : grid0.Coords) (k0_t1 : Fin (k0_t1_loop i).trips) : BitVec 32 :=
  let c0_i32_335 : BitVec 32 := 0#32
  let c1_i32_337 : BitVec 32 := 1#32
  let arg8 : BitVec 32 := Scf.iv c0_i32_335 c1_i32_337 k0_t1
  let c512_i32_395 : BitVec 32 := 512#32
  let v1117 : BitVec 32 := Scalar.muli arg8 c512_i32_395
  v1117
def k0_off13 (i : grid0.Coords) (k0_t1 : Fin (k0_t1_loop i).trips) : Fin 2 → Nat :=
  let c0_i32_335 : BitVec 32 := 0#32
  let c1_i32_337 : BitVec 32 := 1#32
  let arg8 : BitVec 32 := Scf.iv c0_i32_335 c1_i32_337 k0_t1
  let c512_i32_395 : BitVec 32 := 512#32
  let v1117 : BitVec 32 := Scalar.muli arg8 c512_i32_395
  let v1118 : BitVec 32 := v1117
  let v1127 : Index := Scalar.indexCast v1118
  let c512_399 : Index := 512#32
  ![v1127.toNat, 512]
def k0_mult14 (i : grid0.Coords) (k0_t1 : Fin (k0_t1_loop i).trips) : BitVec 32 :=
  let c0_i32_335 : BitVec 32 := 0#32
  let c1_i32_337 : BitVec 32 := 1#32
  let arg8 : BitVec 32 := Scf.iv c0_i32_335 c1_i32_337 k0_t1
  let c512_i32_405 : BitVec 32 := 512#32
  let v1149 : BitVec 32 := Scalar.muli arg8 c512_i32_405
  v1149
def k0_off14 (i : grid0.Coords) (k0_t1 : Fin (k0_t1_loop i).trips) : Fin 2 → Nat :=
  let c0_i32_335 : BitVec 32 := 0#32
  let c1_i32_337 : BitVec 32 := 1#32
  let arg8 : BitVec 32 := Scf.iv c0_i32_335 c1_i32_337 k0_t1
  let c512_i32_405 : BitVec 32 := 512#32
  let v1149 : BitVec 32 := Scalar.muli arg8 c512_i32_405
  let v1150 : BitVec 32 := v1149
  let v1159 : Index := Scalar.indexCast v1150
  let c640_409 : Index := 640#32
  ![v1159.toNat, 640]
def k0_mult15 (i : grid0.Coords) (k0_t1 : Fin (k0_t1_loop i).trips) : BitVec 32 :=
  let c0_i32_335 : BitVec 32 := 0#32
  let c1_i32_337 : BitVec 32 := 1#32
  let arg8 : BitVec 32 := Scf.iv c0_i32_335 c1_i32_337 k0_t1
  let c512_i32_415 : BitVec 32 := 512#32
  let v1181 : BitVec 32 := Scalar.muli arg8 c512_i32_415
  v1181
def k0_off15 (i : grid0.Coords) (k0_t1 : Fin (k0_t1_loop i).trips) : Fin 2 → Nat :=
  let c0_i32_335 : BitVec 32 := 0#32
  let c1_i32_337 : BitVec 32 := 1#32
  let arg8 : BitVec 32 := Scf.iv c0_i32_335 c1_i32_337 k0_t1
  let c512_i32_415 : BitVec 32 := 512#32
  let v1181 : BitVec 32 := Scalar.muli arg8 c512_i32_415
  let v1182 : BitVec 32 := v1181
  let v1191 : Index := Scalar.indexCast v1182
  let c768_419 : Index := 768#32
  ![v1191.toNat, 768]
def k0_mult16 (i : grid0.Coords) (k0_t1 : Fin (k0_t1_loop i).trips) : BitVec 32 :=
  let c0_i32_335 : BitVec 32 := 0#32
  let c1_i32_337 : BitVec 32 := 1#32
  let arg8 : BitVec 32 := Scf.iv c0_i32_335 c1_i32_337 k0_t1
  let c512_i32_425 : BitVec 32 := 512#32
  let v1213 : BitVec 32 := Scalar.muli arg8 c512_i32_425
  v1213
def k0_off16 (i : grid0.Coords) (k0_t1 : Fin (k0_t1_loop i).trips) : Fin 2 → Nat :=
  let c0_i32_335 : BitVec 32 := 0#32
  let c1_i32_337 : BitVec 32 := 1#32
  let arg8 : BitVec 32 := Scf.iv c0_i32_335 c1_i32_337 k0_t1
  let c512_i32_425 : BitVec 32 := 512#32
  let v1213 : BitVec 32 := Scalar.muli arg8 c512_i32_425
  let v1214 : BitVec 32 := v1213
  let v1223 : Index := Scalar.indexCast v1214
  let c896_429 : Index := 896#32
  ![v1223.toNat, 896]
@[reducible] def k0_t2_loop (i : grid0.Coords) : Scf.Loop 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let v943 : BitVec 32 := Scalar.addi c0_i32_335 v942
  let c1_i32_338 : BitVec 32 := 1#32
  ⟨v946, v943, c1_i32_338⟩
def k0_mult17 (i : grid0.Coords) (k0_t2 : Fin (k0_t2_loop i).trips) : BitVec 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_355 : BitVec 32 := 512#32
  let v989 : BitVec 32 := Scalar.muli arg8 c512_i32_355
  v989
def k0_off17 (i : grid0.Coords) (k0_t2 : Fin (k0_t2_loop i).trips) : Fin 2 → Nat :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_355 : BitVec 32 := 512#32
  let v989 : BitVec 32 := Scalar.muli arg8 c512_i32_355
  let v990 : BitVec 32 := v989
  let v999 : Index := Scalar.indexCast v990
  let c0_359 : Index := 0#32
  ![v999.toNat, 0]
def k0_mult18 (i : grid0.Coords) (k0_t2 : Fin (k0_t2_loop i).trips) : BitVec 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_365 : BitVec 32 := 512#32
  let v1021 : BitVec 32 := Scalar.muli arg8 c512_i32_365
  v1021
def k0_off18 (i : grid0.Coords) (k0_t2 : Fin (k0_t2_loop i).trips) : Fin 2 → Nat :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_365 : BitVec 32 := 512#32
  let v1021 : BitVec 32 := Scalar.muli arg8 c512_i32_365
  let v1022 : BitVec 32 := v1021
  let v1031 : Index := Scalar.indexCast v1022
  let c128_369 : Index := 128#32
  ![v1031.toNat, 128]
def k0_mult19 (i : grid0.Coords) (k0_t2 : Fin (k0_t2_loop i).trips) : BitVec 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_375 : BitVec 32 := 512#32
  let v1053 : BitVec 32 := Scalar.muli arg8 c512_i32_375
  v1053
def k0_off19 (i : grid0.Coords) (k0_t2 : Fin (k0_t2_loop i).trips) : Fin 2 → Nat :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_375 : BitVec 32 := 512#32
  let v1053 : BitVec 32 := Scalar.muli arg8 c512_i32_375
  let v1054 : BitVec 32 := v1053
  let v1063 : Index := Scalar.indexCast v1054
  let c256_379 : Index := 256#32
  ![v1063.toNat, 256]
def k0_mult20 (i : grid0.Coords) (k0_t2 : Fin (k0_t2_loop i).trips) : BitVec 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_385 : BitVec 32 := 512#32
  let v1085 : BitVec 32 := Scalar.muli arg8 c512_i32_385
  v1085
def k0_off20 (i : grid0.Coords) (k0_t2 : Fin (k0_t2_loop i).trips) : Fin 2 → Nat :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_385 : BitVec 32 := 512#32
  let v1085 : BitVec 32 := Scalar.muli arg8 c512_i32_385
  let v1086 : BitVec 32 := v1085
  let v1095 : Index := Scalar.indexCast v1086
  let c384_389 : Index := 384#32
  ![v1095.toNat, 384]
def k0_mult21 (i : grid0.Coords) (k0_t2 : Fin (k0_t2_loop i).trips) : BitVec 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_395 : BitVec 32 := 512#32
  let v1117 : BitVec 32 := Scalar.muli arg8 c512_i32_395
  v1117
def k0_off21 (i : grid0.Coords) (k0_t2 : Fin (k0_t2_loop i).trips) : Fin 2 → Nat :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_395 : BitVec 32 := 512#32
  let v1117 : BitVec 32 := Scalar.muli arg8 c512_i32_395
  let v1118 : BitVec 32 := v1117
  let v1127 : Index := Scalar.indexCast v1118
  let c512_399 : Index := 512#32
  ![v1127.toNat, 512]
def k0_mult22 (i : grid0.Coords) (k0_t2 : Fin (k0_t2_loop i).trips) : BitVec 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_405 : BitVec 32 := 512#32
  let v1149 : BitVec 32 := Scalar.muli arg8 c512_i32_405
  v1149
def k0_off22 (i : grid0.Coords) (k0_t2 : Fin (k0_t2_loop i).trips) : Fin 2 → Nat :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_405 : BitVec 32 := 512#32
  let v1149 : BitVec 32 := Scalar.muli arg8 c512_i32_405
  let v1150 : BitVec 32 := v1149
  let v1159 : Index := Scalar.indexCast v1150
  let c640_409 : Index := 640#32
  ![v1159.toNat, 640]
def k0_mult23 (i : grid0.Coords) (k0_t2 : Fin (k0_t2_loop i).trips) : BitVec 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_415 : BitVec 32 := 512#32
  let v1181 : BitVec 32 := Scalar.muli arg8 c512_i32_415
  v1181
def k0_off23 (i : grid0.Coords) (k0_t2 : Fin (k0_t2_loop i).trips) : Fin 2 → Nat :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_415 : BitVec 32 := 512#32
  let v1181 : BitVec 32 := Scalar.muli arg8 c512_i32_415
  let v1182 : BitVec 32 := v1181
  let v1191 : Index := Scalar.indexCast v1182
  let c768_419 : Index := 768#32
  ![v1191.toNat, 768]
def k0_mult24 (i : grid0.Coords) (k0_t2 : Fin (k0_t2_loop i).trips) : BitVec 32 :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_425 : BitVec 32 := 512#32
  let v1213 : BitVec 32 := Scalar.muli arg8 c512_i32_425
  v1213
def k0_off24 (i : grid0.Coords) (k0_t2 : Fin (k0_t2_loop i).trips) : Fin 2 → Nat :=
  let c0_i32_335 : BitVec 32 := 0#32
  let arg2 : BitVec 32 := BitVec.ofNat 32 (i 2).val
  let c1_i32 : BitVec 32 := 1#32
  let v0 : BitVec 32 := Scalar.shrui arg2 c1_i32
  let v942 : BitVec 32 := Scalar.subi v0 c0_i32_335
  let c1_i32_336 : BitVec 32 := 1#32
  let v944 : BitVec 32 := Scalar.divsi v942 c1_i32_336
  let v945 : BitVec 32 := Scalar.muli v944 c1_i32_336
  let v946 : BitVec 32 := Scalar.addi c0_i32_335 v945
  let c1_i32_338 : BitVec 32 := 1#32
  let arg8 : BitVec 32 := Scf.iv v946 c1_i32_338 k0_t2
  let c512_i32_425 : BitVec 32 := 512#32
  let v1213 : BitVec 32 := Scalar.muli arg8 c512_i32_425
  let v1214 : BitVec 32 := v1213
  let v1223 : Index := Scalar.indexCast v1214
  let c896_429 : Index := 896#32
  ![v1223.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "scale_log2e" => some (((11863283 / 134217728) * (Real.log 2)⁻¹ : ℝ) : EReal)
  | _ => none
-- ==== ReferenceIdeal.lean ====
abbrev S8192x1024 : Shape := ⟨2, ![8192, 1024]⟩
abbrev S2x16x1024 : Shape := ⟨3, ![2, 16, 1024]⟩
abbrev S2x16x256x8x128 : Shape := ⟨5, ![2, 16, 256, 8, 128]⟩
abbrev S2x8x16x256x128 : Shape := ⟨5, ![2, 8, 16, 256, 128]⟩
abbrev S16x16x256x128 : Shape := ⟨4, ![16, 16, 256, 128]⟩
abbrev S2x16x8x128 : Shape := ⟨4, ![2, 16, 8, 128]⟩
abbrev S2x8x16x128 : Shape := ⟨4, ![2, 8, 16, 128]⟩
abbrev S16x16x128 : Shape := ⟨3, ![16, 16, 128]⟩
abbrev S16 : Shape := ⟨1, ![16]⟩
abbrev S16x16x256x16 : Shape := ⟨4, ![16, 16, 256, 16]⟩
abbrev S1x1x1x16 : Shape := ⟨4, ![1, 1, 1, 16]⟩
abbrev S1x16x1x1 : Shape := ⟨4, ![1, 16, 1, 1]⟩
abbrev S1x16x1x16 : Shape := ⟨4, ![1, 16, 1, 16]⟩
abbrev S_ : Shape := ⟨0, ![]⟩
abbrev S16x16x256x3 : Shape := ⟨4, ![16, 16, 256, 3]⟩
abbrev S3 : Shape := ⟨1, ![3]⟩
abbrev S1x3 : Shape := ⟨2, ![1, 3]⟩
abbrev S16x1 : Shape := ⟨2, ![16, 1]⟩
abbrev S16x3 : Shape := ⟨2, ![16, 3]⟩
abbrev S16x16x256x3x1 : Shape := ⟨5, ![16, 16, 256, 3, 1]⟩
abbrev S16x16x256x3x256x128 : Shape := ⟨6, ![16, 16, 256, 3, 256, 128]⟩
abbrev S16x16x256x3x256 : Shape := ⟨5, ![16, 16, 256, 3, 256]⟩
abbrev S1x16x1x3x1 : Shape := ⟨5, ![1, 16, 1, 3, 1]⟩
abbrev S16x16x256x768 : Shape := ⟨4, ![16, 16, 256, 768]⟩
abbrev S16x16x256x256 : Shape := ⟨4, ![16, 16, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S16x16x256x1024 : Shape := ⟨4, ![16, 16, 256, 1024]⟩
abbrev S16x16x256 : Shape := ⟨3, ![16, 16, 256]⟩
abbrev S16x16x256x1 : Shape := ⟨4, ![16, 16, 256, 1]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S2x16x1024, .f32⟩
  | .hbm, ⟨4, _⟩ => ⟨S2x16x256x8x128, .f32⟩
  | .hbm, ⟨5, _⟩ => ⟨S2x8x16x256x128, .f32⟩
  | .hbm, ⟨6, _⟩ => ⟨S16x16x256x128, .f32⟩
  | .hbm, ⟨7, _⟩ => ⟨S8192x1024, .f32⟩
  | .hbm, ⟨8, _⟩ => ⟨S2x16x256x8x128, .f32⟩
  | .hbm, ⟨9, _⟩ => ⟨S2x8x16x256x128, .f32⟩
  | .hbm, ⟨10, _⟩ => ⟨S16x16x256x128, .f32⟩
  | .hbm, ⟨11, _⟩ => ⟨S8192x1024, .f32⟩
  | .hbm, ⟨12, _⟩ => ⟨S2x16x256x8x128, .f32⟩
  | .hbm, ⟨13, _⟩ => ⟨S2x8x16x256x128, .f32⟩
  | .hbm, ⟨14, _⟩ => ⟨S16x16x256x128, .f32⟩
  | .hbm, ⟨15, _⟩ => ⟨S2x16x8x128, .f32⟩
  | .hbm, ⟨16, _⟩ => ⟨S2x8x16x128, .f32⟩
  | .hbm, ⟨17, _⟩ => ⟨S16x16x128, .f32⟩
  | .hbm, ⟨18, _⟩ => ⟨S16, .i32⟩
  | .hbm, ⟨19, _⟩ => ⟨S16x16x256x16, .f32⟩
  | .hbm, ⟨20, _⟩ => ⟨S1x1x1x16, .i32⟩
  | .hbm, ⟨21, _⟩ => ⟨S1x16x1x1, .i32⟩
  | .hbm, ⟨22, _⟩ => ⟨S1x16x1x16, .i32⟩
  | .hbm, ⟨23, _⟩ => ⟨S1x16x1x16, .i32⟩
  | .hbm, ⟨24, _⟩ => ⟨S1x16x1x16, .i1⟩
  | .hbm, ⟨25, _⟩ => ⟨S_, .f32⟩
  | .hbm, ⟨26, _⟩ => ⟨S_, .f32⟩
  | .hbm, ⟨27, _⟩ => ⟨S16x16x256x16, .i1⟩
  | .hbm, ⟨28, _⟩ => ⟨S16x16x256x16, .f32⟩
  | .hbm, ⟨29, _⟩ => ⟨S16x16x256x16, .f32⟩
  | .hbm, ⟨30, _⟩ => ⟨S16x16x256x3, .f32⟩
  | .hbm, ⟨31, _⟩ => ⟨S16x16x256x3, .i32⟩
  | .hbm, ⟨32, _⟩ => ⟨S3, .i32⟩
  | .hbm, ⟨33, _⟩ => ⟨S1x3, .i32⟩
  | .hbm, ⟨34, _⟩ => ⟨S16x1, .i32⟩
  | .hbm, ⟨35, _⟩ => ⟨S16x3, .i32⟩
  | .hbm, ⟨36, _⟩ => ⟨S16x3, .i32⟩
  | .hbm, ⟨37, _⟩ => ⟨S16x3, .i1⟩
  | .hbm, ⟨38, _⟩ => ⟨S_, .i32⟩
  | .hbm, ⟨39, _⟩ => ⟨S16x16x256x3, .i32⟩
  | .hbm, ⟨40, _⟩ => ⟨S16x16x256x3, .i1⟩
  | .hbm, ⟨41, _⟩ => ⟨S_, .i32⟩
  | .hbm, ⟨42, _⟩ => ⟨S16x16x256x3, .i32⟩
  | .hbm, ⟨43, _⟩ => ⟨S16x16x256x3, .i32⟩
  | .hbm, ⟨44, _⟩ => ⟨S16x16x256x3, .i32⟩
  | .hbm, ⟨45, _⟩ => ⟨S16x16x256x3x1, .i32⟩
  | .hbm, ⟨46, _⟩ => ⟨S16x16x256x3x256x128, .f32⟩
  | .hbm, ⟨47, _⟩ => ⟨S_, .i32⟩
  | .hbm, ⟨48, _⟩ => ⟨S16x16x256x3, .i32⟩
  | .hbm, ⟨49, _⟩ => ⟨S16x16x256x3, .i1⟩
  | .hbm, ⟨50, _⟩ => ⟨S_, .i32⟩
  | .hbm, ⟨51, _⟩ => ⟨S16x16x256x3, .i32⟩
  | .hbm, ⟨52, _⟩ => ⟨S16x16x256x3, .i32⟩
  | .hbm, ⟨53, _⟩ => ⟨S16x16x256x3, .i32⟩
  | .hbm, ⟨54, _⟩ => ⟨S16x16x256x3x1, .i32⟩
  | .hbm, ⟨55, _⟩ => ⟨S16x16x256x3x256x128, .f32⟩
  | .hbm, ⟨56, _⟩ => ⟨S16x16x256x3x256, .f32⟩
  | .hbm, ⟨57, _⟩ => ⟨S_, .f32⟩
  | .hbm, ⟨58, _⟩ => ⟨S16x16x256x3x256, .f32⟩
  | .hbm, ⟨59, _⟩ => ⟨S16x16x256x3x256, .f32⟩
  | .hbm, ⟨60, _⟩ => ⟨S1x16x1x3x1, .i1⟩
  | .hbm, ⟨61, _⟩ => ⟨S_, .f32⟩
  | .hbm, ⟨62, _⟩ => ⟨S_, .f32⟩
  | .hbm, ⟨63, _⟩ => ⟨S16x16x256x3x256, .i1⟩
  | .hbm, ⟨64, _⟩ => ⟨S16x16x256x3x256, .f32⟩
  | .hbm, ⟨65, _⟩ => ⟨S16x16x256x3x256, .f32⟩
  | .hbm, ⟨66, _⟩ => ⟨S16x16x256x768, .f32⟩
  | .hbm, ⟨67, _⟩ => ⟨S16x16x256x256, .f32⟩
  | .hbm, ⟨68, _⟩ => ⟨S_, .f32⟩
  | .hbm, ⟨69, _⟩ => ⟨S16x16x256x256, .f32⟩
  | .hbm, ⟨70, _⟩ => ⟨S16x16x256x256, .f32⟩
  | .hbm, ⟨71, _⟩ => ⟨S256, .i32⟩
  | .hbm, ⟨72, _⟩ => ⟨S1x256, .i32⟩
  | .hbm, ⟨73, _⟩ => ⟨S256x1, .i32⟩
  | .hbm, ⟨74, _⟩ => ⟨S256x256, .i32⟩
  | .hbm, ⟨75, _⟩ => ⟨S256x256, .i32⟩
  | .hbm, ⟨76, _⟩ => ⟨S256x256, .i1⟩
  | .hbm, ⟨77, _⟩ => ⟨S_, .f32⟩
  | .hbm, ⟨78, _⟩ => ⟨S_, .f32⟩
  | .hbm, ⟨79, _⟩ => ⟨S16x16x256x256, .i1⟩
  | .hbm, ⟨80, _⟩ => ⟨S16x16x256x256, .f32⟩
  | .hbm, ⟨81, _⟩ => ⟨S16x16x256x256, .f32⟩
  | .hbm, ⟨82, _⟩ => ⟨S16x16x256x1024, .f32⟩
  | .hbm, ⟨83, _⟩ => ⟨S_, .f32⟩
  | .hbm, ⟨84, _⟩ => ⟨S16x16x256, .f32⟩
  | .hbm, ⟨85, _⟩ => ⟨S_, .f32⟩
  | .hbm, ⟨86, _⟩ => ⟨S16x16x256, .f32⟩
  | .hbm, ⟨87, _⟩ => ⟨S16x16x256, .f32⟩
  | .hbm, ⟨88, _⟩ => ⟨S16x16x256x1, .f32⟩
  | .hbm, ⟨89, _⟩ => ⟨S16x16x256x1024, .f32⟩
  | .hbm, ⟨90, _⟩ => ⟨S16x16x256x1024, .f32⟩
  | .hbm, ⟨91, _⟩ => ⟨S16x16x256x1024, .f32⟩
  | .hbm, ⟨92, _⟩ => ⟨S_, .f32⟩
  | .hbm, ⟨93, _⟩ => ⟨S16x16x256, .f32⟩
  | .hbm, ⟨94, _⟩ => ⟨S16x16x256x1, .f32⟩
  | .hbm, ⟨95, _⟩ => ⟨S16x16x256x1024, .f32⟩
  | .hbm, ⟨96, _⟩ => ⟨S16x16x256x1024, .f32⟩
  | .hbm, ⟨97, _⟩ => ⟨S16x16x256x768, .f32⟩
  | .hbm, ⟨98, _⟩ => ⟨S16x16x256x3x256, .f32⟩
  | .hbm, ⟨99, _⟩ => ⟨S16x16x256x256, .f32⟩
  | .hbm, ⟨100, _⟩ => ⟨S16x16x256x128, .f32⟩
  | .hbm, ⟨101, _⟩ => ⟨S16x16x256x128, .f32⟩
  | .hbm, ⟨102, _⟩ => ⟨S16x16x256x128, .f32⟩
  | .hbm, ⟨103, _⟩ => ⟨S2x8x16x256x128, .f32⟩
  | .hbm, ⟨104, _⟩ => ⟨S2x16x256x8x128, .f32⟩
  | .hbm, ⟨105, _⟩ => ⟨S8192x1024, .f32⟩
  | .hbm, ⟨106, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_values : Ref sig .tc := ⟨.hbm, 30, rfl⟩
abbrev main_indices : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_c_0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_1 : Ref sig .tc := ⟨.hbm, 47, rfl⟩
abbrev main_v35 : Ref sig .tc := ⟨.hbm, 48, rfl⟩
abbrev main_v36 : Ref sig .tc := ⟨.hbm, 49, rfl⟩
abbrev main_c_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x4096 : Shape := ⟨2, ![2, 4096]⟩
abbrev S1x2048 : Shape := ⟨2, ![1, 2048]⟩
abbrev S1x2048x10240 : Shape := ⟨3, ![1, 2048, 10240]⟩
abbrev S8192x2048 : Shape := ⟨2, ![8192, 2048]⟩
abbrev S8192x1 : Shape := ⟨2, ![8192, 1]⟩
abbrev S2048 : Shape := ⟨1, ![2048]⟩
abbrev S2048x10240 : Shape := ⟨2, ![2048, 10240]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8192x10240 : Shape := ⟨2, ![8192, 10240]⟩
abbrev S8192x1024 : Shape := ⟨2, ![8192, 1024]⟩
abbrev S32x1x1024 : Shape := ⟨3, ![32, 1, 1024]⟩
abbrev S1024x2048 : Shape := ⟨2, ![1024, 2048]⟩
abbrev S2048x1024 : Shape := ⟨2, ![2048, 1024]⟩
abbrev S1024x1 : Shape := ⟨2, ![1024, 1]⟩
abbrev S1024x1024 : Shape := ⟨2, ![1024, 1024]⟩
abbrev S4x1x1024 : Shape := ⟨3, ![4, 1, 1024]⟩
abbrev S1024 : Shape := ⟨1, ![1024]⟩
abbrev S1024x128 : Shape := ⟨2, ![1024, 128]⟩
abbrev S256x128 : Shape := ⟨2, ![256, 128]⟩
abbrev S1x1x128 : Shape := ⟨3, ![1, 1, 128]⟩
abbrev S2x16x1024 : Shape := ⟨3, ![2, 16, 1024]⟩

abbrev nBuf : Space → Nat
  | .hbm => 36
  | .vmem => 19
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x10240, .f32⟩
  | .hbm, ⟨4, _⟩ => ⟨S8192x2048, .f32⟩
  | .hbm, ⟨5, _⟩ => ⟨S8192x1, .i32⟩
  | .hbm, ⟨6, _⟩ => ⟨S2048, .f32⟩
  | .hbm, ⟨7, _⟩ => ⟨S2048x10240, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S96, .f32⟩
  | .hbm, ⟨26, _⟩ => ⟨S128, .f32⟩
  | .hbm, ⟨27, _⟩ => ⟨S1x128, .f32⟩
  | .hbm, ⟨28, _⟩ => ⟨S1x2048, .f32⟩
  | .hbm, ⟨29, _⟩ => ⟨S2048x10240, .bf16⟩
  | .hbm, ⟨30, _⟩ => ⟨S8192x10240, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S32x1x1024, .f32⟩
  | .hbm, ⟨35, _⟩ => ⟨S2x16x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1, .i32⟩
  | .local _ .vmem, ⟨6, _⟩ => ⟨S1024x1, .i32⟩
  | .local _ .vmem, ⟨7, _⟩ => ⟨S1x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S4x1x1024, .f32⟩
  | .local _ .vmem, ⟨17, _⟩ => ⟨S4x1x1024, .f32⟩
  | .local _ .vmem, ⟨18, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c5_i32 : BitVec 32 := 5#32
  let v14 : BitVec 1 := Scalar.cmpi .eq arg1 c5_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S2x4096x2048 : Shape := ⟨3, ![2, 4096, 2048]⟩
abbrev S2x4096 : Shape := ⟨2, ![2, 4096]⟩
abbrev S1x2048 : Shape := ⟨2, ![1, 2048]⟩
abbrev S1x2048x10240 : Shape := ⟨3, ![1, 2048, 10240]⟩
abbrev S_ : Shape := ⟨0, ![]⟩
abbrev S2x4096x1 : Shape := ⟨3, ![2, 4096, 1]⟩
abbrev S2048 : Shape := ⟨1, ![2048]⟩
abbrev S1x1x2048 : Shape := ⟨3, ![1, 1, 2048]⟩
abbrev S2048x10240 : Shape := ⟨2, ![2048, 10240]⟩
abbrev S2x4096x10240 : Shape := ⟨3, ![2, 4096, 10240]⟩
abbrev S2x4096x1024 : Shape := ⟨3, ![2, 4096, 1024]⟩
abbrev S2x4096x8x128 : Shape := ⟨4, ![2, 4096, 8, 128]⟩
abbrev S16 : Shape := ⟨1, ![16]⟩
abbrev S1x1x16 : Shape := ⟨3, ![1, 1, 16]⟩
abbrev S2x4096x16 : Shape := ⟨3, ![2, 4096, 16]⟩
abbrev S2x4096x1x16 : Shape := ⟨4, ![2, 4096, 1, 16]⟩
abbrev S2x4096x8x16 : Shape := ⟨4, ![2, 4096, 8, 16]⟩
abbrev S2x4096x8x32 : Shape := ⟨4, ![2, 4096, 8, 32]⟩
abbrev S2x4096x8x96 : Shape := ⟨4, ![2, 4096, 8, 96]⟩
abbrev S8192x1024 : Shape := ⟨2, ![8192, 1024]⟩
abbrev S2x16x256x1024 : Shape := ⟨4, ![2, 16, 256, 1024]⟩
abbrev S2x16x1024 : Shape := ⟨3, ![2, 16, 1024]⟩
abbrev S8192x10240 : Shape := ⟨2, ![8192, 10240]⟩

abbrev nBuf : Space → Nat
  | .hbm => 122
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x10240, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x10240, .f32⟩
  | .hbm, ⟨22, _⟩ => ⟨S2x4096x10240, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x8x128, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S2x4096, .f32⟩
  | .hbm, ⟨44, _⟩ => ⟨S2x4096x1, .f32⟩
  | .hbm, ⟨45, _⟩ => ⟨S1x1x16, .f32⟩
  | .hbm, ⟨46, _⟩ => ⟨S2x4096x16, .f32⟩
  | .hbm, ⟨47, _⟩ => ⟨S2x4096x16, .f32⟩
  | .hbm, ⟨48, _⟩ => ⟨S2x4096x16, .f32⟩
  | .hbm, ⟨49, _⟩ => ⟨S2x4096x16, .f32⟩
  | .hbm, ⟨50, _⟩ => ⟨S2x4096x1x16, .f32⟩
  | .hbm, ⟨51, _⟩ => ⟨S2x4096x16, .f32⟩
  | .hbm, ⟨52, _⟩ => ⟨S2x4096x1x16, .f32⟩
  | .hbm, ⟨53, _⟩ => ⟨S2x4096x8x16, .f32⟩
  | .hbm, ⟨54, _⟩ => ⟨S2x4096x8x16, .f32⟩
  | .hbm, ⟨55, _⟩ => ⟨S2x4096x8x16, .f32⟩
  | .hbm, ⟨56, _⟩ => ⟨S2x4096x8x16, .f32⟩
  | .hbm, ⟨57, _⟩ => ⟨S2x4096x8x16, .f32⟩
  | .hbm, ⟨58, _⟩ => ⟨S2x4096x8x16, .f32⟩
  | .hbm, ⟨59, _⟩ => ⟨S2x4096x8x16, .f32⟩
  | .hbm, ⟨60, _⟩ => ⟨S2x4096x8x16, .f32⟩
  | .hbm, ⟨61, _⟩ => ⟨S2x4096x8x16, .f32⟩
  | .hbm, ⟨62, _⟩ => ⟨S2x4096x8x16, .f32⟩
  | .hbm, ⟨63, _⟩ => ⟨S2x4096x8x16, .f32⟩
  | .hbm, ⟨64, _⟩ => ⟨S2x4096x8x16, .f32⟩
  | .hbm, ⟨65, _⟩ => ⟨S2x4096x8x32, .f32⟩
  | .hbm, ⟨66, _⟩ => ⟨S2x4096x8x96, .f32⟩
  | .hbm, ⟨67, _⟩ => ⟨S2x4096x8x128, .f32⟩
  | .hbm, ⟨68, _⟩ => ⟨S8192x1024, .f32⟩
  | .hbm, ⟨69, _⟩ => ⟨S2x4096x8x128, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S_, .f32⟩
  | .hbm, ⟨84, _⟩ => ⟨S16, .f32⟩
  | .hbm, ⟨85, _⟩ => ⟨S16, .f32⟩
  | .hbm, ⟨86, _⟩ => ⟨S2x4096, .f32⟩
  | .hbm, ⟨87, _⟩ => ⟨S2x4096x1, .f32⟩
  | .hbm, ⟨88, _⟩ => ⟨S1x1x16, .f32⟩
  | .hbm, ⟨89, _⟩ => ⟨S2x4096x16, .f32⟩
  | .hbm, ⟨90, _⟩ => ⟨S2x4096x16, .f32⟩
  | .hbm, ⟨91, _⟩ => ⟨S2x4096x16, .f32⟩
  | .hbm, ⟨92, _⟩ => ⟨S2x4096x16, .f32⟩
  | .hbm, ⟨93, _⟩ => ⟨S2x4096x1x16, .f32⟩
  | .hbm, ⟨94, _⟩ => ⟨S2x4096x16, .f32⟩
  | .hbm, ⟨95, _⟩ => ⟨S2x4096x1x16, .f32⟩
  | .hbm, ⟨96, _⟩ => ⟨S2x4096x8x16, .f32⟩
  | .hbm, ⟨97, _⟩ => ⟨S2x4096x8x16, .f32⟩
  | .hbm, ⟨98, _⟩ => ⟨S2x4096x8x16, .f32⟩
  | .hbm, ⟨99, _⟩ => ⟨S2x4096x8x16, .f32⟩
  | .hbm, ⟨100, _⟩ => ⟨S2x4096x8x16, .f32⟩
  | .hbm, ⟨101, _⟩ => ⟨S2x4096x8x16, .f32⟩
  | .hbm, ⟨102, _⟩ => ⟨S2x4096x8x16, .f32⟩
  | .hbm, ⟨103, _⟩ => ⟨S2x4096x8x16, .f32⟩
  | .hbm, ⟨104, _⟩ => ⟨S2x4096x8x16, .f32⟩
  | .hbm, ⟨105, _⟩ => ⟨S2x4096x8x16, .f32⟩
  | .hbm, ⟨106, _⟩ => ⟨S2x4096x8x16, .f32⟩
  | .hbm, ⟨107, _⟩ => ⟨S2x4096x8x16, .f32⟩
  | .hbm, ⟨108, _⟩ => ⟨S2x4096x8x32, .f32⟩
  | .hbm, ⟨109, _⟩ => ⟨S2x4096x8x96, .f32⟩
  | .hbm, ⟨110, _⟩ => ⟨S2x4096x8x128, .f32⟩
  | .hbm, ⟨111, _⟩ => ⟨S8192x1024, .f32⟩
  | .hbm, ⟨112, _⟩ => ⟨S2x16x256x1024, .f32⟩
  | .hbm, ⟨113, _⟩ => ⟨S_, .f32⟩
  | .hbm, ⟨114, _⟩ => ⟨S2x16x1024, .f32⟩
  | .hbm, ⟨115, _⟩ => ⟨S_, .f32⟩
  | .hbm, ⟨116, _⟩ => ⟨S2x16x1024, .f32⟩
  | .hbm, ⟨117, _⟩ => ⟨S2x16x1024, .f32⟩
  | .hbm, ⟨118, _⟩ => ⟨S8192x10240, .f32⟩
  | .hbm, ⟨119, _⟩ => ⟨S8192x1024, .bf16⟩
  | .hbm, ⟨120, _⟩ => ⟨S8192x1024, .f32⟩
  | .hbm, ⟨121, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_v65 : Ref sig .tc := ⟨.hbm, 81, rfl⟩
abbrev main_v66 : Ref sig .tc := ⟨.hbm, 82, rfl⟩
abbrev main_cst_11 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_12 : Ref sig .tc := ⟨.hbm, 113, rfl⟩
abbrev main_v96 : Ref sig .tc := ⟨.hbm, 114, rfl⟩
abbrev main_cst_13 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩

abbrev nD : Nat := 1
abbrev τ : Topo := Topo.v7x

variable {F : FTy → Type} [FloatOps F]
-- ==== Kernel3.lean ====
abbrev S8192x10240 : Shape := ⟨2, ![8192, 10240]⟩
abbrev S8192x1024 : Shape := ⟨2, ![8192, 1024]⟩
abbrev S2x4096x2048 : Shape := ⟨3, ![2, 4096, 2048]⟩
abbrev S1x4096 : Shape := ⟨2, ![1, 4096]⟩
abbrev S1x3x1024 : Shape := ⟨3, ![1, 3, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S4096 : Shape := ⟨1, ![4096]⟩
abbrev S3x1024 : Shape := ⟨2, ![3, 1024]⟩
abbrev S1024x2048 : Shape := ⟨2, ![1024, 2048]⟩
abbrev S2048x2048 : Shape := ⟨2, ![2048, 2048]⟩
abbrev S2048 : Shape := ⟨1, ![2048]⟩
abbrev S2048x8192 : Shape := ⟨2, ![2048, 8192]⟩
abbrev S256x1024 : Shape := ⟨2, ![256, 1024]⟩
abbrev S8x1024 : Shape := ⟨2, ![8, 1024]⟩
abbrev S256x2048 : Shape := ⟨2, ![256, 2048]⟩
abbrev S2048x256 : Shape := ⟨2, ![2048, 256]⟩
abbrev S264x1024 : Shape := ⟨2, ![264, 1024]⟩
abbrev S1x1024 : Shape := ⟨2, ![1, 1024]⟩
abbrev S256 : Shape := ⟨1, ![256]⟩
abbrev S256x1 : Shape := ⟨2, ![256, 1]⟩

abbrev nBuf : Space → Nat
  | .hbm => 24
  | .vmem => 31
  | .smem => 0
  | _ => 0

abbrev bufTy : (tb : Table) → Fin (tcTables nBuf tb) → BufTy
  | .hbm, ⟨0, _⟩ => ⟨S8192x10240, .f32⟩
  | .hbm, ⟨1, _⟩ => ⟨S8192x1024, .bf16⟩
  | .hbm, ⟨2, _⟩ => ⟨S2x4096x2048, .f32⟩
  | .hbm, ⟨3, _⟩ => ⟨S1x4096, .f32⟩
  | .hbm, ⟨4, _⟩ => ⟨S1x3x1024, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S8192x2048, .f32⟩
  | .hbm, ⟨10, _⟩ => ⟨S4096, .f32⟩
  | .hbm, ⟨11, _⟩ => ⟨S3x1024, .f32⟩
  | .hbm, ⟨12, _⟩ => ⟨S1024x2048, .f32⟩
  | .hbm, ⟨13, _⟩ => ⟨S1024x2048, .f32⟩
  | .hbm, ⟨14, _⟩ => ⟨S2048x2048, .f32⟩
  | .hbm, ⟨15, _⟩ => ⟨S2048, .f32⟩
  | .hbm, ⟨16, _⟩ => ⟨S1x4096, .f32⟩
  | .hbm, ⟨17, _⟩ => ⟨S1024x2048, .bf16⟩
  | .hbm, ⟨18, _⟩ => ⟨S1024x2048, .bf16⟩
  | .hbm, ⟨19, _⟩ => ⟨S2048x2048, .bf16⟩
  | .hbm, ⟨20, _⟩ => ⟨S1x2048, .f32⟩
  | .hbm, ⟨21, _⟩ => ⟨S8192x2048, .f32⟩
  | .hbm, ⟨22, _⟩ => ⟨S8192x2048, .bf16⟩
  | .hbm, ⟨23, _⟩ => ⟨S2048x8192, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x1024, .bf16⟩
  | .local _ .vmem, ⟨15, _⟩ => ⟨S256x1024, .bf16⟩
  | .local _ .vmem, ⟨16, _⟩ => ⟨S256x2048, .f32⟩
  | .local _ .vmem, ⟨17, _⟩ => ⟨S256x2048, .f32⟩
  | .local _ .vmem, ⟨18, _⟩ => ⟨S3x1024, .f32⟩
  | .local _ .vmem, ⟨19, _⟩ => ⟨S1x4096, .f32⟩
  | .local _ .vmem, ⟨20, _⟩ => ⟨S1024x2048, .bf16⟩
  | .local _ .vmem, ⟨21, _⟩ => ⟨S1024x2048, .bf16⟩
  | .local _ .vmem, ⟨22, _⟩ => ⟨S2048x2048, .bf16⟩
  | .local _ .vmem, ⟨23, _⟩ => ⟨S1x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .bf16⟩
  | .local _ .vmem, ⟨27, _⟩ => ⟨S256x2048, .bf16⟩
  | .local _ .vmem, ⟨28, _⟩ => ⟨S2048x256, .bf16⟩
  | .local _ .vmem, ⟨29, _⟩ => ⟨S2048x256, .bf16⟩
  | .local _ .vmem, ⟨30, _⟩ => ⟨S264x1024, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S8192x10240 : Shape := ⟨2, ![8192, 10240]⟩
abbrev S8192x1024 : Shape := ⟨2, ![8192, 1024]⟩
abbrev S2x4096x2048 : Shape := ⟨3, ![2, 4096, 2048]⟩
abbrev S1x4096 : Shape := ⟨2, ![1, 4096]⟩
abbrev S1x3x1024 : Shape := ⟨3, ![1, 3, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S2x4096x10240 : Shape := ⟨3, ![2, 4096, 10240]⟩
abbrev S2x4096x1024 : Shape := ⟨3, ![2, 4096, 1024]⟩
abbrev S_ : Shape := ⟨0, ![]⟩
abbrev S2x4098x1024 : Shape := ⟨3, ![2, 4098, 1024]⟩
abbrev S1x1x1024 : Shape := ⟨3, ![1, 1, 1024]⟩
abbrev S1024 : Shape := ⟨1, ![1024]⟩
abbrev S1024x2048 : Shape := ⟨2, ![1024, 2048]⟩
abbrev S4096 : Shape := ⟨1, ![4096]⟩
abbrev S2048 : Shape := ⟨1, ![2048]⟩
abbrev S1x1x2048 : Shape := ⟨3, ![1, 1, 2048]⟩
abbrev S2048x2048 : Shape := ⟨2, ![2048, 2048]⟩
abbrev S2x4096 : Shape := ⟨2, ![2, 4096]⟩
abbrev S2x4096x1 : Shape := ⟨3, ![2, 4096, 1]⟩
abbrev S8192x2048 : Shape := ⟨2, ![8192, 2048]⟩
abbrev S2048x8192 : Shape := ⟨2, ![2048, 8192]⟩

abbrev nBuf : Space → Nat
  | .hbm => 99
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S8192x1024, .bf16⟩
  | .hbm, ⟨2, _⟩ => ⟨S2x4096x2048, .f32⟩
  | .hbm, ⟨3, _⟩ => ⟨S1x4096, .f32⟩
  | .hbm, ⟨4, _⟩ => ⟨S1x3x1024, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S2x4096x10240, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S2x4096x2048, .f32⟩
  | .hbm, ⟨14, _⟩ => ⟨S2x4096x2048, .f32⟩
  | .hbm, ⟨15, _⟩ => ⟨S2x4096x1024, .f32⟩
  | .hbm, ⟨16, _⟩ => ⟨S_, .i32⟩
  | .hbm, ⟨17, _⟩ => ⟨S_, .f32⟩
  | .hbm, ⟨18, _⟩ => ⟨S2x4098x1024, .f32⟩
  | .hbm, ⟨19, _⟩ => ⟨S1x1x1024, .f32⟩
  | .hbm, ⟨20, _⟩ => ⟨S1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S1x1x1024, .f32⟩
  | .hbm, ⟨26, _⟩ => ⟨S1024, .f32⟩
  | .hbm, ⟨27, _⟩ => ⟨S2x4096x1024, .f32⟩
  | .hbm, ⟨28, _⟩ => ⟨S1x1x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S1x1x1024, .f32⟩
  | .hbm, ⟨33, _⟩ => ⟨S1024, .f32⟩
  | .hbm, ⟨34, _⟩ => ⟨S2x4096x1024, .f32⟩
  | .hbm, ⟨35, _⟩ => ⟨S1x1x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S1024x2048, .f32⟩
  | .hbm, ⟨41, _⟩ => ⟨S2x4096x2048, .f32⟩
  | .hbm, ⟨42, _⟩ => ⟨S8192x1024, .f32⟩
  | .hbm, ⟨43, _⟩ => ⟨S2x4096x1024, .f32⟩
  | .hbm, ⟨44, _⟩ => ⟨S1024x2048, .f32⟩
  | .hbm, ⟨45, _⟩ => ⟨S2x4096x2048, .f32⟩
  | .hbm, ⟨46, _⟩ => ⟨S4096, .f32⟩
  | .hbm, ⟨47, _⟩ => ⟨S2048, .f32⟩
  | .hbm, ⟨48, _⟩ => ⟨S1x1x2048, .f32⟩
  | .hbm, ⟨49, _⟩ => ⟨S2x4096x2048, .f32⟩
  | .hbm, ⟨50, _⟩ => ⟨S2x4096x2048, .f32⟩
  | .hbm, ⟨51, _⟩ => ⟨S2x4096x2048, .f32⟩
  | .hbm, ⟨52, _⟩ => ⟨S2x4096x2048, .f32⟩
  | .hbm, ⟨53, _⟩ => ⟨S_, .f32⟩
  | .hbm, ⟨54, _⟩ => ⟨S2x4096x2048, .f32⟩
  | .hbm, ⟨55, _⟩ => ⟨S2x4096x2048, .f32⟩
  | .hbm, ⟨56, _⟩ => ⟨S_, .f32⟩
  | .hbm, ⟨57, _⟩ => ⟨S2x4096x2048, .f32⟩
  | .hbm, ⟨58, _⟩ => ⟨S2x4096x2048, .f32⟩
  | .hbm, ⟨59, _⟩ => ⟨S2048, .f32⟩
  | .hbm, ⟨60, _⟩ => ⟨S1x1x2048, .f32⟩
  | .hbm, ⟨61, _⟩ => ⟨S2x4096x2048, .f32⟩
  | .hbm, ⟨62, _⟩ => ⟨S2x4096x2048, .f32⟩
  | .hbm, ⟨63, _⟩ => ⟨S2x4096x2048, .f32⟩
  | .hbm, ⟨64, _⟩ => ⟨S2x4096x2048, .f32⟩
  | .hbm, ⟨65, _⟩ => ⟨S_, .f32⟩
  | .hbm, ⟨66, _⟩ => ⟨S2x4096x2048, .f32⟩
  | .hbm, ⟨67, _⟩ => ⟨S2x4096x2048, .f32⟩
  | .hbm, ⟨68, _⟩ => ⟨S_, .f32⟩
  | .hbm, ⟨69, _⟩ => ⟨S2x4096x2048, .f32⟩
  | .hbm, ⟨70, _⟩ => ⟨S2x4096x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | .hbm, ⟨74, _⟩ => ⟨S2048x2048, .f32⟩
  | .hbm, ⟨75, _⟩ => ⟨S2x4096x2048, .f32⟩
  | .hbm, ⟨76, _⟩ => ⟨S2x4096x2048, .f32⟩
  | .hbm, ⟨77, _⟩ => ⟨S2x4096x2048, .f32⟩
  | .hbm, ⟨78, _⟩ => ⟨S_, .f32⟩
  | .hbm, ⟨79, _⟩ => ⟨S2x4096, .f32⟩
  | .hbm, ⟨80, _⟩ => ⟨S2x4096x1, .f32⟩
  | .hbm, ⟨81, _⟩ => ⟨S_, .f32⟩
  | .hbm, ⟨82, _⟩ => ⟨S2x4096x1, .f32⟩
  | .hbm, ⟨83, _⟩ => ⟨S2x4096x1, .f32⟩
  | .hbm, ⟨84, _⟩ => ⟨S_, .f32⟩
  | .hbm, ⟨85, _⟩ => ⟨S2x4096x1, .f32⟩
  | .hbm, ⟨86, _⟩ => ⟨S2x4096x1, .f32⟩
  | .hbm, ⟨87, _⟩ => ⟨S2x4096x1, .f32⟩
  | .hbm, ⟨88, _⟩ => ⟨S2x4096x2048, .f32⟩
  | .hbm, ⟨89, _⟩ => ⟨S2x4096x2048, .f32⟩
  | .hbm, ⟨90, _⟩ => ⟨S2048, .f32⟩
  | .hbm, ⟨91, _⟩ => ⟨S1x1x2048, .f32⟩
  | .hbm, ⟨92, _⟩ => ⟨S2x4096x2048, .f32⟩
  | .hbm, ⟨93, _⟩ => ⟨S2x4096x2048, .f32⟩
  | .hbm, ⟨94, _⟩ => ⟨S8192x2048, .f32⟩
  | .hbm, ⟨95, _⟩ => ⟨S8192x2048, .f32⟩
  | .hbm, ⟨96, _⟩ => ⟨S8192x2048, .bf16⟩
  | .hbm, ⟨97, _⟩ => ⟨S2048x8192, .f32⟩
  | .hbm, ⟨98, _⟩ => ⟨S2048x8192, .bf16⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst : Ref sig .tc := ⟨.hbm, 53, rfl⟩
abbrev main_v42 : Ref sig .tc := ⟨.hbm, 54, rfl⟩
abbrev main_v43 : Ref sig .tc := ⟨.hbm, 55, rfl⟩
abbrev main_cst_0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_3 : Ref sig .tc := ⟨.hbm, 78, rfl⟩
abbrev main_v63 : Ref sig .tc := ⟨.hbm, 79, rfl⟩
abbrev main_v64 : Ref sig .tc := ⟨.hbm, 80, rfl⟩
abbrev main_cst_4 : Ref sig .tc := ⟨.hbm, 81, rfl⟩
abbrev main_v65 : Ref sig .tc := ⟨.hbm, 82, rfl⟩
abbrev main_v66 : Ref sig .tc := ⟨.hbm, 83, rfl⟩
abbrev main_cst_5 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== Proof.InPoints.lean ====
module

public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
# The input projection: which grid point does what

The grid is 8 row blocks by 10 column blocks, the column block running fastest.
At column block 0 the kernel normalizes the rows into its scratch; at 3, 4 and 5 it stores queries, keys with their means, values.
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The kernel is at column block `j`: the printed test of its conditional. -/
def At (j : ℕ) (i : grid0.Coords) : Prop :=
  (Scalar.cmpi .ne (Scalar.extui (Scalar.cmpi .eq (BitVec.ofNat 32 (i 1).val) (BitVec.ofNat 32 j))) 0#32) = 1#1

/-- The test holds exactly at the points whose column block is `j`. -/
theorem at_iff (j : ℕ) (hj : j < 10) (t : Fin cfg0.N) : At j (grid0.coords t) ↔ t.val % 10 = j := by
  have ht : t.val < 80 := Nat.lt_of_lt_of_eq t.isLt N_0
  have e1 : (grid0.coords t 1).val = t.val / 1 % 10 := Pipeline.Grid.coords_val t 1 (by decide) rfl
  unfold At
  rw [e1, Nat.div_one]
  have hm : t.val % 10 < 10 := Nat.mod_lt _ (by omega)
  generalize t.val % 10 = r at hm
  exact (by decide : ∀ j r : Fin 10, (Scalar.cmpi .ne (Scalar.extui (Scalar.cmpi .eq (BitVec.ofNat 32 r.val) (BitVec.ofNat 32 j.val))) 0#32) = 1#1 ↔ r.val = j.val) ⟨j, hj⟩ ⟨r, hm⟩

end Cert.Kernel2Ideal.Inproj
-- ==== Proof.InRunA.lean ====
module

public import proofs.«01_k».proof.Proof.InPoints

/-!
# The input projection's body, run
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- At column block 0: the rows are normalized into the scratch, and a block of the projection is stored. The lists are what is stored, found by running the body. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : At 0 i) (hc3 : ¬At 3 i) (hc4 : ¬At 4 i) (hc5 : ¬At 5 i)
    (x0 : Vec F S1024x2048 .f32) (x1 : Vec F S1x2048 .f32) (x2 : Vec F S2048x1024 .bf16) (x3 : Vec F S1024x1 .i32) (x4 : Vec F S1x128 .f32) :
    Σ' (L5 : List (View.Piece (Elt F) S1024x1024 .f32)), { LS : List (View.Piece (Elt F) S1024x2048 .bf16) //
      ∀ (xi6 : Vec F S1024x1024 .f32) (xi7 : Vec F S1024x1024 .bf16) (xi8 : Vec F S1024x1024 .bf16) (xi9 : Vec F S4x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xi8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K } := by
  refine ⟨?_, ?_, fun xi6 xi7 xi8 xi9 E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8; obtain rfl := harg11.eq_unread hf9
    sl_exec (disch := first | sl_exact hc0 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS

end Cert.Kernel2Ideal.Inproj
-- ==== Proof.InRunB.lean ====
module

public import proofs.«01_k».proof.Proof.InRunA

/-!
# The input projection's body, run
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- At a column block with nothing else to do: a block of the projection is stored. The lists are what is stored, found by running the body. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : ¬At 4 i) (hc5 : ¬At 5 i)
    (x0 : Vec F S1024x2048 .f32) (x1 : Vec F S1x2048 .f32) (x2 : Vec F S2048x1024 .bf16) (x3 : Vec F S1024x1 .i32) (x4 : Vec F S1x128 .f32) (xs : Vec F S1024x2048 .bf16) :
    { L5 : List (View.Piece (Elt F) S1024x1024 .f32) //
      ∀ (xi6 : Vec F S1024x1024 .f32) (xi7 : Vec F S1024x1024 .bf16) (xi8 : Vec F S1024x1024 .bf16) (xi9 : Vec F S4x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xs) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K } := by
  refine ⟨?_, fun xi6 xi7 xi8 xi9 E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8; obtain rfl := harg11.eq_unread hf9; obtain rfl := harg12.eq_unread hfs
    sl_exec (disch := first | sl_exact hc0 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact HS

end Cert.Kernel2Ideal.Inproj
-- ==== Proof.InRunC.lean ====
module

public import proofs.«01_k».proof.Proof.InRunB

/-!
# The input projection's body, run
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- At column block 3: the projection is stored, and the queries. The lists are what is stored, found by running the body. -/
noncomputable def runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : At 3 i) (hc4 : ¬At 4 i) (hc5 : ¬At 5 i)
    (x0 : Vec F S1024x2048 .f32) (x1 : Vec F S1x2048 .f32) (x2 : Vec F S2048x1024 .bf16) (x3 : Vec F S1024x1 .i32) (x4 : Vec F S1x128 .f32) (xs : Vec F S1024x2048 .bf16) :
    Σ' (L5 : List (View.Piece (Elt F) S1024x1024 .f32)), { L6 : List (View.Piece (Elt F) S1024x1024 .f32) //
      ∀ (xi7 : Vec F S1024x1024 .bf16) (xi8 : Vec F S1024x1024 .bf16) (xi9 : Vec F S4x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ owns (c : Thread nD τ) arg12 fullShare xs) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K } := by
  refine ⟨?_, ?_, fun xi7 xi8 xi9 E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8; obtain rfl := harg11.eq_unread hf9; obtain rfl := harg12.eq_unread hfs
    sl_exec (disch := first | sl_exact hc0 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact HS

end Cert.Kernel2Ideal.Inproj
-- ==== Proof.InRunD.lean ====
module

public import proofs.«01_k».proof.Proof.InRunC

/-!
# The input projection's body, run
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- At column block 4: the projection is stored, the keys, and the mean keys. The lists are what is stored, found by running the body. -/
noncomputable def runD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : At 4 i) (hc5 : ¬At 5 i)
    (x0 : Vec F S1024x2048 .f32) (x1 : Vec F S1x2048 .f32) (x2 : Vec F S2048x1024 .bf16) (x3 : Vec F S1024x1 .i32) (x4 : Vec F S1x128 .f32) (xs : Vec F S1024x2048 .bf16) :
    Σ' (L5 : List (View.Piece (Elt F) S1024x1024 .f32)), Σ' (L7 : List (View.Piece (Elt F) S1024x1024 .bf16)), { L9 : List (View.Piece (Elt F) S4x1x1024 .f32) //
      ∀ (xi6 : Vec F S1024x1024 .f32) (xi8 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ owns (c : Thread nD τ) arg10 fullShare xi8 ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f L9) ∗ owns (c : Thread nD τ) arg12 fullShare xs) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K } := by
  refine ⟨?_, ?_, ?_, fun xi6 xi8 E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, ⟨%d9, %f9, -, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hf8; obtain rfl := harg12.eq_unread hfs
    sl_exec (disch := first | sl_exact hc0 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; iexact H7
    isplitl [H8]
    · iexists _; isplitr; · ipureintro; exact harg10.read_unread _
      iexact H8
    isplitl [H9]
    · iexists _; iexact H9
    iexists _; isplitr; · ipureintro; exact harg12.read_unread _
    iexact HS

end Cert.Kernel2Ideal.Inproj
-- ==== Proof.InRunE.lean ====
module

public import proofs.«01_k».proof.Proof.InRunD

/-!
# The input projection's body, run
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- At column block 5: the projection is stored, and the values. The lists are what is stored, found by running the body. -/
noncomputable def runE (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : ¬At 4 i) (hc5 : At 5 i)
    (x0 : Vec F S1024x2048 .f32) (x1 : Vec F S1x2048 .f32) (x2 : Vec F S2048x1024 .bf16) (x3 : Vec F S1024x1 .i32) (x4 : Vec F S1x128 .f32) (xs : Vec F S1024x2048 .bf16) :
    Σ' (L5 : List (View.Piece (Elt F) S1024x1024 .f32)), { L8 : List (View.Piece (Elt F) S1024x1024 .bf16) //
      ∀ (xi6 : Vec F S1024x1024 .f32) (xi7 : Vec F S1024x1024 .bf16) (xi9 : Vec F S4x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ owns (c : Thread nD τ) arg11 fullShare xi9 ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f L8) ∗ owns (c : Thread nD τ) arg11 fullShare xi9 ∗ owns (c : Thread nD τ) arg12 fullShare xs) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K } := by
  refine ⟨?_, ?_, fun xi6 xi7 xi9 E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg11.eq_unread hf9; obtain rfl := harg12.eq_unread hfs
    sl_exec (disch := first | sl_exact hc0 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; isplitr; · ipureintro; exact harg11.read_unread _
      iexact H9
    iexists _; isplitr; · ipureintro; exact harg12.read_unread _
    iexact HS

end Cert.Kernel2Ideal.Inproj
-- ==== Proof.InVals.lean ====
module

public import proofs.«01_k».proof.Proof.InPoints
public import Idealize.ShloMosaic.Lib.Pipeline.ValueKit
public import Idealize.ShloMosaic.Lib.Pointwise
public import Idealize.ShloMosaic.Lib.WholeRead

/-!
# What the input projection's body computes, as functions of its blocks

`hBlk` is the normalized rows, `oBlk` a block of the projection, `qBlk` and `kBlk` the turned queries and keys,
`vBlk` the values, `meanBlk` the mean keys of the four blocks of 256 rows.
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
open Idealize.ShloMosaic.Pointwise

/-- The normalized rows. -/
def hBlk (x0 : Vec F S1024x2048 .f32) (x1 : Vec F S1x2048 .f32) : Vec F S1024x2048 .bf16 := k0_pay1 x0 x1

/-- A block of the projection. -/
def oBlk (xs : Vec F S1024x2048 .bf16) (x2 : Vec F S2048x1024 .bf16) : Vec F S1024x1024 .f32 := k0_pay2 xs x2

/-- The columns of one head. -/
def headCols (o : Vec F S1024x1024 .f32) (h : Fin 8) : Vec F S1024x128 .f32 :=
  fun j => o (ix2 (n0 := 1024) (n1 := 1024) (j 0) ⟨128 * h.val + (j 1).val, by have := h.isLt; have h1 : (j 1).val < 128 := (j 1).isLt; omega⟩)

/-- One head's columns, turned by the positions. -/
def turned (x3 : Vec F S1024x1 .i32) (x4 : Vec F S1x128 .f32) (a : Vec F S1024x128 .f32) : Vec F S1024x128 .f32 :=
  k0_pay3 (k0_pay10 x3 x4) (k0_pay12 x3 x4) (k0_pay13 x3 x4) a

/-- The mean of 256 of the rows, from the stated offset. -/
def rowsMean (a : Vec F S1024x128 .f32) (off : Fin 2 → Nat) (hs : S1024x128.Slices off S256x128) : FVec F S1x1x128 .f32 :=
  k0_pay6 (extractStridedSlice S256x128 off a hs)

/-- The mean of the `b`-th 256 rows. -/
def blockMean (a : Vec F S1024x128 .f32) (b : Fin 4) : FVec F S1x1x128 .f32 :=
  match b with
  | 0 => rowsMean a ![0, 0] slices_S1024x128_o0_0_S256x128
  | 1 => rowsMean a ![256, 0] slices_S1024x128_o256_0_S256x128
  | 2 => rowsMean a ![512, 0] slices_S1024x128_o512_0_S256x128
  | 3 => rowsMean a ![768, 0] slices_S1024x128_o768_0_S256x128

/-- Eight stores, one for each head's columns. -/
def headPieces {e : EltTy} (out : Fin 8 → Vec F S1024x128 e) : List (View.Piece (Elt F) S1024x1024 e) :=
  [⟨Rect.unit (s := S1024x1024) ![0, 896] S1024x128.size inb_S1024x1024_S1024x128_0_896, out 7⟩, ⟨Rect.unit (s := S1024x1024) ![0, 768] S1024x128.size inb_S1024x1024_S1024x128_0_768, out 6⟩, ⟨Rect.unit (s := S1024x1024) ![0, 640] S1024x128.size inb_S1024x1024_S1024x128_0_640, out 5⟩, ⟨Rect.unit (s := S1024x1024) ![0, 512] S1024x128.size inb_S1024x1024_S1024x128_0_512, out 4⟩, ⟨Rect.unit (s := S1024x1024) ![0, 384] S1024x128.size inb_S1024x1024_S1024x128_0_384, out 3⟩, ⟨Rect.unit (s := S1024x1024) ![0, 256] S1024x128.size inb_S1024x1024_S1024x128_0_256, out 2⟩, ⟨Rect.unit (s := S1024x1024) ![0, 128] S1024x128.size inb_S1024x1024_S1024x128_0_128, out 1⟩, ⟨Rect.unit (s := S1024x1024) ![0, 0] S1024x128.size inb_S1024x1024_S1024x128_0_0, out 0⟩]

/-- Thirty-two stores of means, one for each head and each 256 rows. -/
def meanPieces (out : Fin 8 → Fin 4 → Vec F S1x1x128 .f32) : List (View.Piece (Elt F) S4x1x1024 .f32) :=
  [⟨Rect.unit (s := S4x1x1024) ![3, 0, 896] S1x1x128.size inb_S4x1x1024_S1x1x128_3_0_896, out 7 3⟩, ⟨Rect.unit (s := S4x1x1024) ![2, 0, 896] S1x1x128.size inb_S4x1x1024_S1x1x128_2_0_896, out 7 2⟩, ⟨Rect.unit (s := S4x1x1024) ![1, 0, 896] S1x1x128.size inb_S4x1x1024_S1x1x128_1_0_896, out 7 1⟩, ⟨Rect.unit (s := S4x1x1024) ![0, 0, 896] S1x1x128.size inb_S4x1x1024_S1x1x128_0_0_896, out 7 0⟩, ⟨Rect.unit (s := S4x1x1024) ![3, 0, 768] S1x1x128.size inb_S4x1x1024_S1x1x128_3_0_768, out 6 3⟩, ⟨Rect.unit (s := S4x1x1024) ![2, 0, 768] S1x1x128.size inb_S4x1x1024_S1x1x128_2_0_768, out 6 2⟩, ⟨Rect.unit (s := S4x1x1024) ![1, 0, 768] S1x1x128.size inb_S4x1x1024_S1x1x128_1_0_768, out 6 1⟩, ⟨Rect.unit (s := S4x1x1024) ![0, 0, 768] S1x1x128.size inb_S4x1x1024_S1x1x128_0_0_768, out 6 0⟩, ⟨Rect.unit (s := S4x1x1024) ![3, 0, 640] S1x1x128.size inb_S4x1x1024_S1x1x128_3_0_640, out 5 3⟩, ⟨Rect.unit (s := S4x1x1024) ![2, 0, 640] S1x1x128.size inb_S4x1x1024_S1x1x128_2_0_640, out 5 2⟩, ⟨Rect.unit (s := S4x1x1024) ![1, 0, 640] S1x1x128.size inb_S4x1x1024_S1x1x128_1_0_640, out 5 1⟩, ⟨Rect.unit (s := S4x1x1024) ![0, 0, 640] S1x1x128.size inb_S4x1x1024_S1x1x128_0_0_640, out 5 0⟩, ⟨Rect.unit (s := S4x1x1024) ![3, 0, 512] S1x1x128.size inb_S4x1x1024_S1x1x128_3_0_512, out 4 3⟩, ⟨Rect.unit (s := S4x1x1024) ![2, 0, 512] S1x1x128.size inb_S4x1x1024_S1x1x128_2_0_512, out 4 2⟩, ⟨Rect.unit (s := S4x1x1024) ![1, 0, 512] S1x1x128.size inb_S4x1x1024_S1x1x128_1_0_512, out 4 1⟩, ⟨Rect.unit (s := S4x1x1024) ![0, 0, 512] S1x1x128.size inb_S4x1x1024_S1x1x128_0_0_512, out 4 0⟩, ⟨Rect.unit (s := S4x1x1024) ![3, 0, 384] S1x1x128.size inb_S4x1x1024_S1x1x128_3_0_384, out 3 3⟩, ⟨Rect.unit (s := S4x1x1024) ![2, 0, 384] S1x1x128.size inb_S4x1x1024_S1x1x128_2_0_384, out 3 2⟩, ⟨Rect.unit (s := S4x1x1024) ![1, 0, 384] S1x1x128.size inb_S4x1x1024_S1x1x128_1_0_384, out 3 1⟩, ⟨Rect.unit (s := S4x1x1024) ![0, 0, 384] S1x1x128.size inb_S4x1x1024_S1x1x128_0_0_384, out 3 0⟩, ⟨Rect.unit (s := S4x1x1024) ![3, 0, 256] S1x1x128.size inb_S4x1x1024_S1x1x128_3_0_256, out 2 3⟩, ⟨Rect.unit (s := S4x1x1024) ![2, 0, 256] S1x1x128.size inb_S4x1x1024_S1x1x128_2_0_256, out 2 2⟩, ⟨Rect.unit (s := S4x1x1024) ![1, 0, 256] S1x1x128.size inb_S4x1x1024_S1x1x128_1_0_256, out 2 1⟩, ⟨Rect.unit (s := S4x1x1024) ![0, 0, 256] S1x1x128.size inb_S4x1x1024_S1x1x128_0_0_256, out 2 0⟩, ⟨Rect.unit (s := S4x1x1024) ![3, 0, 128] S1x1x128.size inb_S4x1x1024_S1x1x128_3_0_128, out 1 3⟩, ⟨Rect.unit (s := S4x1x1024) ![2, 0, 128] S1x1x128.size inb_S4x1x1024_S1x1x128_2_0_128, out 1 2⟩, ⟨Rect.unit (s := S4x1x1024) ![1, 0, 128] S1x1x128.size inb_S4x1x1024_S1x1x128_1_0_128, out 1 1⟩, ⟨Rect.unit (s := S4x1x1024) ![0, 0, 128] S1x1x128.size inb_S4x1x1024_S1x1x128_0_0_128, out 1 0⟩, ⟨Rect.unit (s := S4x1x1024) ![3, 0, 0] S1x1x128.size inb_S4x1x1024_S1x1x128_3_0_0, out 0 3⟩, ⟨Rect.unit (s := S4x1x1024) ![2, 0, 0] S1x1x128.size inb_S4x1x1024_S1x1x128_2_0_0, out 0 2⟩, ⟨Rect.unit (s := S4x1x1024) ![1, 0, 0] S1x1x128.size inb_S4x1x1024_S1x1x128_1_0_0, out 0 1⟩, ⟨Rect.unit (s := S4x1x1024) ![0, 0, 0] S1x1x128.size inb_S4x1x1024_S1x1x128_0_0_0, out 0 0⟩]

/-- The turned queries. -/
def qBlk (x3 : Vec F S1024x1 .i32) (x4 : Vec F S1x128 .f32) (o : Vec F S1024x1024 .f32) : Vec F S1024x1024 .f32 :=
  View.canon (headPieces fun h => turned x3 x4 (headCols o h))

/-- The turned keys. -/
def kBlk (x3 : Vec F S1024x1 .i32) (x4 : Vec F S1x128 .f32) (o : Vec F S1024x1024 .f32) : Vec F S1024x1024 .bf16 :=
  View.canon (headPieces fun h => truncf .bf16 (turned x3 x4 (headCols o h)) bitsLt_bf16_f32)

/-- The mean keys. -/
def meanBlk (x3 : Vec F S1024x1 .i32) (x4 : Vec F S1x128 .f32) (o : Vec F S1024x1024 .f32) : Vec F S4x1x1024 .f32 :=
  View.canon (meanPieces fun h b => blockMean (turned x3 x4 (headCols o h)) b)

/-- The values. -/
def vBlk (o : Vec F S1024x1024 .f32) : Vec F S1024x1024 .bf16 := k0_pay8 o

/-- A load of one head's columns, after the block was stored whole, reads the block's columns. -/
theorem readCov_head {κ : Kind} {sp : Space} (v : View sig κ sp S1024x1024 .f32) (o : Vec F S1024x1024 .f32) (off : Fin 2 → Nat)
    (inb : ∀ a, off a + S1024x128.size a ≤ S1024x1024.size a) (h : Fin 8) (e : off = ![0, 128 * h.val]) :
    v.readCov [(⟨Rect.unit (s := S1024x1024) ![0, 0] S1024x1024.size inb_S1024x1024_S1024x1024_0_0, o⟩ : View.Piece (Elt F) S1024x1024 .f32)]
      (Rect.unit (s := S1024x1024) off S1024x128.size inb).toLoadRect = headCols o h := by
  subst e
  rw [View.readCov_eq_canon']
  funext j
  rw [View.canon_unit_zero (by funext a; fin_cases a <;> rfl)]
  refine congrArg o ?_
  funext a
  fin_cases a <;> exact Fin.ext (by simp [Rect.unit, LoadRect.idx, ix2])

/-- A load of a whole block reads it. -/
theorem readAt_all {κ : Kind} {sp : Space} {s : Shape} {e : EltTy} (M : Memref sig κ sp s e) (hM : M.IsWhole) (x : Vec F s e)
    (off : Fin s.rank → Nat) (inb : ∀ a, off a + s.size a ≤ s.size a) (h : off = fun _ => 0) :
    View.readAt (Elt F) M.view (Rect.unit (s := s) off s.size inb).toLoadRect (hM.unread x) = x := by
  subst h
  funext j
  rw [hM.readAt_unread]
  refine congrArg x ?_
  funext a
  exact Fin.ext (by simp [Rect.unit, LoadRect.idx])

/-- A load of a whole block just stored whole reads it. -/
theorem readCov_all {κ : Kind} {sp : Space} {s : Shape} {e : EltTy} (v : View sig κ sp s e) (o : Vec F s e) (off off' : Fin s.rank → Nat)
    (inb : ∀ a, off a + s.size a ≤ s.size a) (inb' : ∀ a, off' a + s.size a ≤ s.size a) (h : off = fun _ => 0) (h' : off' = fun _ => 0) :
    v.readCov [(⟨Rect.unit (s := s) off s.size inb, o⟩ : View.Piece (Elt F) s e)] (Rect.unit (s := s) off' s.size inb').toLoadRect = o := by
  rw [View.readCov_eq_canon', View.canon_unit_zero h]
  subst h'
  funext j
  refine congrArg o ?_
  funext a
  exact Fin.ext (by simp [Rect.unit, LoadRect.idx])

end Cert.Kernel2Ideal.Inproj
-- ==== Proof.InLists.lean ====
module

public import proofs.«01_k».proof.Proof.InRunE
public import proofs.«01_k».proof.Proof.InVals

/-!
# What each run of the input projection's body stores

The lists of stores the runs found, as the functions of `InVals`.
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- A pair of zeros. -/
theorem zero2 : (![0, 0] : Fin 2 → Nat) = fun _ => 0 := by funext a; fin_cases a <;> rfl

/-- A head's columns lie in the block. -/
theorem inb_head (h : Fin 8) : ∀ a, (![0, 128 * h.val] : Fin 2 → Nat) a + S1024x128.size a ≤ S1024x1024.size a := by
  revert h; decide +kernel

/-- The normalized rows, stored at the first column. -/
theorem storesA_h (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : At 0 i) (hc3 : ¬At 3 i) (hc4 : ¬At 4 i) (hc5 : ¬At 5 i) (x0 : Vec F S1024x2048 .f32) (x1 : Vec F S1x2048 .f32) (x2 : Vec F S2048x1024 .bf16) (x3 : Vec F S1024x1 .i32) (x4 : Vec F S1x128 .f32) :
    (runA (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4).2.1 = [⟨Rect.unit (s := S1024x2048) ![0, 0] S1024x2048.size inb_S1024x2048_S1024x2048_0_0, hBlk x0 x1⟩] := by
  unfold runA
  dsimp only
  refine Eq.trans (b := [⟨Rect.unit (s := S1024x2048) ![0, 0] S1024x2048.size inb_S1024x2048_S1024x2048_0_0, (k0_pay1 (View.readAt (Elt F) arg2.view (Rect.unit (s := S1024x2048) ![0, 0] S1024x2048.size inb_S1024x2048_S1024x2048_0_0).toLoadRect (harg2.unread x0)) (View.readAt (Elt F) arg3.view (Rect.unit (s := S1x2048) ![0, 0] S1x2048.size inb_S1x2048_S1x2048_0_0).toLoadRect (harg3.unread x1)))⟩]) rfl ?_
  rw [readAt_all arg2 harg2 x0 ![0, 0] _ zero2, readAt_all arg3 harg3 x1 ![0, 0] _ zero2]
  rfl

/-- The projection, stored at the first column. -/
theorem storesA_o (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : At 0 i) (hc3 : ¬At 3 i) (hc4 : ¬At 4 i) (hc5 : ¬At 5 i) (x0 : Vec F S1024x2048 .f32) (x1 : Vec F S1x2048 .f32) (x2 : Vec F S2048x1024 .bf16) (x3 : Vec F S1024x1 .i32) (x4 : Vec F S1x128 .f32) :
    (runA (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4).1 = [⟨Rect.unit (s := S1024x1024) ![0, 0] S1024x1024.size inb_S1024x1024_S1024x1024_0_0, oBlk (hBlk x0 x1) x2⟩] := by
  unfold runA
  dsimp only
  refine Eq.trans (b := [⟨Rect.unit (s := S1024x1024) ![0, 0] S1024x1024.size inb_S1024x1024_S1024x1024_0_0, oBlk (arg12.view.readCov [(⟨Rect.unit (s := S1024x2048) ![0, 0] S1024x2048.size inb_S1024x2048_S1024x2048_0_0, k0_pay1 (View.readAt (Elt F) arg2.view (Rect.unit (s := S1024x2048) ![0, 0] S1024x2048.size inb_S1024x2048_S1024x2048_0_0).toLoadRect (harg2.unread x0)) (View.readAt (Elt F) arg3.view (Rect.unit (s := S1x2048) ![0, 0] S1x2048.size inb_S1x2048_S1x2048_0_0).toLoadRect (harg3.unread x1))⟩ : View.Piece (Elt F) S1024x2048 .bf16)] (Rect.unit (s := S1024x2048) ![0, 0] S1024x2048.size inb_S1024x2048_S1024x2048_0_0).toLoadRect) (View.readAt (Elt F) arg4.view (Rect.unit (s := S2048x1024) ![0, 0] S2048x1024.size inb_S2048x1024_S2048x1024_0_0).toLoadRect (harg4.unread x2))⟩]) rfl ?_
  rw [readCov_all arg12.view _ ![0, 0] ![0, 0] _ _ zero2 zero2, readAt_all arg2 harg2 x0 ![0, 0] _ zero2, readAt_all arg3 harg3 x1 ![0, 0] _ zero2, readAt_all arg4 harg4 x2 ![0, 0] _ zero2]
  rfl

/-- The projection, stored at a further column. -/
theorem storesB_o (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : ¬At 4 i) (hc5 : ¬At 5 i) (x0 : Vec F S1024x2048 .f32) (x1 : Vec F S1x2048 .f32) (x2 : Vec F S2048x1024 .bf16) (x3 : Vec F S1024x1 .i32) (x4 : Vec F S1x128 .f32) (xs : Vec F S1024x2048 .bf16) :
    (runB (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4 xs).1 = [⟨Rect.unit (s := S1024x1024) ![0, 0] S1024x1024.size inb_S1024x1024_S1024x1024_0_0, oBlk xs x2⟩] := by
  unfold runB
  dsimp only
  refine Eq.trans (b := [⟨Rect.unit (s := S1024x1024) ![0, 0] S1024x1024.size inb_S1024x1024_S1024x1024_0_0, oBlk (View.readAt (Elt F) arg12.view (Rect.unit (s := S1024x2048) ![0, 0] S1024x2048.size inb_S1024x2048_S1024x2048_0_0).toLoadRect (harg12.unread xs)) (View.readAt (Elt F) arg4.view (Rect.unit (s := S2048x1024) ![0, 0] S2048x1024.size inb_S2048x1024_S2048x1024_0_0).toLoadRect (harg4.unread x2))⟩]) rfl ?_
  rw [readAt_all arg12 harg12 xs ![0, 0] _ zero2, readAt_all arg4 harg4 x2 ![0, 0] _ zero2]

/-- The projection, stored at a further column. -/
theorem storesC_o (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : At 3 i) (hc4 : ¬At 4 i) (hc5 : ¬At 5 i) (x0 : Vec F S1024x2048 .f32) (x1 : Vec F S1x2048 .f32) (x2 : Vec F S2048x1024 .bf16) (x3 : Vec F S1024x1 .i32) (x4 : Vec F S1x128 .f32) (xs : Vec F S1024x2048 .bf16) :
    (runC (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4 xs).1 = [⟨Rect.unit (s := S1024x1024) ![0, 0] S1024x1024.size inb_S1024x1024_S1024x1024_0_0, oBlk xs x2⟩] := by
  unfold runC
  dsimp only
  refine Eq.trans (b := [⟨Rect.unit (s := S1024x1024) ![0, 0] S1024x1024.size inb_S1024x1024_S1024x1024_0_0, oBlk (View.readAt (Elt F) arg12.view (Rect.unit (s := S1024x2048) ![0, 0] S1024x2048.size inb_S1024x2048_S1024x2048_0_0).toLoadRect (harg12.unread xs)) (View.readAt (Elt F) arg4.view (Rect.unit (s := S2048x1024) ![0, 0] S2048x1024.size inb_S2048x1024_S2048x1024_0_0).toLoadRect (harg4.unread x2))⟩]) rfl ?_
  rw [readAt_all arg12 harg12 xs ![0, 0] _ zero2, readAt_all arg4 harg4 x2 ![0, 0] _ zero2]

/-- The projection, stored at a further column. -/
theorem storesD_o (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : At 4 i) (hc5 : ¬At 5 i) (x0 : Vec F S1024x2048 .f32) (x1 : Vec F S1x2048 .f32) (x2 : Vec F S2048x1024 .bf16) (x3 : Vec F S1024x1 .i32) (x4 : Vec F S1x128 .f32) (xs : Vec F S1024x2048 .bf16) :
    (runD (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4 xs).1 = [⟨Rect.unit (s := S1024x1024) ![0, 0] S1024x1024.size inb_S1024x1024_S1024x1024_0_0, oBlk xs x2⟩] := by
  unfold runD
  dsimp only
  refine Eq.trans (b := [⟨Rect.unit (s := S1024x1024) ![0, 0] S1024x1024.size inb_S1024x1024_S1024x1024_0_0, oBlk (View.readAt (Elt F) arg12.view (Rect.unit (s := S1024x2048) ![0, 0] S1024x2048.size inb_S1024x2048_S1024x2048_0_0).toLoadRect (harg12.unread xs)) (View.readAt (Elt F) arg4.view (Rect.unit (s := S2048x1024) ![0, 0] S2048x1024.size inb_S2048x1024_S2048x1024_0_0).toLoadRect (harg4.unread x2))⟩]) rfl ?_
  rw [readAt_all arg12 harg12 xs ![0, 0] _ zero2, readAt_all arg4 harg4 x2 ![0, 0] _ zero2]

/-- The projection, stored at a further column. -/
theorem storesE_o (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : ¬At 4 i) (hc5 : At 5 i) (x0 : Vec F S1024x2048 .f32) (x1 : Vec F S1x2048 .f32) (x2 : Vec F S2048x1024 .bf16) (x3 : Vec F S1024x1 .i32) (x4 : Vec F S1x128 .f32) (xs : Vec F S1024x2048 .bf16) :
    (runE (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4 xs).1 = [⟨Rect.unit (s := S1024x1024) ![0, 0] S1024x1024.size inb_S1024x1024_S1024x1024_0_0, oBlk xs x2⟩] := by
  unfold runE
  dsimp only
  refine Eq.trans (b := [⟨Rect.unit (s := S1024x1024) ![0, 0] S1024x1024.size inb_S1024x1024_S1024x1024_0_0, oBlk (View.readAt (Elt F) arg12.view (Rect.unit (s := S1024x2048) ![0, 0] S1024x2048.size inb_S1024x2048_S1024x2048_0_0).toLoadRect (harg12.unread xs)) (View.readAt (Elt F) arg4.view (Rect.unit (s := S2048x1024) ![0, 0] S2048x1024.size inb_S2048x1024_S2048x1024_0_0).toLoadRect (harg4.unread x2))⟩]) rfl ?_
  rw [readAt_all arg12 harg12 xs ![0, 0] _ zero2, readAt_all arg4 harg4 x2 ![0, 0] _ zero2]

/-- The turned queries, stored head by head. -/
theorem storesC_q (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : At 3 i) (hc4 : ¬At 4 i) (hc5 : ¬At 5 i) (x0 : Vec F S1024x2048 .f32) (x1 : Vec F S1x2048 .f32) (x2 : Vec F S2048x1024 .bf16) (x3 : Vec F S1024x1 .i32) (x4 : Vec F S1x128 .f32) (xs : Vec F S1024x2048 .bf16) :
    (runC (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4 xs).2.1 = headPieces fun h => turned x3 x4 (headCols (oBlk xs x2) h) := by
  unfold runC
  dsimp only
  refine Eq.trans (b := headPieces fun h => turned (View.readAt (Elt F) arg5.view (Rect.unit (s := S1024x1) ![0, 0] S1024x1.size inb_S1024x1_S1024x1_0_0).toLoadRect (harg5.unread x3)) (View.readAt (Elt F) arg6.view (Rect.unit (s := S1x128) ![0, 0] S1x128.size inb_S1x128_S1x128_0_0).toLoadRect (harg6.unread x4)) (arg7.view.readCov [(⟨Rect.unit (s := S1024x1024) ![0, 0] S1024x1024.size inb_S1024x1024_S1024x1024_0_0, oBlk (View.readAt (Elt F) arg12.view (Rect.unit (s := S1024x2048) ![0, 0] S1024x2048.size inb_S1024x2048_S1024x2048_0_0).toLoadRect (harg12.unread xs)) (View.readAt (Elt F) arg4.view (Rect.unit (s := S2048x1024) ![0, 0] S2048x1024.size inb_S2048x1024_S2048x1024_0_0).toLoadRect (harg4.unread x2))⟩ : View.Piece (Elt F) S1024x1024 .f32)] (Rect.unit (s := S1024x1024) ![0, 128 * h.val] S1024x128.size (inb_head h)).toLoadRect)) rfl ?_
  rw [readAt_all arg12 harg12 xs ![0, 0] _ zero2, readAt_all arg4 harg4 x2 ![0, 0] _ zero2, readAt_all arg5 harg5 x3 ![0, 0] _ zero2, readAt_all arg6 harg6 x4 ![0, 0] _ zero2]
  exact congrArg headPieces (funext fun h => congrArg (turned x3 x4) (readCov_head arg7.view (oBlk xs x2) _ (inb_head h) h rfl))

/-- The turned keys, stored head by head. -/
theorem storesD_k (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : At 4 i) (hc5 : ¬At 5 i) (x0 : Vec F S1024x2048 .f32) (x1 : Vec F S1x2048 .f32) (x2 : Vec F S2048x1024 .bf16) (x3 : Vec F S1024x1 .i32) (x4 : Vec F S1x128 .f32) (xs : Vec F S1024x2048 .bf16) :
    (runD (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4 xs).2.1 = headPieces fun h => truncf .bf16 (turned x3 x4 (headCols (oBlk xs x2) h)) bitsLt_bf16_f32 := by
  unfold runD
  dsimp only
  refine Eq.trans (b := headPieces fun h => truncf .bf16 (turned (View.readAt (Elt F) arg5.view (Rect.unit (s := S1024x1) ![0, 0] S1024x1.size inb_S1024x1_S1024x1_0_0).toLoadRect (harg5.unread x3)) (View.readAt (Elt F) arg6.view (Rect.unit (s := S1x128) ![0, 0] S1x128.size inb_S1x128_S1x128_0_0).toLoadRect (harg6.unread x4)) (arg7.view.readCov [(⟨Rect.unit (s := S1024x1024) ![0, 0] S1024x1024.size inb_S1024x1024_S1024x1024_0_0, oBlk (View.readAt (Elt F) arg12.view (Rect.unit (s := S1024x2048) ![0, 0] S1024x2048.size inb_S1024x2048_S1024x2048_0_0).toLoadRect (harg12.unread xs)) (View.readAt (Elt F) arg4.view (Rect.unit (s := S2048x1024) ![0, 0] S2048x1024.size inb_S2048x1024_S2048x1024_0_0).toLoadRect (harg4.unread x2))⟩ : View.Piece (Elt F) S1024x1024 .f32)] (Rect.unit (s := S1024x1024) ![0, 128 * h.val] S1024x128.size (inb_head h)).toLoadRect)) bitsLt_bf16_f32) rfl ?_
  rw [readAt_all arg12 harg12 xs ![0, 0] _ zero2, readAt_all arg4 harg4 x2 ![0, 0] _ zero2, readAt_all arg5 harg5 x3 ![0, 0] _ zero2, readAt_all arg6 harg6 x4 ![0, 0] _ zero2]
  exact congrArg headPieces (funext fun h => congrArg (fun a => truncf .bf16 (turned x3 x4 a) bitsLt_bf16_f32) (readCov_head arg7.view (oBlk xs x2) _ (inb_head h) h rfl))

/-- The mean keys, stored head by head. -/
theorem storesD_mean (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : At 4 i) (hc5 : ¬At 5 i) (x0 : Vec F S1024x2048 .f32) (x1 : Vec F S1x2048 .f32) (x2 : Vec F S2048x1024 .bf16) (x3 : Vec F S1024x1 .i32) (x4 : Vec F S1x128 .f32) (xs : Vec F S1024x2048 .bf16) :
    (runD (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4 xs).2.2.1 = meanPieces fun h b => blockMean (turned x3 x4 (headCols (oBlk xs x2) h)) b := by
  unfold runD
  dsimp only
  refine Eq.trans (b := meanPieces fun h b => blockMean (turned (View.readAt (Elt F) arg5.view (Rect.unit (s := S1024x1) ![0, 0] S1024x1.size inb_S1024x1_S1024x1_0_0).toLoadRect (harg5.unread x3)) (View.readAt (Elt F) arg6.view (Rect.unit (s := S1x128) ![0, 0] S1x128.size inb_S1x128_S1x128_0_0).toLoadRect (harg6.unread x4)) (arg7.view.readCov [(⟨Rect.unit (s := S1024x1024) ![0, 0] S1024x1024.size inb_S1024x1024_S1024x1024_0_0, oBlk (View.readAt (Elt F) arg12.view (Rect.unit (s := S1024x2048) ![0, 0] S1024x2048.size inb_S1024x2048_S1024x2048_0_0).toLoadRect (harg12.unread xs)) (View.readAt (Elt F) arg4.view (Rect.unit (s := S2048x1024) ![0, 0] S2048x1024.size inb_S2048x1024_S2048x1024_0_0).toLoadRect (harg4.unread x2))⟩ : View.Piece (Elt F) S1024x1024 .f32)] (Rect.unit (s := S1024x1024) ![0, 128 * h.val] S1024x128.size (inb_head h)).toLoadRect)) b) rfl ?_
  rw [readAt_all arg12 harg12 xs ![0, 0] _ zero2, readAt_all arg4 harg4 x2 ![0, 0] _ zero2, readAt_all arg5 harg5 x3 ![0, 0] _ zero2, readAt_all arg6 harg6 x4 ![0, 0] _ zero2]
  exact congrArg meanPieces (funext fun h => funext fun b => congrArg (fun a => blockMean (turned x3 x4 a) b) (readCov_head arg7.view (oBlk xs x2) _ (inb_head h) h rfl))

/-- The values, stored whole. -/
theorem storesE_v (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .i32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S4x1x1024 .f32) (harg11 : arg11.IsWhole) (arg12 : Memref sig .tc .vmem S1024x2048 .bf16) (harg12 : arg12.IsWhole) (hc0 : ¬At 0 i) (hc3 : ¬At 3 i) (hc4 : ¬At 4 i) (hc5 : At 5 i) (x0 : Vec F S1024x2048 .f32) (x1 : Vec F S1x2048 .f32) (x2 : Vec F S2048x1024 .bf16) (x3 : Vec F S1024x1 .i32) (x4 : Vec F S1x128 .f32) (xs : Vec F S1024x2048 .bf16) :
    (runE (F := F) c i arg2 harg2 arg3 harg3 arg4 harg4 arg5 harg5 arg6 harg6 arg7 harg7 arg8 harg8 arg9 harg9 arg10 harg10 arg11 harg11 arg12 harg12 hc0 hc3 hc4 hc5 x0 x1 x2 x3 x4 xs).2.1 = [⟨Rect.unit (s := S1024x1024) ![0, 0] S1024x1024.size inb_S1024x1024_S1024x1024_0_0, vBlk (oBlk xs x2)⟩] := by
  unfold runE
  dsimp only
  refine Eq.trans (b := [⟨Rect.unit (s := S1024x1024) ![0, 0] S1024x1024.size inb_S1024x1024_S1024x1024_0_0, vBlk (arg7.view.readCov [(⟨Rect.unit (s := S1024x1024) ![0, 0] S1024x1024.size inb_S1024x1024_S1024x1024_0_0, oBlk (View.readAt (Elt F) arg12.view (Rect.unit (s := S1024x2048) ![0, 0] S1024x2048.size inb_S1024x2048_S1024x2048_0_0).toLoadRect (harg12.unread xs)) (View.readAt (Elt F) arg4.view (Rect.unit (s := S2048x1024) ![0, 0] S2048x1024.size inb_S2048x1024_S2048x1024_0_0).toLoadRect (harg4.unread x2))⟩ : View.Piece (Elt F) S1024x1024 .f32)] (Rect.unit (s := S1024x1024) ![0, 0] S1024x1024.size inb_S1024x1024_S1024x1024_0_0).toLoadRect)⟩]) rfl ?_
  rw [readCov_all arg7.view _ ![0, 0] ![0, 0] _ _ zero2 zero2, readAt_all arg12 harg12 xs ![0, 0] _ zero2, readAt_all arg4 harg4 x2 ![0, 0] _ zero2]

end Cert.Kernel2Ideal.Inproj
-- ==== Proof.InFrame.lean ====
module

public import proofs.«01_k».proof.Proof.InLists
public import Idealize.ShloMosaic.Lib.Pipeline.FrameBody
public import Idealize.ShloMosaic.Lib.Pipeline.FrameSuffix
public import Idealize.ShloMosaic.Lib.Pipeline.TableIdle

/-!
# The input projection's whole run

The grid is eight blocks of 1024 rows by ten blocks of columns. The normalized rows are computed at a row's first
column and carried to its others; queries, keys and values are written at the columns that hold them and stay as they are
until the row's last column, where they are written back.
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
open Idealize.ShloMosaic.Pipeline

variable (m : (ℓ : Loc nD τ sig) → Buf (Elt F) ℓ) (ρ : Dev nD → PrngReg)

/-- The point of `t`'s row at column `k`. -/
def rowPt (t : Fin cfg0.N) (k : Fin 10) : Fin cfg0.N :=
  ⟨10 * (t.val / 10) + k.val, by have := lt_of_lt_of_eq t.isLt (show cfg0.N = 80 from N_0); have := k.isLt; exact lt_of_lt_of_eq (show _ < 80 by omega) (show cfg0.N = 80 from N_0).symm⟩

/-- A point is the one of its row of blocks at its own column. -/
theorem rowPt_self (t : Fin cfg0.N) (k : Fin 10) (h : t.val % 10 = k.val) : rowPt t k = t :=
  Fin.ext (by show 10 * (t.val / 10) + k.val = t.val; omega)

/-- A point and the one before it in the same row of blocks share that row. -/
theorem rowPt_pred (t : Fin cfg0.N) (k : Fin 10) (h : t.val % 10 ≠ 0) (h' : t.val - 1 < cfg0.N) : rowPt ⟨t.val - 1, h'⟩ k = rowPt t k :=
  Fin.ext (by show 10 * ((t.val - 1) / 10) + k.val = 10 * (t.val / 10) + k.val; omega)

/-- The normalized rows of `t`'s row of blocks. -/
def hAt (c : Dev nD) (t : Fin cfg0.N) : Vec F S1024x2048 .bf16 := hBlk (iblk m c 0 (rowPt t 0)) (iblk m c 1 (rowPt t 0))

/-- The projection at point `t`. -/
def oAt (c : Dev nD) (t : Fin cfg0.N) : Vec F S1024x1024 .f32 := oBlk (hAt m c t) (iblk m c 2 t)

/-- The normalized rows at the first point of a row of blocks. -/
theorem hAt_first (c : Dev nD) (t : Fin cfg0.N) (h : t.val % 10 = 0) : hAt m c t = hBlk (iblk m c 0 t) (iblk m c 1 t) := by
  unfold hAt; rw [rowPt_self t 0 h]

/-- The normalized rows stay over a row of blocks. -/
theorem hAt_pred (c : Dev nD) (t : Fin cfg0.N) (h : t.val % 10 ≠ 0) (h' : t.val - 1 < cfg0.N) : hAt m c ⟨t.val - 1, h'⟩ = hAt m c t := by
  unfold hAt; rw [rowPt_pred t 0 h]

/-- The turned queries written at point `t`. -/
def qAt (c : Dev nD) (t : Fin cfg0.N) : Vec F S1024x1024 .f32 := qBlk (iblk m c 3 t) (iblk m c 4 t) (oAt m c t)

/-- The turned keys written at point `t`. -/
def kAt (c : Dev nD) (t : Fin cfg0.N) : Vec F S1024x1024 .bf16 := kBlk (iblk m c 3 t) (iblk m c 4 t) (oAt m c t)

/-- The values written at point `t`. -/
def vAt (c : Dev nD) (t : Fin cfg0.N) : Vec F S1024x1024 .bf16 := vBlk (oAt m c t)

/-- The mean keys written at point `t`. -/
def meanAt (c : Dev nD) (t : Fin cfg0.N) : Vec F S4x1x1024 .f32 := meanBlk (iblk m c 3 t) (iblk m c 4 t) (oAt m c t)

/-- The scratch the body carries. -/
abbrev hRef : Memref sig .tc .vmem S1024x2048 .bf16 := Memref.whole cc0_scratch0

/-- The rest of the launch's memory is the scratch array. -/
theorem rest_eq (c : Dev nD) :
    (Pipeline.ΦA spec0 c : sProp 𝕄) = iprop(iprop((∃ d, owns (c : Thread nD τ) hRef fullShare d)) ∗ (∃ r, prngReg c r)) := by
  unfold Pipeline.ΦA; rw [scopedRest0_eq]; simp only [hRef, owns_whole]; try rfl

/-- Between points: the scratch holds the rows normalized for the point before. -/
def Carried (c : Dev nD) : (n : ℕ) → n ≤ cfg0.N → sProp 𝕄
  | 0, _ => Pipeline.ΦA spec0 c
  | n + 1, hn => iprop(iprop(owns (c : Thread nD τ) hRef fullShare (hAt m c ⟨n, hn⟩)) ∗ (∃ r, prngReg c r))

/-- Before the first point the scratch array holds anything. -/
theorem Carried_zero (c : Dev nD) (n : ℕ) (h : n ≤ cfg0.N) (hz : n = 0) : Carried m c n h = Pipeline.ΦA spec0 c := by
  subst hz; rfl

/-- After a point the scratch array holds its row of blocks' normalized rows. -/
theorem Carried_succ (c : Dev nD) (t : Fin cfg0.N) :
    Carried m c (t.val + 1) t.isLt = iprop(iprop(owns (c : Thread nD τ) hRef fullShare (hAt m c t)) ∗ (∃ r, prngReg c r)) := rfl

/-- Past the first point, the same by the number of points gone by. -/
theorem Carried_pos (c : Dev nD) (n : ℕ) (h : n ≤ cfg0.N) (hz : n ≠ 0) :
    Carried m c n h = iprop(iprop(owns (c : Thread nD τ) hRef fullShare (hAt m c ⟨n - 1, by omega⟩)) ∗ (∃ r, prngReg c r)) := by
  cases n with
  | zero => exact absurd rfl hz
  | succ n => rfl

/-- What each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oAt m c t
    | ⟨6, _⟩ => qAt m c (rowPt t 3)
    | ⟨7, _⟩ => kAt m c (rowPt t 4)
    | ⟨8, _⟩ => vAt m c (rowPt t 5)
    | ⟨9, _⟩ => meanAt m c (rowPt t 4)
  Φ t := Carried m c t.val (Nat.le_of_lt_succ t.isLt)
  q _ := fullShare
  owed _ := 0

/-- The launch starts from the host's arrays. -/
theorem A_eq (c : Dev nD) (w : Fin cfg0.W) : (dats m 0 c).A w = V m c (Pipeline.arrRef spec0 w) := by
  dsimp only [dats]

/-- What the scratch array holds on entering a point. -/
theorem carried_at (c : Dev nD) (t : Fin cfg0.N) :
    (dats m 0 c).Φ t.castSucc = Carried m c t.val (Nat.le_of_lt t.isLt) := by
  dsimp only [dats]; exact Pipeline.Dat.Φ_castSucc (Carried m c) t

/-- A point leaves the block of the input rows. -/
theorem after_0 (c : Dev nD) (t : Fin cfg0.N) : (dats m 0 c).after 0 t = iblk m c 0 t := by dsimp only [dats]
/-- A point leaves the block of the gains. -/
theorem after_1 (c : Dev nD) (t : Fin cfg0.N) : (dats m 0 c).after 1 t = iblk m c 1 t := by dsimp only [dats]
/-- A point leaves the block of the weights. -/
theorem after_2 (c : Dev nD) (t : Fin cfg0.N) : (dats m 0 c).after 2 t = iblk m c 2 t := by dsimp only [dats]
/-- A point leaves the block of the positions. -/
theorem after_3 (c : Dev nD) (t : Fin cfg0.N) : (dats m 0 c).after 3 t = iblk m c 3 t := by dsimp only [dats]
/-- A point leaves the block of the frequencies. -/
theorem after_4 (c : Dev nD) (t : Fin cfg0.N) : (dats m 0 c).after 4 t = iblk m c 4 t := by dsimp only [dats]
/-- A point leaves the block of the projection. -/
theorem after_5 (c : Dev nD) (t : Fin cfg0.N) : (dats m 0 c).after 5 t = oAt m c t := by dsimp only [dats]
/-- A point leaves the block of the queries. -/
theorem after_6 (c : Dev nD) (t : Fin cfg0.N) : (dats m 0 c).after 6 t = qAt m c (rowPt t 3) := by dsimp only [dats]
/-- A point leaves the block of the keys. -/
theorem after_7 (c : Dev nD) (t : Fin cfg0.N) : (dats m 0 c).after 7 t = kAt m c (rowPt t 4) := by dsimp only [dats]
/-- A point leaves the block of the values. -/
theorem after_8 (c : Dev nD) (t : Fin cfg0.N) : (dats m 0 c).after 8 t = vAt m c (rowPt t 5) := by dsimp only [dats]
/-- A point leaves the block of the mean keys. -/
theorem after_9 (c : Dev nD) (t : Fin cfg0.N) : (dats m 0 c).after 9 t = meanAt m c (rowPt t 4) := by dsimp only [dats]

/-- A point finds the block of the input rows. -/
theorem before_0 (c : Dev nD) (t : Fin cfg0.N) (d) : (dats m 0 c).before 0 t d = iblk m c 0 t :=
  before0_0_of m (dats m 0 c) (A_eq m c 0) (after_0 m c) t d
/-- A point finds the block of the gains. -/
theorem before_1 (c : Dev nD) (t : Fin cfg0.N) (d) : (dats m 0 c).before 1 t d = iblk m c 1 t :=
  before0_1_of m (dats m 0 c) (A_eq m c 1) (after_1 m c) t d
/-- A point finds the block of the weights. -/
theorem before_2 (c : Dev nD) (t : Fin cfg0.N) (d) : (dats m 0 c).before 2 t d = iblk m c 2 t :=
  before0_2_of m (dats m 0 c) (A_eq m c 2) (after_2 m c) t d
/-- A point finds the block of the positions. -/
theorem before_3 (c : Dev nD) (t : Fin cfg0.N) (d) : (dats m 0 c).before 3 t d = iblk m c 3 t :=
  before0_3_of m (dats m 0 c) (A_eq m c 3) (after_3 m c) t d
/-- A point finds the block of the frequencies. -/
theorem before_4 (c : Dev nD) (t : Fin cfg0.N) (d) : (dats m 0 c).before 4 t d = iblk m c 4 t :=
  before0_4_of m (dats m 0 c) (A_eq m c 4) (after_4 m c) t d

/-- The buffer of the input rows at a point. -/
abbrev buf_0 (t : Fin cfg0.N) : Memref sig .tc .vmem S1024x2048 .f32 := win0_0.stage (cfg0.slots t 0)
/-- The buffer of the gains at a point. -/
abbrev buf_1 (t : Fin cfg0.N) : Memref sig .tc .vmem S1x2048 .f32 := win0_1.stage (cfg0.slots t 1)
/-- The buffer of the weights at a point. -/
abbrev buf_2 (t : Fin cfg0.N) : Memref sig .tc .vmem S2048x1024 .bf16 := win0_2.stage (cfg0.slots t 2)
/-- The buffer of the positions at a point. -/
abbrev buf_3 (t : Fin cfg0.N) : Memref sig .tc .vmem S1024x1 .i32 := win0_3.stage (cfg0.slots t 3)
/-- The buffer of the frequencies at a point. -/
abbrev buf_4 (t : Fin cfg0.N) : Memref sig .tc .vmem S1x128 .f32 := win0_4.stage (cfg0.slots t 4)
/-- The buffer of the projection at a point. -/
abbrev buf_5 (t : Fin cfg0.N) : Memref sig .tc .vmem S1024x1024 .f32 := win0_5.stage (cfg0.slots t 5)
/-- The buffer of the queries at a point. -/
abbrev buf_6 (t : Fin cfg0.N) : Memref sig .tc .vmem S1024x1024 .f32 := win0_6.stage (cfg0.slots t 6)
/-- The buffer of the keys at a point. -/
abbrev buf_7 (t : Fin cfg0.N) : Memref sig .tc .vmem S1024x1024 .bf16 := win0_7.stage (cfg0.slots t 7)
/-- The buffer of the values at a point. -/
abbrev buf_8 (t : Fin cfg0.N) : Memref sig .tc .vmem S1024x1024 .bf16 := win0_8.stage (cfg0.slots t 8)
/-- The buffer of the mean keys at a point. -/
abbrev buf_9 (t : Fin cfg0.N) : Memref sig .tc .vmem S4x1x1024 .f32 := win0_9.stage (cfg0.slots t 9)
/-- The points that use the input rows. -/
theorem live_0 : ∀ t : Fin cfg0.N, cfg0.idle 0 (grid0.coords t) = false := fun _ => rfl
/-- The points that use the gains. -/
theorem live_1 : ∀ t : Fin cfg0.N, cfg0.idle 1 (grid0.coords t) = false := fun _ => rfl
/-- The points that use the weights. -/
theorem live_2 : ∀ t : Fin cfg0.N, cfg0.idle 2 (grid0.coords t) = false := fun _ => rfl
/-- The points that use the positions. -/
theorem live_3 : ∀ t : Fin cfg0.N, cfg0.idle 3 (grid0.coords t) = false := fun _ => rfl
/-- The points that use the frequencies. -/
theorem live_4 : ∀ t : Fin cfg0.N, cfg0.idle 4 (grid0.coords t) = false := fun _ => rfl
/-- The points that use the projection. -/
theorem live_5 : ∀ t : Fin cfg0.N, cfg0.idle 5 (grid0.coords t) = false := fun _ => rfl

/-- The points that leave the queries alone. -/
theorem idle_6 : ∀ t : Fin cfg0.N, t.val % 10 ≠ 3 → cfg0.idle 6 (grid0.coords t) = true := by decide +kernel
/-- The points that use the queries. -/
theorem live_6 : ∀ t : Fin cfg0.N, t.val % 10 = 3 → cfg0.idle 6 (grid0.coords t) = false := by decide +kernel
/-- The points that do not send out the queries. -/
theorem keep_6 : ∀ t : Fin cfg0.N, t.val % 10 ≠ 9 → (cfg0.win 6).flush t = false := by decide +kernel
/-- Whether the queries are fresh at the next point, by its column. -/
theorem step_6 : ∀ t : Fin cfg0.N, decide ((t.val + 1) % 10 ≤ 3) = ((cfg0.win 6).flush t || (cfg0.idle 6 (cfg0.grid.coords t) && decide (t.val % 10 ≤ 3))) := by decide +kernel
/-- The points before the one that writes the queries find them fresh. -/
theorem fresh_6 (t : Fin cfg0.N) : cfg0.fresh 6 t.val = decide (t.val % 10 ≤ 3) :=
  Pipeline.Cfg.fresh_tab cfg0 6 (fun n => decide (n % 10 ≤ 3)) rfl step_6 t.val (Nat.le_of_lt t.isLt)

/-- Within a row, window 6 keeps what its column wrote. -/
theorem carry_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ _ hf
  have h : t.val % 10 ≠ 0 := fun h => by rw [fresh_6 t, h] at hf; exact absurd hf (by decide)
  rw [after_6, after_6, rowPt_pred t _ h]

/-- Where window 6 is not written, the body leaves it as it found it. -/
theorem leave_6 (c : Dev nD) (t : Fin cfg0.N) (h : t.val % 10 ≠ 3) (d) :
    owns (c : Thread nD τ) (buf_6 t) fullShare ((dats m 0 c).before 6 t d) ⊢ (dats m 0 c).leavesExact 6 t := by
  by_cases h9 : t.val % 10 = 9
  · have hb : (dats m 0 c).before 6 t d = (dats m 0 c).after 6 t := by
      rw [Dat.before_out_traj _ 6 rfl (fun _ _ => rfl) (carry_6 m c) t.val t rfl d,
        if_neg (by rw [fresh_6 t, h9]; decide), after_6, after_6, rowPt_pred t _ (by omega)]
    rw [hb]
    have hfl : (cfg0.win 6).flush t = true := (by decide +kernel : ∀ t : Fin cfg0.N, t.val % 10 = 9 → (cfg0.win 6).flush t = true) t h9
    unfold Dat.leavesExact
    rw [idle_6 t h, hfl]
  · rw [Dat.leavesExact_idle (dats m 0 c) 6 t (idle_6 t h) (keep_6 t h9)]
    iintro H
    iexists _
    iexact H

/-- The points that leave the keys alone. -/
theorem idle_7 : ∀ t : Fin cfg0.N, t.val % 10 ≠ 4 → cfg0.idle 7 (grid0.coords t) = true := by decide +kernel
/-- The points that use the keys. -/
theorem live_7 : ∀ t : Fin cfg0.N, t.val % 10 = 4 → cfg0.idle 7 (grid0.coords t) = false := by decide +kernel
/-- The points that do not send out the keys. -/
theorem keep_7 : ∀ t : Fin cfg0.N, t.val % 10 ≠ 9 → (cfg0.win 7).flush t = false := by decide +kernel
/-- Whether the keys are fresh at the next point, by its column. -/
theorem step_7 : ∀ t : Fin cfg0.N, decide ((t.val + 1) % 10 ≤ 4) = ((cfg0.win 7).flush t || (cfg0.idle 7 (cfg0.grid.coords t) && decide (t.val % 10 ≤ 4))) := by decide +kernel
/-- The points before the one that writes the keys find them fresh. -/
theorem fresh_7 (t : Fin cfg0.N) : cfg0.fresh 7 t.val = decide (t.val % 10 ≤ 4) :=
  Pipeline.Cfg.fresh_tab cfg0 7 (fun n => decide (n % 10 ≤ 4)) rfl step_7 t.val (Nat.le_of_lt t.isLt)

/-- Within a row, window 7 keeps what its column wrote. -/
theorem carry_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ _ hf
  have h : t.val % 10 ≠ 0 := fun h => by rw [fresh_7 t, h] at hf; exact absurd hf (by decide)
  rw [after_7, after_7, rowPt_pred t _ h]

/-- Where window 7 is not written, the body leaves it as it found it. -/
theorem leave_7 (c : Dev nD) (t : Fin cfg0.N) (h : t.val % 10 ≠ 4) (d) :
    owns (c : Thread nD τ) (buf_7 t) fullShare ((dats m 0 c).before 7 t d) ⊢ (dats m 0 c).leavesExact 7 t := by
  by_cases h9 : t.val % 10 = 9
  · have hb : (dats m 0 c).before 7 t d = (dats m 0 c).after 7 t := by
      rw [Dat.before_out_traj _ 7 rfl (fun _ _ => rfl) (carry_7 m c) t.val t rfl d,
        if_neg (by rw [fresh_7 t, h9]; decide), after_7, after_7, rowPt_pred t _ (by omega)]
    rw [hb]
    have hfl : (cfg0.win 7).flush t = true := (by decide +kernel : ∀ t : Fin cfg0.N, t.val % 10 = 9 → (cfg0.win 7).flush t = true) t h9
    unfold Dat.leavesExact
    rw [idle_7 t h, hfl]
  · rw [Dat.leavesExact_idle (dats m 0 c) 7 t (idle_7 t h) (keep_7 t h9)]
    iintro H
    iexists _
    iexact H

/-- The points that leave the values alone. -/
theorem idle_8 : ∀ t : Fin cfg0.N, t.val % 10 ≠ 5 → cfg0.idle 8 (grid0.coords t) = true := by decide +kernel
/-- The points that use the values. -/
theorem live_8 : ∀ t : Fin cfg0.N, t.val % 10 = 5 → cfg0.idle 8 (grid0.coords t) = false := by decide +kernel
/-- The points that do not send out the values. -/
theorem keep_8 : ∀ t : Fin cfg0.N, t.val % 10 ≠ 9 → (cfg0.win 8).flush t = false := by decide +kernel
/-- Whether the values are fresh at the next point, by its column. -/
theorem step_8 : ∀ t : Fin cfg0.N, decide ((t.val + 1) % 10 ≤ 5) = ((cfg0.win 8).flush t || (cfg0.idle 8 (cfg0.grid.coords t) && decide (t.val % 10 ≤ 5))) := by decide +kernel
/-- The points before the one that writes the values find them fresh. -/
theorem fresh_8 (t : Fin cfg0.N) : cfg0.fresh 8 t.val = decide (t.val % 10 ≤ 5) :=
  Pipeline.Cfg.fresh_tab cfg0 8 (fun n => decide (n % 10 ≤ 5)) rfl step_8 t.val (Nat.le_of_lt t.isLt)

/-- Within a row, window 8 keeps what its column wrote. -/
theorem carry_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ _ hf
  have h : t.val % 10 ≠ 0 := fun h => by rw [fresh_8 t, h] at hf; exact absurd hf (by decide)
  rw [after_8, after_8, rowPt_pred t _ h]

/-- Where window 8 is not written, the body leaves it as it found it. -/
theorem leave_8 (c : Dev nD) (t : Fin cfg0.N) (h : t.val % 10 ≠ 5) (d) :
    owns (c : Thread nD τ) (buf_8 t) fullShare ((dats m 0 c).before 8 t d) ⊢ (dats m 0 c).leavesExact 8 t := by
  by_cases h9 : t.val % 10 = 9
  · have hb : (dats m 0 c).before 8 t d = (dats m 0 c).after 8 t := by
      rw [Dat.before_out_traj _ 8 rfl (fun _ _ => rfl) (carry_8 m c) t.val t rfl d,
        if_neg (by rw [fresh_8 t, h9]; decide), after_8, after_8, rowPt_pred t _ (by omega)]
    rw [hb]
    have hfl : (cfg0.win 8).flush t = true := (by decide +kernel : ∀ t : Fin cfg0.N, t.val % 10 = 9 → (cfg0.win 8).flush t = true) t h9
    unfold Dat.leavesExact
    rw [idle_8 t h, hfl]
  · rw [Dat.leavesExact_idle (dats m 0 c) 8 t (idle_8 t h) (keep_8 t h9)]
    iintro H
    iexists _
    iexact H

/-- The points that leave the mean keys alone. -/
theorem idle_9 : ∀ t : Fin cfg0.N, t.val % 10 ≠ 4 → cfg0.idle 9 (grid0.coords t) = true := by decide +kernel
/-- The points that use the mean keys. -/
theorem live_9 : ∀ t : Fin cfg0.N, t.val % 10 = 4 → cfg0.idle 9 (grid0.coords t) = false := by decide +kernel
/-- The points that do not send out the mean keys. -/
theorem keep_9 : ∀ t : Fin cfg0.N, t.val % 10 ≠ 9 → (cfg0.win 9).flush t = false := by decide +kernel
/-- Whether the mean keys are fresh at the next point, by its column. -/
theorem step_9 : ∀ t : Fin cfg0.N, decide ((t.val + 1) % 10 ≤ 4) = ((cfg0.win 9).flush t || (cfg0.idle 9 (cfg0.grid.coords t) && decide (t.val % 10 ≤ 4))) := by decide +kernel
/-- The points before the one that writes the mean keys find them fresh. -/
theorem fresh_9 (t : Fin cfg0.N) : cfg0.fresh 9 t.val = decide (t.val % 10 ≤ 4) :=
  Pipeline.Cfg.fresh_tab cfg0 9 (fun n => decide (n % 10 ≤ 4)) rfl step_9 t.val (Nat.le_of_lt t.isLt)

/-- Within a row, window 9 keeps what its column wrote. -/
theorem carry_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ _ hf
  have h : t.val % 10 ≠ 0 := fun h => by rw [fresh_9 t, h] at hf; exact absurd hf (by decide)
  rw [after_9, after_9, rowPt_pred t _ h]

/-- Where window 9 is not written, the body leaves it as it found it. -/
theorem leave_9 (c : Dev nD) (t : Fin cfg0.N) (h : t.val % 10 ≠ 4) (d) :
    owns (c : Thread nD τ) (buf_9 t) fullShare ((dats m 0 c).before 9 t d) ⊢ (dats m 0 c).leavesExact 9 t := by
  by_cases h9 : t.val % 10 = 9
  · have hb : (dats m 0 c).before 9 t d = (dats m 0 c).after 9 t := by
      rw [Dat.before_out_traj _ 9 rfl (fun _ _ => rfl) (carry_9 m c) t.val t rfl d,
        if_neg (by rw [fresh_9 t, h9]; decide), after_9, after_9, rowPt_pred t _ (by omega)]
    rw [hb]
    have hfl : (cfg0.win 9).flush t = true := (by decide +kernel : ∀ t : Fin cfg0.N, t.val % 10 = 9 → (cfg0.win 9).flush t = true) t h9
    unfold Dat.leavesExact
    rw [idle_9 t h, hfl]
  · rw [Dat.leavesExact_idle (dats m 0 c) 9 t (idle_9 t h) (keep_9 t h9)]
    iintro H
    iexists _
    iexact H

/-- An array written piece by piece reads as the pieces do. -/
theorem read_list {κ : Kind} {sp : Space} {s : Shape} {e : EltTy} (v : View sig κ sp s e) (f : v.ty.Contents (Elt F))
    (L L' : List (View.Piece (Elt F) s e)) (hL : L = L') (hc : ∀ y, ∃ p ∈ L', y ∈ p.1.set) (X : Vec F s e) (hX : View.canon L' = X) :
    v.read (Elt F) (v.writes (Elt F) f L) = X := by
  subst hL
  rw [View.read_writes_eq_canon v f L hc, hX]

/-- One piece covers a block of the projection. -/
theorem cover_whole2 (o : Vec F S1024x1024 .f32) : ∀ y, ∃ p ∈ [(⟨Rect.unit (s := S1024x1024) ![0, 0] S1024x1024.size inb_S1024x1024_S1024x1024_0_0, o⟩ : View.Piece (Elt F) S1024x1024 .f32)], y ∈ p.1.set :=
  View.cover_of_tiledL _ S1024x1024.size (by sl_kernel_rfl)

/-- One piece covers a block of values. -/
theorem cover_whole2b (o : Vec F S1024x1024 .bf16) : ∀ y, ∃ p ∈ [(⟨Rect.unit (s := S1024x1024) ![0, 0] S1024x1024.size inb_S1024x1024_S1024x1024_0_0, o⟩ : View.Piece (Elt F) S1024x1024 .bf16)], y ∈ p.1.set :=
  View.cover_of_tiledL _ S1024x1024.size (by sl_kernel_rfl)

/-- One piece covers the normalized rows. -/
theorem cover_wholeh (o : Vec F S1024x2048 .bf16) : ∀ y, ∃ p ∈ [(⟨Rect.unit (s := S1024x2048) ![0, 0] S1024x2048.size inb_S1024x2048_S1024x2048_0_0, o⟩ : View.Piece (Elt F) S1024x2048 .bf16)], y ∈ p.1.set :=
  View.cover_of_tiledL _ S1024x2048.size (by sl_kernel_rfl)

/-- Eight heads cover a block. -/
theorem cover_heads {e : EltTy} (out : Fin 8 → Vec F S1024x128 e) : ∀ y, ∃ p ∈ headPieces out, y ∈ p.1.set :=
  View.cover_of_tiledL _ S1024x128.size (by sl_kernel_rfl)

/-- Eight heads of four blocks cover the mean keys. -/
theorem cover_means (out : Fin 8 → Fin 4 → Vec F S1x1x128 .f32) : ∀ y, ∃ p ∈ meanPieces out, y ∈ p.1.set :=
  View.cover_of_tiledL _ S1x1x128.size (by sl_kernel_rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d))
    ∗ (∃ d, owns (c : Thread nD τ) (buf_5 t) fullShare ((dats m 0 c).before 5 t d))
    ∗ (∃ d, owns (c : Thread nD τ) (buf_6 t) fullShare ((dats m 0 c).before 6 t d))
    ∗ (∃ d, owns (c : Thread nD τ) (buf_7 t) fullShare ((dats m 0 c).before 7 t d))
    ∗ (∃ d, owns (c : Thread nD τ) (buf_8 t) fullShare ((dats m 0 c).before 8 t d))
    ∗ (∃ d, owns (c : Thread nD τ) (buf_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at a row of blocks' first column. -/
theorem body_A (c : Dev nD) (t : Fin cfg0.N) (h : t.val % 10 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Carried m c (t.val + 1) t.isLt from rfl, Carried_succ, carried_at m c t]
  rw [show (dats m 0 c).leavesExact 0 t = owns (c : Thread nD τ) (buf_0 t) fullShare (iblk m c 0 t) from by
    unfold Dat.leavesExact; rw [live_0 t, after_0]]
  rw [show (dats m 0 c).leavesExact 1 t = owns (c : Thread nD τ) (buf_1 t) fullShare (iblk m c 1 t) from by
    unfold Dat.leavesExact; rw [live_1 t, after_1]]
  rw [show (dats m 0 c).leavesExact 2 t = owns (c : Thread nD τ) (buf_2 t) fullShare (iblk m c 2 t) from by
    unfold Dat.leavesExact; rw [live_2 t, after_2]]
  rw [show (dats m 0 c).leavesExact 3 t = owns (c : Thread nD τ) (buf_3 t) fullShare (iblk m c 3 t) from by
    unfold Dat.leavesExact; rw [live_3 t, after_3]]
  rw [show (dats m 0 c).leavesExact 4 t = owns (c : Thread nD τ) (buf_4 t) fullShare (iblk m c 4 t) from by
    unfold Dat.leavesExact; rw [live_4 t, after_4]]
  rw [show (dats m 0 c).leavesExact 5 t = owns (c : Thread nD τ) (buf_5 t) fullShare (oAt m c t) from by
    unfold Dat.leavesExact; rw [live_5 t, after_5]]
  by_cases hz : t.val = 0
  · rw [Carried_zero m c _ _ hz, rest_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ ((at_iff 0 (by decide) t).mpr h) (fun q => by have := (at_iff 3 (by decide) t).mp q; omega) (fun q => by have := (at_iff 4 (by decide) t).mp q; omega) (fun q => by have := (at_iff 5 (by decide) t).mp q; omega) (iblk m c 0 t) (iblk m c 1 t) (iblk m c 2 t) (iblk m c 3 t) (iblk m c 4 t)).2.2 _ _ _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    isplitl [HS0]; · iexact HS0
    iintro ⟨H0, H1, H2, H3, H4, ⟨%e5, H5⟩, H6, H7, H8, H9, ⟨%es, HS0⟩⟩
    isplitl [HS0 Hg]
    · isplitl [HS0]
      · unfold owns; iexists _; isplitr
        swap; · iexact HS0
        ipureintro; exact read_list _ _ _ _ (storesA_h ..) (cover_wholeh _) _ ((View.canon_unit_zero zero2 _ _).trans (hAt_first m c t h).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact read_list _ _ _ _ (storesA_o ..) (cover_whole2 _) _ ((View.canon_unit_zero zero2 _ _).trans (by unfold oAt; rw [hAt_first m c t h]))
    isplitl [H6]
    · iapply (leave_6 m c t (by omega) d6)
      iexact H6
    isplitl [H7]
    · iapply (leave_7 m c t (by omega) d7)
      iexact H7
    isplitl [H8]
    · iapply (leave_8 m c t (by omega) d8)
      iexact H8
    iapply (leave_9 m c t (by omega) d9)
    iexact H9
  · rw [Carried_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ ((at_iff 0 (by decide) t).mpr h) (fun q => by have := (at_iff 3 (by decide) t).mp q; omega) (fun q => by have := (at_iff 4 (by decide) t).mp q; omega) (fun q => by have := (at_iff 5 (by decide) t).mp q; omega) (iblk m c 0 t) (iblk m c 1 t) (iblk m c 2 t) (iblk m c 3 t) (iblk m c 4 t)).2.2 _ _ _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    isplitl [HS0]; · iexists _; iexact HS0
    iintro ⟨H0, H1, H2, H3, H4, ⟨%e5, H5⟩, H6, H7, H8, H9, ⟨%es, HS0⟩⟩
    isplitl [HS0 Hg]
    · isplitl [HS0]
      · unfold owns; iexists _; isplitr
        swap; · iexact HS0
        ipureintro; exact read_list _ _ _ _ (storesA_h ..) (cover_wholeh _) _ ((View.canon_unit_zero zero2 _ _).trans (hAt_first m c t h).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact read_list _ _ _ _ (storesA_o ..) (cover_whole2 _) _ ((View.canon_unit_zero zero2 _ _).trans (by unfold oAt; rw [hAt_first m c t h]))
    isplitl [H6]
    · iapply (leave_6 m c t (by omega) d6)
      iexact H6
    isplitl [H7]
    · iapply (leave_7 m c t (by omega) d7)
      iexact H7
    isplitl [H8]
    · iapply (leave_8 m c t (by omega) d8)
      iexact H8
    iapply (leave_9 m c t (by omega) d9)
    iexact H9

set_option maxHeartbeats 4000000 in
/-- The body at a column that only projects. -/
theorem body_B (c : Dev nD) (t : Fin cfg0.N) (h0 : t.val % 10 ≠ 0) (h3 : t.val % 10 ≠ 3) (h4 : t.val % 10 ≠ 4) (h5 : t.val % 10 ≠ 5) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Carried m c (t.val + 1) t.isLt from rfl, Carried_succ, carried_at m c t]
  rw [show (dats m 0 c).leavesExact 0 t = owns (c : Thread nD τ) (buf_0 t) fullShare (iblk m c 0 t) from by
    unfold Dat.leavesExact; rw [live_0 t, after_0]]
  rw [show (dats m 0 c).leavesExact 1 t = owns (c : Thread nD τ) (buf_1 t) fullShare (iblk m c 1 t) from by
    unfold Dat.leavesExact; rw [live_1 t, after_1]]
  rw [show (dats m 0 c).leavesExact 2 t = owns (c : Thread nD τ) (buf_2 t) fullShare (iblk m c 2 t) from by
    unfold Dat.leavesExact; rw [live_2 t, after_2]]
  rw [show (dats m 0 c).leavesExact 3 t = owns (c : Thread nD τ) (buf_3 t) fullShare (iblk m c 3 t) from by
    unfold Dat.leavesExact; rw [live_3 t, after_3]]
  rw [show (dats m 0 c).leavesExact 4 t = owns (c : Thread nD τ) (buf_4 t) fullShare (iblk m c 4 t) from by
    unfold Dat.leavesExact; rw [live_4 t, after_4]]
  rw [show (dats m 0 c).leavesExact 5 t = owns (c : Thread nD τ) (buf_5 t) fullShare (oAt m c t) from by
    unfold Dat.leavesExact; rw [live_5 t, after_5]]
  rw [Carried_pos m c _ _ (fun q => by rw [q] at h0; exact h0 rfl), hAt_pred m c t (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) _ _ _ _ _ _ _ _ _ _ _ _ _ _ _ _ _ _ _ _ _ _ (fun q => h0 ((at_iff 0 (by decide) t).mp q)) (fun q => h3 ((at_iff 3 (by decide) t).mp q)) (fun q => h4 ((at_iff 4 (by decide) t).mp q)) (fun q => h5 ((at_iff 5 (by decide) t).mp q)) (iblk m c 0 t) (iblk m c 1 t) (iblk m c 2 t) (iblk m c 3 t) (iblk m c 4 t) (hAt m c t)).2 _ _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [H9]; · iexact H9
  isplitl [HS0]; · iexact HS0
  iintro ⟨H0, H1, H2, H3, H4, ⟨%e5, H5⟩, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_list _ _ _ _ (storesB_o ..) (cover_whole2 _) _ (View.canon_unit_zero zero2 _ _)
  isplitl [H6]
  · iapply (leave_6 m c t h3 d6)
    iexact H6
  isplitl [H7]
  · iapply (leave_7 m c t h4 d7)
    iexact H7
  isplitl [H8]
  · iapply (leave_8 m c t h5 d8)
    iexact H8
  iapply (leave_9 m c t h4 d9)
  iexact H9

set_option maxHeartbeats 4000000 in
/-- The body at the query column. -/
theorem body_C (c : Dev nD) (t : Fin cfg0.N) (h : t.val % 10 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Carried m c (t.val + 1) t.isLt from rfl, Carried_succ, carried_at m c t]
  rw [show (dats m 0 c).leavesExact 0 t = owns (c : Thread nD τ) (buf_0 t) fullShare (iblk m c 0 t) from by
    unfold Dat.leavesExact; rw [live_0 t, after_0]]
  rw [show (dats m 0 c).leavesExact 1 t = owns (c : Thread nD τ) (buf_1 t) fullShare (iblk m c 1 t) from by
    unfold Dat.leavesExact; rw [live_1 t, after_1]]
  rw [show (dats m 0 c).leavesExact 2 t = owns (c : Thread nD τ) (buf_2 t) fullShare (iblk m c 2 t) from by
    unfold Dat.leavesExact; rw [live_2 t, after_2]]
  rw [show (dats m 0 c).leavesExact 3 t = owns (c : Thread nD τ) (buf_3 t) fullShare (iblk m c 3 t) from by
    unfold Dat.leavesExact; rw [live_3 t, after_3]]
  rw [show (dats m 0 c).leavesExact 4 t = owns (c : Thread nD τ) (buf_4 t) fullShare (iblk m c 4 t) from by
    unfold Dat.leavesExact; rw [live_4 t, after_4]]
  rw [show (dats m 0 c).leavesExact 5 t = owns (c : Thread nD τ) (buf_5 t) fullShare (oAt m c t) from by
    unfold Dat.leavesExact; rw [live_5 t, after_5]]
  rw [show (dats m 0 c).leavesExact 6 t = owns (c : Thread nD τ) (buf_6 t) fullShare (qAt m c t) from by
    unfold Dat.leavesExact; rw [live_6 t h, after_6, rowPt_self t _ h]]
  rw [Carried_pos m c _ _ (fun q => by omega), hAt_pred m c t (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runC c (grid0.coords t) _ _ _ _ _ _ _ _ _ _ _ _ _ _ _ _ _ _ _ _ _ _ (fun q => by have := (at_iff 0 (by decide) t).mp q; omega) ((at_iff 3 (by decide) t).mpr h) (fun q => by have := (at_iff 4 (by decide) t).mp q; omega) (fun q => by have := (at_iff 5 (by decide) t).mp q; omega) (iblk m c 0 t) (iblk m c 1 t) (iblk m c 2 t) (iblk m c 3 t) (iblk m c 4 t) (hAt m c t)).2.2 _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [H9]; · iexact H9
  isplitl [HS0]; · iexact HS0
  iintro ⟨H0, H1, H2, H3, H4, ⟨%e5, H5⟩, ⟨%e6, H6⟩, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_list _ _ _ _ (storesC_o ..) (cover_whole2 _) _ (View.canon_unit_zero zero2 _ _)
  isplitl [H6]
  · unfold owns; iexists _; isplitr
    swap; · iexact H6
    ipureintro; exact read_list _ _ _ _ (storesC_q ..) (cover_heads _) _ rfl
  isplitl [H7]
  · iapply (leave_7 m c t (by omega) d7)
    iexact H7
  isplitl [H8]
  · iapply (leave_8 m c t (by omega) d8)
    iexact H8
  iapply (leave_9 m c t (by omega) d9)
  iexact H9

set_option maxHeartbeats 4000000 in
/-- The body at the key column. -/
theorem body_D (c : Dev nD) (t : Fin cfg0.N) (h : t.val % 10 = 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Carried m c (t.val + 1) t.isLt from rfl, Carried_succ, carried_at m c t]
  rw [show (dats m 0 c).leavesExact 0 t = owns (c : Thread nD τ) (buf_0 t) fullShare (iblk m c 0 t) from by
    unfold Dat.leavesExact; rw [live_0 t, after_0]]
  rw [show (dats m 0 c).leavesExact 1 t = owns (c : Thread nD τ) (buf_1 t) fullShare (iblk m c 1 t) from by
    unfold Dat.leavesExact; rw [live_1 t, after_1]]
  rw [show (dats m 0 c).leavesExact 2 t = owns (c : Thread nD τ) (buf_2 t) fullShare (iblk m c 2 t) from by
    unfold Dat.leavesExact; rw [live_2 t, after_2]]
  rw [show (dats m 0 c).leavesExact 3 t = owns (c : Thread nD τ) (buf_3 t) fullShare (iblk m c 3 t) from by
    unfold Dat.leavesExact; rw [live_3 t, after_3]]
  rw [show (dats m 0 c).leavesExact 4 t = owns (c : Thread nD τ) (buf_4 t) fullShare (iblk m c 4 t) from by
    unfold Dat.leavesExact; rw [live_4 t, after_4]]
  rw [show (dats m 0 c).leavesExact 5 t = owns (c : Thread nD τ) (buf_5 t) fullShare (oAt m c t) from by
    unfold Dat.leavesExact; rw [live_5 t, after_5]]
  rw [show (dats m 0 c).leavesExact 7 t = owns (c : Thread nD τ) (buf_7 t) fullShare (kAt m c t) from by
    unfold Dat.leavesExact; rw [live_7 t h, after_7, rowPt_self t _ h]]
  rw [show (dats m 0 c).leavesExact 9 t = owns (c : Thread nD τ) (buf_9 t) fullShare (meanAt m c t) from by
    unfold Dat.leavesExact; rw [live_9 t h, after_9, rowPt_self t _ h]]
  rw [Carried_pos m c _ _ (fun q => by omega), hAt_pred m c t (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runD c (grid0.coords t) _ _ _ _ _ _ _ _ _ _ _ _ _ _ _ _ _ _ _ _ _ _ (fun q => by have := (at_iff 0 (by decide) t).mp q; omega) (fun q => by have := (at_iff 3 (by decide) t).mp q; omega) ((at_iff 4 (by decide) t).mpr h) (fun q => by have := (at_iff 5 (by decide) t).mp q; omega) (iblk m c 0 t) (iblk m c 1 t) (iblk m c 2 t) (iblk m c 3 t) (iblk m c 4 t) (hAt m c t)).2.2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexact H8
  isplitl [H9]; · iexists _; iexact H9
  isplitl [HS0]; · iexact HS0
  iintro ⟨H0, H1, H2, H3, H4, ⟨%e5, H5⟩, H6, ⟨%e7, H7⟩, H8, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_list _ _ _ _ (storesD_o ..) (cover_whole2 _) _ (View.canon_unit_zero zero2 _ _)
  isplitl [H6]
  · iapply (leave_6 m c t (by omega) d6)
    iexact H6
  isplitl [H7]
  · unfold owns; iexists _; isplitr
    swap; · iexact H7
    ipureintro; exact read_list _ _ _ _ (storesD_k ..) (cover_heads _) _ rfl
  isplitl [H8]
  · iapply (leave_8 m c t (by omega) d8)
    iexact H8
  unfold owns; iexists _; isplitr
  swap; · iexact H9
  ipureintro; exact read_list _ _ _ _ (storesD_mean ..) (cover_means _) _ rfl

set_option maxHeartbeats 4000000 in
/-- The body at the value column. -/
theorem body_E (c : Dev nD) (t : Fin cfg0.N) (h : t.val % 10 = 5) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Carried m c (t.val + 1) t.isLt from rfl, Carried_succ, carried_at m c t]
  rw [show (dats m 0 c).leavesExact 0 t = owns (c : Thread nD τ) (buf_0 t) fullShare (iblk m c 0 t) from by
    unfold Dat.leavesExact; rw [live_0 t, after_0]]
  rw [show (dats m 0 c).leavesExact 1 t = owns (c : Thread nD τ) (buf_1 t) fullShare (iblk m c 1 t) from by
    unfold Dat.leavesExact; rw [live_1 t, after_1]]
  rw [show (dats m 0 c).leavesExact 2 t = owns (c : Thread nD τ) (buf_2 t) fullShare (iblk m c 2 t) from by
    unfold Dat.leavesExact; rw [live_2 t, after_2]]
  rw [show (dats m 0 c).leavesExact 3 t = owns (c : Thread nD τ) (buf_3 t) fullShare (iblk m c 3 t) from by
    unfold Dat.leavesExact; rw [live_3 t, after_3]]
  rw [show (dats m 0 c).leavesExact 4 t = owns (c : Thread nD τ) (buf_4 t) fullShare (iblk m c 4 t) from by
    unfold Dat.leavesExact; rw [live_4 t, after_4]]
  rw [show (dats m 0 c).leavesExact 5 t = owns (c : Thread nD τ) (buf_5 t) fullShare (oAt m c t) from by
    unfold Dat.leavesExact; rw [live_5 t, after_5]]
  rw [show (dats m 0 c).leavesExact 8 t = owns (c : Thread nD τ) (buf_8 t) fullShare (vAt m c t) from by
    unfold Dat.leavesExact; rw [live_8 t h, after_8, rowPt_self t _ h]]
  rw [Carried_pos m c _ _ (fun q => by omega), hAt_pred m c t (by omega)]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runE c (grid0.coords t) _ _ _ _ _ _ _ _ _ _ _ _ _ _ _ _ _ _ _ _ _ _ (fun q => by have := (at_iff 0 (by decide) t).mp q; omega) (fun q => by have := (at_iff 3 (by decide) t).mp q; omega) (fun q => by have := (at_iff 4 (by decide) t).mp q; omega) ((at_iff 5 (by decide) t).mpr h) (iblk m c 0 t) (iblk m c 1 t) (iblk m c 2 t) (iblk m c 3 t) (iblk m c 4 t) (hAt m c t)).2.2 _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [H9]; · iexact H9
  isplitl [HS0]; · iexact HS0
  iintro ⟨H0, H1, H2, H3, H4, ⟨%e5, H5⟩, H6, H7, ⟨%e8, H8⟩, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_list _ _ _ _ (storesE_o ..) (cover_whole2 _) _ (View.canon_unit_zero zero2 _ _)
  isplitl [H6]
  · iapply (leave_6 m c t (by omega) d6)
    iexact H6
  isplitl [H7]
  · iapply (leave_7 m c t (by omega) d7)
    iexact H7
  isplitl [H8]
  · unfold owns; iexists _; isplitr
    swap; · iexact H8
    ipureintro; exact read_list _ _ _ _ (storesE_v ..) (cover_whole2b _) _ (View.canon_unit_zero zero2 _ _)
  iapply (leave_9 m c t (by omega) d9)
  iexact H9

/-- The body at any point. -/
theorem body_any (c : Dev nD) (t : Fin cfg0.N) :
    bodyPre m c t ⊢ wp frame (wpE (defs₀ (F := F)) Variants.none c none) Set.univ (bodyAt0 t) (fun _ => bodyPost m c t) := by
  by_cases h0 : t.val % 10 = 0
  · exact body_A m c t h0
  by_cases h3 : t.val % 10 = 3
  · exact body_C m c t h3
  by_cases h4 : t.val % 10 = 4
  · exact body_D m c t h4
  by_cases h5 : t.val % 10 = 5
  · exact body_E m c t h5
  exact body_B m c t h0 h3 h4 h5

/-- The body called at a point is the point's program. -/
theorem row_eq (t : Fin cfg0.N) : defs₀ (F := F) .tc cfg0.body (cfg0.bodyArgs t (cfg0.slots t)) = bodyAt0 t := by
  unfold defs₀; rw [Defs.onTc_tc]

/-- Every point does what is said of it. -/
theorem body_ok (c : Dev nD) : BodyObligation (dats (F := F) m 0 c) (defs₀ (F := F)) Variants.none () Set.univ := fun t => by
  rw [bigSep_W0, bigSep_W0, row_eq]
  exact triple_restated (body_any m c t) rfl .rfl fun _ => .rfl

/-- The launch's memory before the first point. -/
theorem start_ok (c : Dev nD) : Pipeline.ΦA spec0 c ⊢ (dats m 0 c).Φ 0 := by
  rw [show (dats m 0 c).Φ 0 = Carried m c 0 (Nat.zero_le _) from rfl, Carried_zero m c 0 _ rfl]

/-- The launch's memory after the last point. -/
theorem end_ok (c : Dev nD) : (dats m 0 c).Φ (Fin.last cfg0.N) ⊢ Pipeline.ΦA spec0 c := by
  rw [show (dats m 0 c).Φ (Fin.last cfg0.N) = Carried m c (Fin.last cfg0.N).val (Nat.le_of_lt_succ (Fin.last cfg0.N).isLt) from rfl,
    Carried_pos m c _ _ (by rw [Fin.val_last]; have : cfg0.N = 80 := N_0; omega), rest_eq]
  iintro ⟨HS0, Hg⟩
  isplitl [HS0]
  · iexists _; iexact HS0
  iexact Hg

/-- What every run ends with. -/
def Ended (r : PUnit × MemSt nD τ sig (Elt F)) : Prop :=
  Pipeline.FramePost cfgs (dats m) 0 (Pipeline.afterTail₀ cfgs (dats m) 0 (V0 m) [hostOps1]) r

set_option backward.isDefEq.respectTransparency.types false in
/-- The whole run: it ends, with every array at what the points wrote and every semaphore at zero. -/
theorem run_all : θ_run defs (onTc (τ := τ) (main (F := F))) (s₀ m ρ) (fun r => Ended m r ∧ r.2.sem = fun _ => 0) :=
  Pipeline.θ_run_frame_around_track (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := start_ok m) (hout := end_ok m) (hQ' := fun _ h => h)

/-- The frame, over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Kernel2Ideal.Inproj
-- ==== Proof.InMath.lean ====
module

public import Idealize.ShloMosaic.Lib.Pointwise

/-!
# The input projection's mathematics

Rows normalized by the root of their mean square, a product with a matrix, and the turn of a head's first 32 columns
by the position.
-/

@[expose] public section
noncomputable section
namespace Cert.Inproj
open Idealize.ShloMosaic Idealize.ShloMosaic.Pointwise

/-- A row normalized. -/
def hid (x g : Fin 2048 → EReal) (k : Fin 2048) : EReal :=
  x k * Ideal.rsqrt (Ideal.div (∑ i, x i * x i) (Ideal.ofBits .f32 0x45000000#32) + Ideal.ofBits .f32 0x358637BD#32) * g k

/-- A normalized row against a column. -/
def proj (x g w : Fin 2048 → EReal) : EReal := ∑ k, hid x g k * w k

/-- The turning frequency of a column. -/
def freq (i : Fin 16) : EReal :=
  Ideal.div (Ideal.ofBits .f32 0x3F800000#32) (Ideal.pow (Ideal.ofBits .f32 0x48F42400#32)
    (Ideal.div (Ideal.ofBits .f32 0x00000000#32 + Ideal.ofBits .f32 0x40000000#32 * (((i.val : ℝ)) : EReal)) (Ideal.ofBits .f32 0x42000000#32)))

/-- The position's angle. -/
def angle (p : BitVec 32) (i : Fin 16) : EReal := ((p.toInt : ℝ) : EReal) * freq i

/-- A head's columns turned by the position. -/
def turn (p : BitVec 32) (a : Fin 128 → EReal) (d : Fin 128) : EReal :=
  if h : d.val < 16 then a d * Ideal.cos (angle p ⟨d.val, h⟩) - a ⟨d.val + 16, by omega⟩ * Ideal.sin (angle p ⟨d.val, h⟩)
  else if h' : d.val < 32 then a d * Ideal.cos (angle p ⟨d.val - 16, by omega⟩) + a ⟨d.val - 16, by omega⟩ * Ideal.sin (angle p ⟨d.val - 16, by omega⟩)
  else a d

section arrays
variable (x : (⟨3, ![2, 4096, 2048]⟩ : Shape).Idx → EReal) (p : (⟨2, ![2, 4096]⟩ : Shape).Idx → BitVec 32)
  (g : (⟨2, ![1, 2048]⟩ : Shape).Idx → EReal) (w : (⟨3, ![1, 2048, 10240]⟩ : Shape).Idx → EReal)

/-- A row's batch. -/
def batchOf (R : Fin 8192) : Fin 2 := ⟨R.val / 4096, by omega⟩
/-- A row's place in its batch. -/
def placeOf (R : Fin 8192) : Fin 4096 := ⟨R.val % 4096, by omega⟩

/-- The projection at a row and a column. -/
def projAt (R : Fin 8192) (n : Fin 10240) : EReal :=
  proj (fun k => x (ix3 (batchOf R) (placeOf R) k)) (fun k => g (ix2 0 k)) (fun k => w (ix3 0 k n))

/-- Column `d` of head `h`, in the columns from `3072 + 1024 * s`: queries at `s = 0`, keys at 1, values at 2. -/
def headCol (s : Fin 3) (h : Fin 8) (d : Fin 128) : Fin 10240 := ⟨3072 + 1024 * s.val + 128 * h.val + d.val, by omega⟩

/-- The queries (`s = 0`) or keys (`s = 1`), turned. -/
def turnAt (s : Fin 3) (R : Fin 8192) (h : Fin 8) (d : Fin 128) : EReal :=
  turn (p (ix2 (batchOf R) (placeOf R))) (fun d => projAt x g w R (headCol s h d)) d

/-- The values. -/
def valAt (R : Fin 8192) (h : Fin 8) (d : Fin 128) : EReal := projAt x g w R (headCol 2 h d)

/-- The mean key of a block of 256 rows. -/
def meanKey (B : Fin 32) (h : Fin 8) (d : Fin 128) : EReal :=
  Ideal.div (∑ r : Fin 256, turnAt x p g w 1 ⟨256 * B.val + r.val, by omega⟩ h d) (Ideal.ofBits .f32 0x43800000#32)

/-- The head of a column. -/
def headOf (c : Fin 1024) : Fin 8 := ⟨c.val / 128, by omega⟩
/-- A column's place in its head. -/
def laneOf (c : Fin 1024) : Fin 128 := ⟨c.val % 128, by omega⟩

/-- The projection. -/
def projArr : (⟨2, ![8192, 10240]⟩ : Shape).Idx → EReal := fun y => projAt x g w (y 0) (y 1)
/-- The turned queries or keys. -/
def turnArr (s : Fin 3) : (⟨2, ![8192, 1024]⟩ : Shape).Idx → EReal := fun y => turnAt x p g w s (y 0) (headOf (y 1)) (laneOf (y 1))
/-- The values. -/
def valArr : (⟨2, ![8192, 1024]⟩ : Shape).Idx → EReal := fun y => valAt x g w (y 0) (headOf (y 1)) (laneOf (y 1))
/-- The mean keys. -/
def meanArr : (⟨3, ![32, 1, 1024]⟩ : Shape).Idx → EReal := fun y => meanKey x p g w (y 0) (headOf (y 2)) (laneOf (y 2))
/-- The mean keys, by batch. -/
def meanArr2 : (⟨3, ![2, 16, 1024]⟩ : Shape).Idx → EReal := fun y =>
  meanKey x p g w ⟨16 * (y 0).val + (y 1).val, by have h0 : (y 0).val < 2 := (y 0).isLt; have h1 : (y 1).val < 16 := (y 1).isLt; omega⟩ (headOf (y 2)) (laneOf (y 2))

end arrays
end Cert.Inproj
-- ==== Proof.InApply.lean ====
module

public import proofs.«01_k».proof.Proof.InVals
public import proofs.«01_k».proof.Proof.InMath
public import Idealize.ShloMosaic.Lib.WordCmp

/-!
# The body's values, read at an index
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Pointwise Cert.Inproj
open Idealize.ShloMosaic.WordCmp (cmpi_slt_ofNat select_decide)

/-- The normalized rows. -/
theorem hBlk_apply (x0 : FVec Ideal S1024x2048 .f32) (x1 : FVec Ideal S1x2048 .f32) (r : Fin 1024) (k : Fin 2048) :
    hBlk (F := Ideal) x0 x1 (ix2 r k) = hid (fun k => x0 (ix2 r k)) (fun k => x1 (ix2 0 k)) k := by
  unfold hid
  pointwise [hBlk, k0_pay1]

/-- A block of the projection. -/
theorem oBlk_apply (h : FVec Ideal S1024x2048 .bf16) (w : FVec Ideal S2048x1024 .bf16) (r : Fin 1024) (c : Fin 1024) :
    oBlk (F := Ideal) h w (ix2 r c) = ∑ k, h (ix2 r k) * w (ix2 k c) := by
  pointwise [oBlk, k0_pay2]

/-- The values. -/
theorem vBlk_apply (o : FVec Ideal S1024x1024 .f32) (r c : Fin 1024) : vBlk (F := Ideal) o (ix2 r c) = o (ix2 r c) := by
  pointwise [vBlk, k0_pay8]

/-- The cosines. -/
theorem cos_apply (x3 : IVec S1024x1 32) (x4 : FVec Ideal S1x128 .f32) (r : Fin 1024) (d : Fin 128) :
    k0_pay10 (F := Ideal) x3 x4 (ix2 r d) = Ideal.cos ((((x3 (ix2 r 0)).toInt : ℝ) : EReal) * x4 (ix2 0 d)) := by
  pointwise [k0_pay10, k0_pay9]
  rfl

/-- The sines that turn the first sixteen columns. -/
theorem lo_apply (x3 : IVec S1024x1 32) (x4 : FVec Ideal S1x128 .f32) (r : Fin 1024) (d : Fin 128) :
    k0_pay12 (F := Ideal) x3 x4 (ix2 r d) = if d.val < 16 then - Ideal.sin ((((x3 (ix2 r 0)).toInt : ℝ) : EReal) * x4 (ix2 0 d)) else 0 := by
  pointwise [k0_pay12, k0_pay11, k0_pay9]
  rw [cmpi_slt_ofNat (by omega) (by omega), select_decide, zero_sub]
  rfl

/-- The sines that turn the second sixteen columns. -/
theorem hi_apply (x3 : IVec S1024x1 32) (x4 : FVec Ideal S1x128 .f32) (r : Fin 1024) (d : Fin 128) :
    k0_pay13 (F := Ideal) x3 x4 (ix2 r d) = if 16 ≤ d.val ∧ d.val < 32 then Ideal.sin ((((x3 (ix2 r 0)).toInt : ℝ) : EReal) * x4 (ix2 0 d)) else 0 := by
  have hb : ∀ d : Fin 128, IntOp.andi (IntOp.cmpi .sge (BitVec.ofNat 32 d.val) 16#32) (IntOp.cmpi .slt (BitVec.ofNat 32 d.val) 32#32)
      = BitVec.ofBool (decide (16 ≤ d.val ∧ d.val < 32)) := by decide +kernel
  pointwise [k0_pay13, k0_pay11, k0_pay9]
  rw [hb d, select_decide]
  rfl

/-- The turn, before its sines are known. -/
theorem turn_apply (cs lo hi a : FVec Ideal S1024x128 .f32) (r : Fin 1024) (d : Fin 128) :
    k0_pay3 (F := Ideal) cs lo hi a (ix2 r d) = a (ix2 r d) * cs (ix2 r d) + a (ix2 r ⟨(d.val + 128 - 112) % 128, by omega⟩) * lo (ix2 r d)
      + a (ix2 r ⟨(d.val + 128 - 16) % 128, by omega⟩) * hi (ix2 r d) := by
  pointwise [k0_pay3]

/-- The mean of 256 rows. -/
theorem mean_apply (a : FVec Ideal S1024x128 .f32) (b : Fin 4) (d : Fin 128) :
    blockMean (F := Ideal) a b (ix3 0 0 d) = Ideal.div (∑ r : Fin 256, a (ix2 ⟨256 * b.val + r.val, by omega⟩ d)) (Ideal.ofBits .f32 0x43800000#32) := by
  fin_cases b
  · pointwise [blockMean, rowsMean, k0_pay6]
  · pointwise [blockMean, rowsMean, k0_pay6]
  · pointwise [blockMean, rowsMean, k0_pay6]
  · pointwise [blockMean, rowsMean, k0_pay6]

/-- The turned columns of a head, where the frequencies are the first 32 columns' and zero beyond. -/
theorem turned_apply (x3 : IVec S1024x1 32) (x4 : FVec Ideal S1x128 .f32) (a : FVec Ideal S1024x128 .f32) (r : Fin 1024) (d : Fin 128)
    (hx : ∀ d : Fin 128, x4 (ix2 0 d) = if d.val < 32 then freq ⟨d.val % 16, by omega⟩ else 0) :
    turned (F := Ideal) x3 x4 a (ix2 r d) = turn (x3 (ix2 r 0)) (fun d => a (ix2 r d)) d := by
  unfold turned turn
  rw [turn_apply, cos_apply, lo_apply, hi_apply, hx d]
  by_cases h : d.val < 16
  · have e1 : (⟨(d.val + 128 - 112) % 128, by omega⟩ : Fin 128) = ⟨d.val + 16, by omega⟩ := Fin.ext (by show (d.val + 128 - 112) % 128 = d.val + 16; omega)
    have e2 : (⟨d.val % 16, by omega⟩ : Fin 16) = ⟨d.val, h⟩ := Fin.ext (Nat.mod_eq_of_lt h)
    rw [dif_pos h, if_pos h, if_neg (show ¬(16 ≤ d.val ∧ d.val < 32) by omega), if_pos (show d.val < 32 by omega), mul_zero, add_zero, e1, e2, mul_neg, sub_eq_add_neg]
    rfl
  by_cases h' : d.val < 32
  · have e1 : (⟨(d.val + 128 - 16) % 128, by omega⟩ : Fin 128) = ⟨d.val - 16, by omega⟩ := Fin.ext (by show (d.val + 128 - 16) % 128 = d.val - 16; omega)
    have e2 : (⟨d.val % 16, by omega⟩ : Fin 16) = ⟨d.val - 16, by omega⟩ := Fin.ext (by show d.val % 16 = d.val - 16; omega)
    rw [dif_neg h, dif_pos h', if_neg h, if_pos (show 16 ≤ d.val ∧ d.val < 32 by omega), if_pos h', mul_zero, add_zero, e1, e2]
    rfl
  · rw [dif_neg h, dif_neg h', if_neg h, if_neg (show ¬(16 ≤ d.val ∧ d.val < 32) by omega), if_neg h', mul_zero, mul_zero, mul_zero, add_zero, add_zero]
    have : Ideal.cos 0 = 1 := by
      show ((Real.cos 0 : ℝ) : EReal) = 1
      rw [Real.cos_zero, EReal.coe_one]
    rw [this, mul_one]

/-- The columns of head `h` among 1024. -/
def colOf (h : Fin 8) (d : Fin 128) : Fin 1024 := ⟨128 * h.val + d.val, by omega⟩

/-- Eight heads' columns, read back. -/
theorem heads_canon {e : EltTy} (out : Fin 8 → Vec Ideal S1024x128 e) (r : Fin 1024) (h : Fin 8) (d : Fin 128) :
    View.canon (headPieces out) (ix2 r (colOf h d)) = out h (ix2 r d) := by
  have key : ∀ (k : Fin 8) (x : S1024x128.Idx), r.val = (x 0).val → 128 * h.val + d.val = 128 * k.val + (x 1).val → (x 1).val < 128 →
      out k x = out h (ix2 r d) := by
    intro k x h0 h1 hlt
    have hk : k = h := Fin.ext (by omega)
    subst hk
    congr 1
    funext a
    match a with
    | ⟨0, _⟩ => exact Fin.ext h0.symm
    | ⟨1, _⟩ => exact Fin.ext (by show (x 1).val = d.val; omega)
  unfold headPieces
  canon_tiles x hx
  · exact key 7 x hx0 hx1 x1_lt
  · exact key 6 x hx0 hx1 x1_lt
  · exact key 5 x hx0 hx1 x1_lt
  · exact key 4 x hx0 hx1 x1_lt
  · exact key 3 x hx0 hx1 x1_lt
  · exact key 2 x hx0 hx1 x1_lt
  · exact key 1 x hx0 hx1 x1_lt
  · exact key 0 x hx0 (Eq.trans (show 128 * h.val + d.val = (x 1).val from hx1) (Nat.zero_add _).symm) x1_lt

end Cert.Kernel2Ideal.Inproj
-- ==== Proof.InMeans.lean ====
module

public import proofs.«01_k».proof.Proof.InApply

/-!
# The mean keys, read back
-/

@[expose] public section
set_option maxRecDepth 16384
noncomputable section
namespace Cert.Kernel2Ideal.Inproj
open Cert.Kernel2Ideal Cert.Kernel2Ideal.Gen
open Idealize.ShloMosaic Idealize.ShloMosaic.TcCoe Idealize.ShloMosaic.Pointwise Cert.Inproj

/-- Thirty-two means, read back. -/
theorem means_canon (out : Fin 8 → Fin 4 → Vec Ideal S1x1x128 .f32) (b : Fin 4) (h : Fin 8) (d : Fin 128) :
    View.canon (meanPieces out) (ix3 b 0 (colOf h d)) = out h b (ix3 0 0 d) := by
  have key : ∀ (k : Fin 8) (j : Fin 4) (x : S1x1x128.Idx), b.val = j.val + (x 0).val → 128 * h.val + d.val = 128 * k.val + (x 2).val → (x 0).val < 1 → (x 2).val < 128 →
      out k j x = out h b (ix3 0 0 d) := by
    intro k j x h0 h1 hl0 hlt
    have hk : k = h := Fin.ext (by omega)
    have hj : j = b := Fin.ext (by omega)
    subst hk hj
    congr 1
    funext a
    match a with
    | ⟨0, _⟩ => exact Fin.ext (by show (x 0).val = 0; omega)
    | ⟨1, _⟩ => exact Fin.ext (by have : (x 1).val < 1 := (x 1).isLt; show (x 1).val = 0; omega)
    | ⟨2, _⟩ => exact Fin.ext (by show (x 2).val = d.val; omega)
  unfold meanPieces
  canon_tiles x hx
  · exact key 7 3 x hx0 hx2 x0_lt x2_lt
  · exact key 7 2 x hx0 hx2 x0_lt x2_lt
  · exact key 7 1 x hx0 hx2 x0_lt x2_lt
  · exact key 7 0 x (Eq.trans (show b.val = (x 0).val from hx0) (Nat.zero_add _).symm) hx2 x0_lt x2_lt
  · exact key 6 3 x hx0 hx2 x0_lt x2_lt
  · exact key 6 2 x hx0 hx2 x0_lt x2_lt
  · exact key 6 1 x hx0 hx2 x0_lt x2_lt
  · exact key 6 0 x (Eq.trans (show b.val = (x 0).val from hx0) (Nat.zero_add _).symm) hx2 x0_lt x2_lt
  · exact key 5 3 x hx0 hx2 x0_lt x2_lt
  · exact key 5 2 x hx0 hx2 x0_lt x2_lt
  · exact key 5 1 x hx0 hx2 x0_lt x2_lt
  · exact key 5 0 x (Eq.trans (show b.val = (x 0).val from hx0) (Nat.zero_add _).symm) hx2 x0_lt x2_lt
  · exact key 4 3 x hx0 hx2 x0_lt x2_lt
  · exact key 4 2 x hx0 hx2 x0_lt x2_lt
  · exact key 4 1 x hx0 hx2 x0_lt x2_lt
  · exact key 4 0 x (Eq.trans (show b.val = (x 0).val from hx0) (Nat.zero_add _).symm) hx2 x0_lt x2_lt
  · exact key 3 3 x hx0 hx2 x0_lt x2_lt
  · exact key 3 2 x hx0 hx2 x0_lt x2_lt
  · exact key 3 1 x hx0 hx2 x0_lt x2_lt
  · exact key 3 0 x (Eq.trans (show b.val = (x 0).val from hx0) (Nat.zero_add _).symm) hx2 x0_lt x2_lt
  · exact key 2 3 x hx0 hx2 x0_lt x2_lt
  · exact key 2 2 x hx0 hx2 x0_lt x2_lt
  · exact key 2 1 x hx0 hx2 x0_lt x2_lt
  · exact key 2 0 x (Eq.trans (show b.val = (x 0).val from hx0) (Nat.zero_add _).symm) hx2 x0_lt x2_lt
  · exact key 1 3 x hx0 hx2 x0_lt x2_lt
  · exact key 1 2 x hx0 hx2 x0_lt x2_lt
  · exact key 1 1 x hx0 hx2 x0_lt x2_lt
  · exact key 1 0 x (Eq.trans (show b.val = (x 0).val from hx0) (Nat.zero_add _).symm) hx2 x0_lt x2_lt
  · exact key 0 3 x hx0 (Eq.trans (show 128 * h.val + d.val = (x 2).val from hx2) (Nat.zero_add _).symm) x0_lt x2_lt
  · exact key 0 2 x hx0 (Eq.trans (show 128 * h.val + d.val = (x 2).val from hx2) (Nat.zero_add _).symm) x0_lt x2_lt
  · exact key 0 1 x hx0 (Eq.trans (show 128 * h.val + d.val = (x 2).val from hx2) (Nat.zero_add _).symm) x0_lt x2_lt
  · exact key 0 0 x (Eq.trans (show b.val = (x 0).val from hx0) (Nat.zero_add _).symm) (Eq.trans (show 128 * h.val + d.val = (x 2).val from hx2) (Nat.zero_add _).symm) x0_lt x2_lt

end Cert.Kernel2Ideal.Inproj
-- ==== Proof.InStart.lean ====
module

public import proofs.«01_k».proof.Proof.InFrame
public import proofs.«01_k».proof.Proof.InMeans

/-!
# The arrays the input projection starts from
-/

@[expose] public section
set_option maxRecDepth 16384
noncomputable section
namespace Cert.Kernel2Ideal.Inproj
open Cert.Kernel2Ideal Cert.Kernel2Ideal.Gen
open Idealize.ShloMosaic Idealize.ShloMosaic.TcCoe Idealize.SL.Sem Idealize.ShloMosaic.Pointwise Cert.Inproj
open Idealize.ShloMosaic.StableHlo
variable (m : (ℓ : Loc nD τ sig) → Buf (Elt Ideal) ℓ) (c : Dev nD)

/-- Rows by batch and place. -/
theorem split_x (x : FVec Ideal S2x4096x2048 .f32) (R : Fin 8192) (k : Fin 2048) :
    shapeCast S8192x2048 x shapeCasts_S2x4096x2048_S8192x2048 (ix2 R k) = x (ix3 (batchOf R) (placeOf R) k) := by
  pointwise [batchOf, placeOf]

/-- Positions by batch and place. -/
theorem split_pos (x : IVec S2x4096 32) (R : Fin 8192) :
    shapeCast S8192x1 x shapeCasts_S2x4096_S8192x1 (ix2 R 0) = x (ix2 (batchOf R) (placeOf R)) := by
  pointwise [batchOf, placeOf]

/-- The rows. -/
theorem start_x (R : Fin 8192) (k : Fin 2048) :
    (V m c main_v0 : FVec Ideal S8192x2048 .f32) (ix2 R k) = m ((c.tc : Thread nD τ).loc main_arg0) (ix3 (batchOf R) (placeOf R) k) := by
  have h : (V m c main_v0 : FVec Ideal S8192x2048 .f32) = shapeCast S8192x2048 (m ((c.tc : Thread nD τ).loc main_arg0) : FVec Ideal S2x4096x2048 .f32) shapeCasts_S2x4096x2048_S8192x2048 := by
    first | rfl | (dsimp only [V, V0]; after_results_simp <;> rfl)
  exact (congrFun h _).trans (split_x _ R k)

/-- The positions. -/
theorem start_pos (R : Fin 8192) :
    (V m c main_v1 : IVec S8192x1 32) (ix2 R 0) = m ((c.tc : Thread nD τ).loc main_arg1) (ix2 (batchOf R) (placeOf R)) := by
  have h : (V m c main_v1 : IVec S8192x1 32) = shapeCast S8192x1 (m ((c.tc : Thread nD τ).loc main_arg1) : IVec S2x4096 32) shapeCasts_S2x4096_S8192x1 := by
    first | rfl | (dsimp only [V, V0]; after_results_simp <;> rfl)
  exact (congrFun h _).trans (split_pos _ R)

/-- The gains as a row. -/
theorem split_g (x : FVec Ideal S1x2048 .f32) (k : Fin 2048) :
    broadcastInDim S1x2048 ![1] bcast_S2048_S1x2048_1 (shapeCast S2048 x shapeCasts_S1x2048_S2048) (ix2 0 k) = x (ix2 0 k) := by
  pointwise

/-- The gains. -/
theorem start_g (k : Fin 2048) :
    (V m c main_v18 : FVec Ideal S1x2048 .f32) (ix2 0 k) = m ((c.tc : Thread nD τ).loc main_arg2) (ix2 0 k) := by
  have h : (V m c main_v18 : FVec Ideal S1x2048 .f32) = broadcastInDim S1x2048 ![1] bcast_S2048_S1x2048_1 (shapeCast S2048 (m ((c.tc : Thread nD τ).loc main_arg2) : FVec Ideal S1x2048 .f32) shapeCasts_S1x2048_S2048) := by
    first | rfl | (dsimp only [V, V0]; after_results_simp <;> rfl)
  exact (congrFun h _).trans (split_g _ k)

/-- The weights as a matrix. -/
theorem split_w (x : FVec Ideal S1x2048x10240 .f32) (k : Fin 2048) (n : Fin 10240) :
    truncf (F := Ideal) .bf16 (shapeCast S2048x10240 x shapeCasts_S1x2048x10240_S2048x10240) bitsLt_bf16_f32 (ix2 k n) = x (ix3 0 k n) := by
  pointwise

/-- The weights. -/
theorem start_w (k : Fin 2048) (n : Fin 10240) :
    (V m c main_v19 : FVec Ideal S2048x10240 .bf16) (ix2 k n) = m ((c.tc : Thread nD τ).loc main_arg3) (ix3 0 k n) := by
  have h : (V m c main_v19 : FVec Ideal S2048x10240 .bf16) = truncf (F := Ideal) .bf16 (shapeCast S2048x10240 (m ((c.tc : Thread nD τ).loc main_arg3) : FVec Ideal S1x2048x10240 .f32) shapeCasts_S1x2048x10240_S2048x10240) bitsLt_bf16_f32 := by
    first | rfl | (dsimp only [V, V0]; after_results_simp <;> rfl)
  exact (congrFun h _).trans (split_w _ k n)

/-- The turning frequencies as the host computes them. -/
def freqs : FVec Ideal S16 .f32 :=
  Host.divf (broadcastInDim S16 ![] bcast_S_S16 (constant S_ .f32 0x3F800000#32)) (Host.powf (broadcastInDim S16 ![] bcast_S_S16 (constant S_ .f32 0x48F42400#32))
    (Host.divf (addf (broadcastInDim S16 ![] bcast_S_S16 (constant S_ .f32 0x00000000#32)) (mulf (broadcastInDim S16 ![] bcast_S_S16 (constant S_ .f32 0x40000000#32)) (sitofp .f32 (iotaInDim S16 32 0))))
      (broadcastInDim S16 ![] bcast_S_S16 (constant S_ .f32 0x42000000#32))))

/-- The turning frequencies. -/
theorem freqs_apply (i : Fin 16) : freqs (ix1 i) = freq i := by
  unfold freq
  pointwise [freqs]
  rw [show (FloatOps.sitofp (F := Ideal) .f32 (BitVec.ofNat 32 i.val)) = ((i.val : ℝ) : EReal) from ?_]
  show (((BitVec.ofNat 32 i.val).toInt : ℝ) : EReal) = _
  rw [show (BitVec.ofNat 32 i.val).toInt = (i.val : ℤ) from by revert i; decide +kernel]
  rfl

/-- Two copies of sixteen numbers, then zeros. -/
theorem spread_apply (f : FVec Ideal S16 .f32) (d : Fin 128) :
    broadcastInDim S1x128 ![1] bcast_S128_S1x128_1 (concatenate S128 0 [⟨S16, f⟩, ⟨S16, f⟩,
      ⟨S96, broadcastInDim S96 ![] bcast_S_S96 (constant (F := Ideal) S_ .f32 0x00000000#32)⟩] concatenates_S16_S16_S96_S128_d0) (ix2 0 d)
      = if d.val < 32 then f (ix1 ⟨d.val % 16, by omega⟩) else 0 := by
  pointwise
  by_cases h1 : d.val < 16
  · exact (dif_pos h1).trans ((congrArg (fun i => f (ix1 i)) (Fin.ext (Nat.mod_eq_of_lt h1).symm)).trans (if_pos (show d.val < 32 by omega)).symm)
  by_cases h2 : d.val < 32
  · exact (dif_neg h1).trans ((dif_pos (show d.val - 16 < 16 by omega)).trans
      ((congrArg (fun i => f (ix1 i)) (Fin.ext (by show d.val - 16 = d.val % 16; omega))).trans (if_pos h2).symm))
  · exact (dif_neg h1).trans ((dif_neg (show ¬ d.val - 16 < 16 by omega)).trans (if_neg h2).symm)

/-- The frequencies laid out over a head's columns. -/
theorem start_f (d : Fin 128) :
    (V m c main_v17 : FVec Ideal S1x128 .f32) (ix2 0 d) = if d.val < 32 then freq ⟨d.val % 16, by omega⟩ else 0 := by
  have h : (V m c main_v17 : FVec Ideal S1x128 .f32) = broadcastInDim S1x128 ![1] bcast_S128_S1x128_1 (concatenate S128 0 [⟨S16, freqs⟩, ⟨S16, freqs⟩,
      ⟨S96, broadcastInDim S96 ![] bcast_S_S96 (constant (F := Ideal) S_ .f32 0x00000000#32)⟩] concatenates_S16_S16_S96_S128_d0) := by
    first | rfl | (dsimp only [V, V0]; after_results_simp <;> rfl)
  rw [← freqs_apply]
  exact (congrFun h _).trans (spread_apply _ d)

end Cert.Kernel2Ideal.Inproj
-- ==== Proof.InOut.lean ====
module

public import proofs.«01_k».proof.Proof.InStart
public import Idealize.ShloMosaic.Lib.Pipeline.ValueKit

/-!
# The input projection's result arrays

Each point writes one block of the projection; each row of blocks one block of the queries, keys, values and mean keys.
-/

@[expose] public section
set_option maxRecDepth 16384
noncomputable section
namespace Cert.Kernel2Ideal.Inproj
open Cert.Kernel2Ideal Cert.Kernel2Ideal.Gen
open Idealize.ShloMosaic Idealize.ShloMosaic.TcCoe Idealize.SL.Sem Idealize.ShloMosaic.Pointwise Cert.Inproj
open Idealize.ShloMosaic.Pipeline

/-- Which block of the input rows a point has. -/
theorem index_0 : ∀ t : Fin cfg0.N, win0_0.index t = ![t.val / 10, 0] := (by decide +kernel : ∀ t : Fin grid0.N, win0_0.index t = ![t.val / 10, 0])
/-- Which block of the gains a point has. -/
theorem index_1 : ∀ t : Fin cfg0.N, win0_1.index t = ![0, 0] := (by decide +kernel : ∀ t : Fin grid0.N, win0_1.index t = ![0, 0])
/-- Which block of the weights a point has. -/
theorem index_2 : ∀ t : Fin cfg0.N, win0_2.index t = ![0, t.val % 10] := (by decide +kernel : ∀ t : Fin grid0.N, win0_2.index t = ![0, t.val % 10])
/-- Which block of the positions a point has. -/
theorem index_3 : ∀ t : Fin cfg0.N, win0_3.index t = ![t.val / 10, 0] := (by decide +kernel : ∀ t : Fin grid0.N, win0_3.index t = ![t.val / 10, 0])
/-- Which block of the frequencies a point has. -/
theorem index_4 : ∀ t : Fin cfg0.N, win0_4.index t = ![0, 0] := (by decide +kernel : ∀ t : Fin grid0.N, win0_4.index t = ![0, 0])
/-- Which block of the projection a point has. -/
theorem index_5 : ∀ t : Fin cfg0.N, win0_5.index t = ![t.val / 10, t.val % 10] := (by decide +kernel : ∀ t : Fin grid0.N, win0_5.index t = ![t.val / 10, t.val % 10])
/-- Which block of the queries a point has. -/
theorem index_6 : ∀ t : Fin cfg0.N, win0_6.index t = ![t.val / 10, 0] := (by decide +kernel : ∀ t : Fin grid0.N, win0_6.index t = ![t.val / 10, 0])
/-- Which block of the keys a point has. -/
theorem index_7 : ∀ t : Fin cfg0.N, win0_7.index t = ![t.val / 10, 0] := (by decide +kernel : ∀ t : Fin grid0.N, win0_7.index t = ![t.val / 10, 0])
/-- Which block of the values a point has. -/
theorem index_8 : ∀ t : Fin cfg0.N, win0_8.index t = ![t.val / 10, 0] := (by decide +kernel : ∀ t : Fin grid0.N, win0_8.index t = ![t.val / 10, 0])
/-- Which block of the mean keys a point has. -/
theorem index_9 : ∀ t : Fin cfg0.N, win0_9.index t = ![t.val / 10, 0, 0] := (by decide +kernel : ∀ t : Fin grid0.N, win0_9.index t = ![t.val / 10, 0, 0])

variable (m : (ℓ : Loc nD τ sig) → Buf (Elt Ideal) ℓ) (c : Dev nD) (t : Fin cfg0.N)

/-- There are 80 points. -/
theorem t_lt (t : Fin cfg0.N) : t.val < 80 := lt_of_lt_of_eq t.isLt (show cfg0.N = 80 from N_0)

/-- Row `r` of point `t`'s rows. -/
def rowAt (t : Fin cfg0.N) (r : Fin 1024) : Fin 8192 := ⟨t.val / 10 * 1024 + r.val, by have := t_lt t; omega⟩
/-- Column `n` of point `t`'s columns. -/
def colAt (t : Fin cfg0.N) (n : Fin 1024) : Fin 10240 := ⟨t.val % 10 * 1024 + n.val, by have := t_lt t; omega⟩

/-- A point's input rows. -/
theorem read_x (r : Fin 1024) (k : Fin 2048) : iblk m c 0 t (ix2 r k) = (V m c main_v0 : FVec Ideal S8192x2048 .f32) (ix2 (rowAt t r) k) := by
  have e : (rowAt t r).val = t.val / 10 * 1024 + r.val := rfl
  blk_ext [iblk, V, index_0 t]

/-- A point's gains. -/
theorem read_g (k : Fin 2048) : iblk m c 1 t (ix2 0 k) = (V m c main_v18 : FVec Ideal S1x2048 .f32) (ix2 0 k) := by
  blk_ext [iblk, V, index_1 t]

/-- A point's weights. -/
theorem read_w (k : Fin 2048) (n : Fin 1024) : iblk m c 2 t (ix2 k n) = (V m c main_v19 : FVec Ideal S2048x10240 .bf16) (ix2 k (colAt t n)) := by
  have e : (colAt t n).val = t.val % 10 * 1024 + n.val := rfl
  blk_ext [iblk, V, index_2 t]

/-- A point's positions. -/
theorem read_pos (r : Fin 1024) : iblk m c 3 t (ix2 r 0) = (V m c main_v1 : IVec S8192x1 32) (ix2 (rowAt t r) 0) := by
  have e : (rowAt t r).val = t.val / 10 * 1024 + r.val := rfl
  blk_ext [iblk, V, index_3 t]

/-- A point's frequencies. -/
theorem read_f (d : Fin 128) : iblk m c 4 t (ix2 0 d) = (V m c main_v17 : FVec Ideal S1x128 .f32) (ix2 0 d) := by
  blk_ext [iblk, V, index_4 t]

/-- The projection's block. -/
theorem oAt_apply (r n : Fin 1024) : oAt m c t (ix2 r n) = projAt (m ((c.tc : Thread nD τ).loc main_arg0)) (m ((c.tc : Thread nD τ).loc main_arg2)) (m ((c.tc : Thread nD τ).loc main_arg3)) (rowAt t r) (colAt t n) := by
  unfold oAt projAt proj
  refine (oBlk_apply _ _ r n).trans (Finset.sum_congr rfl fun k _ => ?_)
  have hr : rowAt (rowPt t 0) r = rowAt t r := Fin.ext (by
    show (10 * (t.val / 10) + 0) / 10 * 1024 + r.val = t.val / 10 * 1024 + r.val; omega)
  have hh : hAt m c t (ix2 r k) = hid (fun k => (m ((c.tc : Thread nD τ).loc main_arg0)) (ix3 (batchOf (rowAt t r)) (placeOf (rowAt t r)) k)) (fun k => (m ((c.tc : Thread nD τ).loc main_arg2)) (ix2 0 k)) k := by
    unfold hAt
    refine (hBlk_apply _ _ r k).trans ?_
    exact congrArg₂ (fun a b => hid a b k) (funext fun k => by rw [read_x, start_x, hr]) (funext fun k => by rw [read_g, start_g])
  rw [hh]
  exact congrArg _ ((read_w m c t k n).trans (start_w m c k (colAt t n)))

/-- The frequencies at any point. -/
theorem freq_read (d : Fin 128) : (iblk m c 4 t : FVec Ideal S1x128 .f32) (ix2 0 d) = if d.val < 32 then freq ⟨d.val % 16, by omega⟩ else 0 :=
  (read_f m c t d).trans (start_f m c d)

/-- The turned columns of a head at the query column (`s = 0`) or the key column (`s = 1`). -/
theorem turned_at (s : Fin 3) (hs : t.val % 10 = 3 + s.val) (h : Fin 8) (r : Fin 1024) (d : Fin 128) :
    turned (F := Ideal) (iblk m c 3 t) (iblk m c 4 t) (headCols (oAt m c t) h) (ix2 r d) = turnAt (m ((c.tc : Thread nD τ).loc main_arg0)) (m ((c.tc : Thread nD τ).loc main_arg1)) (m ((c.tc : Thread nD τ).loc main_arg2)) (m ((c.tc : Thread nD τ).loc main_arg3)) s (rowAt t r) h d := by
  refine (turned_apply _ _ _ r d (freq_read m c t)).trans ?_
  unfold turnAt
  refine congrArg₂ (fun a b => turn a b d) ((read_pos m c t r).trans (start_pos m c _)) (funext fun d => ?_)
  refine Eq.trans (b := oAt m c t (ix2 r (colOf h d))) rfl ((oAt_apply m c t r (colOf h d)).trans (congrArg _ (Fin.ext ?_)))
  show t.val % 10 * 1024 + (128 * h.val + d.val) = 3072 + 1024 * s.val + 128 * h.val + d.val
  omega

/-- An index of a 1024-column block, by head and place. -/
theorem cols_eq (n : Fin 1024) : n = colOf (headOf n) (laneOf n) := Fin.ext (by show n.val = 128 * (n.val / 128) + n.val % 128; omega)

/-- The queries a point writes. -/
theorem qAt_apply (hs : t.val % 10 = 3) (r n : Fin 1024) : qAt m c t (ix2 r n) = turnAt (m ((c.tc : Thread nD τ).loc main_arg0)) (m ((c.tc : Thread nD τ).loc main_arg1)) (m ((c.tc : Thread nD τ).loc main_arg2)) (m ((c.tc : Thread nD τ).loc main_arg3)) 0 (rowAt t r) (headOf n) (laneOf n) := by
  unfold qAt qBlk
  conv_lhs => rw [cols_eq n]
  rw [heads_canon]
  exact turned_at m c t 0 hs _ r _

/-- The keys a point writes. -/
theorem kAt_apply (hs : t.val % 10 = 4) (r n : Fin 1024) : kAt m c t (ix2 r n) = turnAt (m ((c.tc : Thread nD τ).loc main_arg0)) (m ((c.tc : Thread nD τ).loc main_arg1)) (m ((c.tc : Thread nD τ).loc main_arg2)) (m ((c.tc : Thread nD τ).loc main_arg3)) 1 (rowAt t r) (headOf n) (laneOf n) := by
  unfold kAt kBlk
  conv_lhs => rw [cols_eq n]
  rw [heads_canon]
  exact turned_at m c t 1 hs _ r _

/-- The values a point writes. -/
theorem vAt_apply (hs : t.val % 10 = 5) (r n : Fin 1024) : vAt m c t (ix2 r n) = valAt (m ((c.tc : Thread nD τ).loc main_arg0)) (m ((c.tc : Thread nD τ).loc main_arg2)) (m ((c.tc : Thread nD τ).loc main_arg3)) (rowAt t r) (headOf n) (laneOf n) := by
  unfold vAt valAt
  refine (vBlk_apply _ r n).trans ((oAt_apply m c t r n).trans (congrArg _ (Fin.ext ?_)))
  show t.val % 10 * 1024 + n.val = 3072 + 1024 * 2 + 128 * (n.val / 128) + n.val % 128
  omega

/-- Block `b` of point `t`'s four blocks of 256 rows. -/
def blockAt (t : Fin cfg0.N) (b : Fin 4) : Fin 32 := ⟨t.val / 10 * 4 + b.val, by have := t_lt t; omega⟩

/-- The mean keys a point writes. -/
theorem meanAt_apply (hs : t.val % 10 = 4) (b : Fin 4) (n : Fin 1024) :
    meanAt m c t (ix3 b 0 n) = meanKey (m ((c.tc : Thread nD τ).loc main_arg0)) (m ((c.tc : Thread nD τ).loc main_arg1)) (m ((c.tc : Thread nD τ).loc main_arg2)) (m ((c.tc : Thread nD τ).loc main_arg3)) (blockAt t b) (headOf n) (laneOf n) := by
  unfold meanAt meanBlk meanKey
  conv_lhs => rw [cols_eq n]
  rw [means_canon, mean_apply]
  refine congrArg (fun s => Ideal.div s _) (Finset.sum_congr rfl fun r _ => ?_)
  refine (turned_at m c t 1 hs _ _ _).trans (congrArg (fun R => turnAt (m ((c.tc : Thread nD τ).loc main_arg0)) (m ((c.tc : Thread nD τ).loc main_arg1)) (m ((c.tc : Thread nD τ).loc main_arg2)) (m ((c.tc : Thread nD τ).loc main_arg3)) 1 R _ _) (Fin.ext ?_))
  show t.val / 10 * 1024 + (256 * b.val + r.val) = 256 * (t.val / 10 * 4 + b.val) + r.val
  omega

/-- The projection after the run. -/
theorem final_o : (dats m 0 c).arrAt 5 cfg0.N = projArr (m ((c.tc : Thread nD τ).loc main_arg0)) (m ((c.tc : Thread nD τ).loc main_arg2)) (m ((c.tc : Thread nD τ).loc main_arg3)) := by
  refine (dats m 0 c).arrAt_eq_of_covers 5 _ (by decide +kernel) fun t hf y => ?_
  blk_simp
  rw [after_5]
  obtain ⟨r, n, rfl⟩ : ∃ (r : Fin 1024) (n : Fin 1024), y = ix2 r n := ⟨⟨(y 0).val, (y 0).isLt⟩, ⟨(y 1).val, (y 1).isLt⟩, by funext a; match a with | ⟨0, _⟩ => rfl | ⟨1, _⟩ => rfl⟩
  have hp : (win0_5.blk t).view.emb (ix2 r n) = ix2 (rowAt t r) (colAt t n) := by
    have e0 : (rowAt t r).val = t.val / 10 * 1024 + r.val := rfl
    have e1 : (colAt t n).val = t.val % 10 * 1024 + n.val := rfl
    blk_ext [index_5 t]
  rw [hp, oAt_apply]
  rfl

/-- The turned queries after the run. -/
theorem final_q : (dats m 0 c).arrAt 6 cfg0.N = turnArr (m ((c.tc : Thread nD τ).loc main_arg0)) (m ((c.tc : Thread nD τ).loc main_arg1)) (m ((c.tc : Thread nD τ).loc main_arg2)) (m ((c.tc : Thread nD τ).loc main_arg3)) 0 := by
  refine (dats m 0 c).arrAt_eq_of_covers 6 _ (by decide +kernel) fun t hf y => ?_
  blk_simp
  rw [after_6]
  obtain ⟨r, n, rfl⟩ : ∃ (r : Fin 1024) (n : Fin 1024), y = ix2 r n := ⟨⟨(y 0).val, (y 0).isLt⟩, ⟨(y 1).val, (y 1).isLt⟩, by funext a; match a with | ⟨0, _⟩ => rfl | ⟨1, _⟩ => rfl⟩
  have hp : (win0_6.blk t).view.emb (ix2 r n) = ix2 (rowAt t r) n := by
    have e0 : (rowAt t r).val = t.val / 10 * 1024 + r.val := rfl
    blk_ext [index_6 t]
  have hr : rowAt (rowPt t 3) r = rowAt t r := Fin.ext (by
    show (10 * (t.val / 10) + 3) / 10 * 1024 + r.val = t.val / 10 * 1024 + r.val; omega)
  rw [hp, qAt_apply m c (rowPt t 3) (by show (10 * (t.val / 10) + 3) % 10 = 3; omega), hr]
  rfl

/-- The turned keys after the run. -/
theorem final_k : (dats m 0 c).arrAt 7 cfg0.N = turnArr (m ((c.tc : Thread nD τ).loc main_arg0)) (m ((c.tc : Thread nD τ).loc main_arg1)) (m ((c.tc : Thread nD τ).loc main_arg2)) (m ((c.tc : Thread nD τ).loc main_arg3)) 1 := by
  refine (dats m 0 c).arrAt_eq_of_covers 7 _ (by decide +kernel) fun t hf y => ?_
  blk_simp
  rw [after_7]
  obtain ⟨r, n, rfl⟩ : ∃ (r : Fin 1024) (n : Fin 1024), y = ix2 r n := ⟨⟨(y 0).val, (y 0).isLt⟩, ⟨(y 1).val, (y 1).isLt⟩, by funext a; match a with | ⟨0, _⟩ => rfl | ⟨1, _⟩ => rfl⟩
  have hp : (win0_7.blk t).view.emb (ix2 r n) = ix2 (rowAt t r) n := by
    have e0 : (rowAt t r).val = t.val / 10 * 1024 + r.val := rfl
    blk_ext [index_7 t]
  have hr : rowAt (rowPt t 4) r = rowAt t r := Fin.ext (by
    show (10 * (t.val / 10) + 4) / 10 * 1024 + r.val = t.val / 10 * 1024 + r.val; omega)
  rw [hp, kAt_apply m c (rowPt t 4) (by show (10 * (t.val / 10) + 4) % 10 = 4; omega), hr]
  rfl

/-- The values after the run. -/
theorem final_v : (dats m 0 c).arrAt 8 cfg0.N = valArr (m ((c.tc : Thread nD τ).loc main_arg0)) (m ((c.tc : Thread nD τ).loc main_arg2)) (m ((c.tc : Thread nD τ).loc main_arg3)) := by
  refine (dats m 0 c).arrAt_eq_of_covers 8 _ (by decide +kernel) fun t hf y => ?_
  blk_simp
  rw [after_8]
  obtain ⟨r, n, rfl⟩ : ∃ (r : Fin 1024) (n : Fin 1024), y = ix2 r n := ⟨⟨(y 0).val, (y 0).isLt⟩, ⟨(y 1).val, (y 1).isLt⟩, by funext a; match a with | ⟨0, _⟩ => rfl | ⟨1, _⟩ => rfl⟩
  have hp : (win0_8.blk t).view.emb (ix2 r n) = ix2 (rowAt t r) n := by
    have e0 : (rowAt t r).val = t.val / 10 * 1024 + r.val := rfl
    blk_ext [index_8 t]
  have hr : rowAt (rowPt t 5) r = rowAt t r := Fin.ext (by
    show (10 * (t.val / 10) + 5) / 10 * 1024 + r.val = t.val / 10 * 1024 + r.val; omega)
  rw [hp, vAt_apply m c (rowPt t 5) (by show (10 * (t.val / 10) + 5) % 10 = 5; omega), hr]
  rfl

/-- The mean keys after the run. -/
theorem final_mean : (dats m 0 c).arrAt 9 cfg0.N = meanArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp
  rw [after_9]
  obtain ⟨b, n, rfl⟩ : ∃ (b : Fin 4) (n : Fin 1024), y = ix3 b 0 n := ⟨⟨(y 0).val, (y 0).isLt⟩, ⟨(y 2).val, (y 2).isLt⟩, by
    funext a
    match a with
    | ⟨0, _⟩ => rfl
    | ⟨1, _⟩ => exact Fin.ext (by have : (y 1).val < 1 := (y 1).isLt; show (y 1).val = 0; omega)
    | ⟨2, _⟩ => rfl⟩
  have hp : (win0_9.blk t).view.emb (ix3 b 0 n) = ix3 (blockAt t b) 0 n := by
    have e0 : (blockAt t b).val = t.val / 10 * 4 + b.val := rfl
    blk_ext [index_9 t]
  have hr : blockAt (rowPt t 4) b = blockAt t b := Fin.ext (by
    show (10 * (t.val / 10) + 4) / 10 * 4 + b.val = t.val / 10 * 4 + b.val; omega)
  rw [hp, meanAt_apply m c (rowPt t 4) (by show (10 * (t.val / 10) + 4) % 10 = 4; omega), hr]
  rfl

end Cert.Kernel2Ideal.Inproj
-- ==== Proof.InEnd.lean ====
module

public import proofs.«01_k».proof.Proof.InOut

/-!
# The input projection's results

What the five returned arrays hold once the program has ended.
-/

@[expose] public section
set_option maxRecDepth 16384
noncomputable section
namespace Cert.Kernel2Ideal.Inproj
open Cert.Kernel2Ideal Cert.Kernel2Ideal.Gen
open Idealize.ShloMosaic Idealize.ShloMosaic.TcCoe Idealize.SL.Sem Idealize.ShloMosaic.Pointwise Cert.Inproj
open Idealize.ShloMosaic.Pipeline

/-- A block's row of the mean keys, by batch. -/
theorem by_batch (a : FVec Ideal S32x1x1024 .f32) (b : Fin 2) (j : Fin 16) (n : Fin 1024) :
    shapeCast S2x16x1024 a shapeCasts_S32x1x1024_S2x16x1024 (ix3 b j n) = a (ix3 ⟨16 * b.val + j.val, by omega⟩ 0 n) := by
  pointwise
  exact congrArg (fun i => a (ix3 i 0 n)) (Fin.ext (by show b.val * 16 + j.val = 16 * b.val + j.val; omega))

/-- The windows' arrays differ. -/
theorem arrays_differ : Function.Injective (arrRef spec0) := by decide

variable (m : (ℓ : Loc nD τ sig) → Buf (Elt Ideal) ℓ)

/-- The mean keys the program returns. -/
theorem tail_mean (c : Dev nD) : afterTail₀ cfgs (dats m) 0 (V0 m) [hostOps1] c main_v21
    = meanArr2 (m ((c.tc : Thread nD τ).loc main_arg0)) (m ((c.tc : Thread nD τ).loc main_arg1)) (m ((c.tc : Thread nD τ).loc main_arg2)) (m ((c.tc : Thread nD τ).loc main_arg3)) := by
  have h : afterTail₀ cfgs (dats m) 0 (V0 m) [hostOps1] c main_v21
      = shapeCast S2x16x1024 (withArrays spec0 c (V0 m c) (fun w => (dats m 0 c).arrAt w cfg0.N) (Proc.devRef .tc (arrRef spec0 9)) : FVec Ideal S32x1x1024 .f32) shapeCasts_S32x1x1024_S2x16x1024 := by
    unfold afterTail₀
    first | rfl | (after_results_simp <;> rfl)
  rw [h, withArrays_arr spec0 arrays_differ, final_mean]
  funext y
  obtain ⟨b, j, n, rfl⟩ : ∃ (b : Fin 2) (j : Fin 16) (n : Fin 1024), y = ix3 b j n :=
    ⟨⟨(y 0).val, (y 0).isLt⟩, ⟨(y 1).val, (y 1).isLt⟩, ⟨(y 2).val, (y 2).isLt⟩, by
      funext a
      match a with
      | ⟨0, _⟩ => rfl
      | ⟨1, _⟩ => rfl
      | ⟨2, _⟩ => rfl⟩
  exact by_batch _ b j n

/-- What the five returned arrays hold, and that the arguments hold what they held. -/
theorem results {r : _ × _} (h : Ended m r) (c : Dev nD) :
    r.2.mem ((c.tc : Thread nD τ).loc main_v20_0) = projArr (m ((c.tc : Thread nD τ).loc main_arg0)) (m ((c.tc : Thread nD τ).loc main_arg2)) (m ((c.tc : Thread nD τ).loc main_arg3))
    ∧ r.2.mem ((c.tc : Thread nD τ).loc main_v20_1) = turnArr (m ((c.tc : Thread nD τ).loc main_arg0)) (m ((c.tc : Thread nD τ).loc main_arg1)) (m ((c.tc : Thread nD τ).loc main_arg2)) (m ((c.tc : Thread nD τ).loc main_arg3)) 0
    ∧ r.2.mem ((c.tc : Thread nD τ).loc main_v20_2) = turnArr (m ((c.tc : Thread nD τ).loc main_arg0)) (m ((c.tc : Thread nD τ).loc main_arg1)) (m ((c.tc : Thread nD τ).loc main_arg2)) (m ((c.tc : Thread nD τ).loc main_arg3)) 1
    ∧ r.2.mem ((c.tc : Thread nD τ).loc main_v20_3) = valArr (m ((c.tc : Thread nD τ).loc main_arg0)) (m ((c.tc : Thread nD τ).loc main_arg2)) (m ((c.tc : Thread nD τ).loc main_arg3))
    ∧ r.2.mem ((c.tc : Thread nD τ).loc main_v21) = meanArr2 (m ((c.tc : Thread nD τ).loc main_arg0)) (m ((c.tc : Thread nD τ).loc main_arg1)) (m ((c.tc : Thread nD τ).loc main_arg2)) (m ((c.tc : Thread nD τ).loc main_arg3)) :=
  ⟨((h c).1 5).trans (final_o m c), ((h c).1 6).trans (final_q m c), ((h c).1 7).trans (final_k m c),
    ((h c).1 8).trans (final_v m c), ((h c).2 main_v21 (mem_restRefs_of main_v21 (by decide) (by decide))).trans (tail_mean m c)⟩

end Cert.Kernel2Ideal.Inproj
-- ==== Proof.InRef.lean ====
module

public import proofs.«01_k».proof.Proof.Gen.Reference2Ideal.Run
public import proofs.«01_k».proof.Proof.InMath

/-!
# The input projection's reference, stage by stage

The reference's results are long terms. Here their stages are named and read at an index: the normalized rows, the
projection, the angles, the turned heads, and the block means.
-/

@[expose] public section
set_option maxRecDepth 16384
noncomputable section
namespace Cert.Reference2Ideal.Inproj
open Cert.Reference2Ideal Cert.Reference2Ideal.Gen Idealize.ShloMosaic Idealize.ShloMosaic.TcCoe Idealize.SL.Sem
open Idealize.ShloMosaic.Pointwise Cert.Inproj

/-- The normalized rows. -/
def normed (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 (shapeCast _ g shapeCasts_S1x2048_S2048)))

/-- The projection, by batch. -/
def projected (h : FVec Ideal S2x4096x2048 .f32) (w : FVec Ideal S1x2048x10240 .f32) : FVec Ideal S2x4096x10240 .f32 :=
  Host.dotGeneral dot_S2x4096x2048_S2048x10240_S2x4096x10240_2_0_01_1_n_n none h (shapeCast _ w shapeCasts_S1x2048x10240_S2048x10240)

/-- The turning frequencies. -/
def freqs : FVec Ideal S16 .f32 :=
  Host.divf (broadcastInDim S16 ![] bcast_S_S16 (constant S_ .f32 0x3F800000#32)) (Host.powf (broadcastInDim S16 ![] bcast_S_S16 (constant S_ .f32 0x48F42400#32))
    (Host.divf (addf (broadcastInDim S16 ![] bcast_S_S16 (constant S_ .f32 0x00000000#32)) (mulf (broadcastInDim S16 ![] bcast_S_S16 (constant S_ .f32 0x40000000#32)) (sitofp .f32 (iotaInDim S16 32 0))))
      (broadcastInDim S16 ![] bcast_S_S16 (constant S_ .f32 0x42000000#32))))

/-- The angles. -/
def angles (p : IVec S2x4096 32) (f : FVec Ideal S16 .f32) : FVec Ideal S2x4096x16 .f32 :=
  mulf (broadcastInDim S2x4096x16 ![0, 1, 2] bcast_S2x4096x1_S2x4096x16_0_1_2 (broadcastInDim S2x4096x1 ![0, 1] bcast_S2x4096_S2x4096x1_0_1 (sitofp .f32 p)))
    (broadcastInDim S2x4096x16 ![0, 1, 2] bcast_S1x1x16_S2x4096x16_0_1_2 (broadcastInDim S1x1x16 ![2] bcast_S16_S1x1x16_2 f))

/-- A number per position and column, for every head. -/
def perHead (a : FVec Ideal S2x4096x16 .f32) : FVec Ideal S2x4096x8x16 .f32 :=
  broadcastInDim S2x4096x8x16 ![0, 1, 2, 3] bcast_S2x4096x1x16_S2x4096x8x16_0_1_2_3 (broadcastInDim S2x4096x1x16 ![0, 1, 3] bcast_S2x4096x16_S2x4096x1x16_0_1_3 a)

/-- A head's first sixteen columns. -/
def firsts (a : FVec Ideal S2x4096x8x128 .f32) : FVec Ideal S2x4096x8x16 .f32 :=
  extractStridedSlice S2x4096x8x16 ![0, 0, 0, 0] a slices_S2x4096x8x128_S2x4096x8x16_0_0_0_0
/-- A head's next sixteen columns. -/
def seconds (a : FVec Ideal S2x4096x8x128 .f32) : FVec Ideal S2x4096x8x16 .f32 :=
  extractStridedSlice S2x4096x8x16 ![0, 0, 0, 16] a slices_S2x4096x8x128_S2x4096x8x16_0_0_0_16

/-- The heads turned by angles of cosines `co` and sines `si`. -/
def turnedHeads (a : FVec Ideal S2x4096x8x128 .f32) (co si : FVec Ideal S2x4096x16 .f32) : FVec Ideal S2x4096x8x128 .f32 :=
  concatenate S2x4096x8x128 3 [⟨S2x4096x8x32, concatenate S2x4096x8x32 3 [⟨S2x4096x8x16, subf (mulf (firsts a) (perHead co)) (mulf (seconds a) (perHead si))⟩,
      ⟨S2x4096x8x16, addf (mulf (seconds a) (perHead co)) (mulf (firsts a) (perHead si))⟩] concatenates_S2x4096x8x16_S2x4096x8x16_S2x4096x8x32_d3⟩,
    ⟨S2x4096x8x96, extractStridedSlice S2x4096x8x96 ![0, 0, 0, 32] a slices_S2x4096x8x128_S2x4096x8x96_0_0_0_32⟩] concatenates_S2x4096x8x32_S2x4096x8x96_S2x4096x8x128_d3

/-- The queries' columns by head. -/
def headsQ (o : FVec Ideal S2x4096x10240 .f32) : FVec Ideal S2x4096x8x128 .f32 :=
  shapeCast _ (extractStridedSlice S2x4096x1024 ![0, 0, 3072] o slices_S2x4096x10240_S2x4096x1024_0_0_3072) shapeCasts_S2x4096x1024_S2x4096x8x128
/-- The keys' columns by head. -/
def headsK (o : FVec Ideal S2x4096x10240 .f32) : FVec Ideal S2x4096x8x128 .f32 :=
  shapeCast _ (extractStridedSlice S2x4096x1024 ![0, 0, 4096] o slices_S2x4096x10240_S2x4096x1024_0_0_4096) shapeCasts_S2x4096x1024_S2x4096x8x128
/-- The values' columns. -/
def colsV (o : FVec Ideal S2x4096x10240 .f32) : FVec Ideal S8192x1024 .f32 :=
  shapeCast _ (extractStridedSlice S2x4096x1024 ![0, 0, 5120] o slices_S2x4096x10240_S2x4096x1024_0_0_5120) shapeCasts_S2x4096x1024_S8192x1024

/-- The heads side by side. -/
def joined (a : FVec Ideal S2x4096x8x128 .f32) : FVec Ideal S8192x1024 .f32 := shapeCast _ a shapeCasts_S2x4096x8x128_S8192x1024

/-- The means of blocks of 256 rows. -/
def blockMeans (k : FVec Ideal S8192x1024 .f32) : FVec Ideal S2x16x1024 .f32 :=
  Host.divf (Host.reduceAdd (shapeCast _ k shapeCasts_S8192x1024_S2x16x256x1024) (constant S_ .f32 0x00000000#32) reducesTo_S2x16x256x1024_S2x16x1024_d2 h_S_)
    (broadcastInDim S2x16x1024 ![] bcast_S_S2x16x1024 (constant S_ .f32 0x43800000#32))

/-- A normalized row. -/
theorem normed_apply (x : FVec Ideal S2x4096x2048 .f32) (g : FVec Ideal S1x2048 .f32) (b : Fin 2) (s : Fin 4096) (k : Fin 2048) :
    normed x g (ix3 b s k) = hid (fun k => x (ix3 b s k)) (fun k => g (ix2 0 k)) k := by
  unfold hid
  pointwise [normed]

/-- The projection at a row and a column. -/
theorem projected_apply (h : FVec Ideal S2x4096x2048 .f32) (w : FVec Ideal S1x2048x10240 .f32) (b : Fin 2) (s : Fin 4096) (n : Fin 10240) :
    projected h w (ix3 b s n) = ∑ k : Fin 2048, h (ix3 b s k) * w (ix3 0 k n) := by
  pointwise [projected]

/-- A turning frequency. -/
theorem freqs_apply (i : Fin 16) : freqs (ix1 i) = freq i := by
  unfold freq
  pointwise [freqs]
  rw [show (FloatOps.sitofp (F := Ideal) .f32 (BitVec.ofNat 32 i.val)) = ((i.val : ℝ) : EReal) from ?_]
  show (((BitVec.ofNat 32 i.val).toInt : ℝ) : EReal) = _
  rw [show (BitVec.ofNat 32 i.val).toInt = (i.val : ℤ) from by revert i; decide +kernel]
  rfl

/-- An angle. -/
theorem angles_apply (p : IVec S2x4096 32) (f : FVec Ideal S16 .f32) (b : Fin 2) (s : Fin 4096) (i : Fin 16) :
    angles p f (ix3 b s i) = (((p (ix2 b s)).toInt : ℝ) : EReal) * f (ix1 i) := by
  pointwise [angles]
  rfl

/-- One number per position and column. -/
theorem perHead_apply (a : FVec Ideal S2x4096x16 .f32) (b : Fin 2) (s : Fin 4096) (h : Fin 8) (i : Fin 16) :
    perHead a (ix4 b s h i) = a (ix3 b s i) := by
  pointwise [perHead]

/-- One of a head's first columns. -/
theorem firsts_apply (a : FVec Ideal S2x4096x8x128 .f32) (b : Fin 2) (s : Fin 4096) (h : Fin 8) (i : Fin 16) :
    firsts a (ix4 b s h i) = a (ix4 b s h ⟨i.val, by omega⟩) := by
  pointwise [firsts]

/-- One of a head's next columns. -/
theorem seconds_apply (a : FVec Ideal S2x4096x8x128 .f32) (b : Fin 2) (s : Fin 4096) (h : Fin 8) (i : Fin 16) :
    seconds a (ix4 b s h i) = a (ix4 b s h ⟨i.val + 16, by omega⟩) := by
  pointwise [seconds]
  exact congrArg (fun i => a (ix4 b s h i)) (Fin.ext (Nat.add_comm 16 i.val))

/-- A head's column, turned. -/
theorem turnedHeads_apply (a : FVec Ideal S2x4096x8x128 .f32) (co si : FVec Ideal S2x4096x16 .f32) (b : Fin 2) (s : Fin 4096) (h : Fin 8) (d : Fin 128) :
    turnedHeads a co si (ix4 b s h d) =
      if h1 : d.val < 16 then a (ix4 b s h d) * co (ix3 b s ⟨d.val, h1⟩) - a (ix4 b s h ⟨d.val + 16, by omega⟩) * si (ix3 b s ⟨d.val, h1⟩)
      else if h2 : d.val < 32 then a (ix4 b s h d) * co (ix3 b s ⟨d.val - 16, by omega⟩) + a (ix4 b s h ⟨d.val - 16, by omega⟩) * si (ix3 b s ⟨d.val - 16, by omega⟩)
      else a (ix4 b s h d) := by
  pointwise [turnedHeads, perHead, firsts, seconds]
  by_cases h1 : d.val < 16
  · have e : (⟨16 + d.val, by omega⟩ : Fin 128) = ⟨d.val + 16, by omega⟩ := Fin.ext (Nat.add_comm 16 d.val)
    simp only [h1, show d.val < 32 by omega, dif_pos, e]
  by_cases h2 : d.val < 32
  · have e : (⟨16 + (d.val - 16), by omega⟩ : Fin 128) = d := Fin.ext (by show 16 + (d.val - 16) = d.val; omega)
    simp only [h1, h2, dif_pos, dif_neg, not_false_eq_true, e]
  · have e : (⟨32 + (d.val - 32), by omega⟩ : Fin 128) = d := Fin.ext (by show 32 + (d.val - 32) = d.val; omega)
    simp only [h1, h2, dif_neg, not_false_eq_true, e]

/-- A query's column. -/
theorem headsQ_apply (o : FVec Ideal S2x4096x10240 .f32) (b : Fin 2) (s : Fin 4096) (h : Fin 8) (d : Fin 128) :
    headsQ o (ix4 b s h d) = o (ix3 b s (headCol 0 h d)) := by
  pointwise [headsQ, headCol]
  exact congrArg (fun i => o (ix3 b s i)) (Fin.ext (by show 3072 + (h.val * 128 + d.val) = 3072 + 128 * h.val + d.val; omega))

/-- A key's column. -/
theorem headsK_apply (o : FVec Ideal S2x4096x10240 .f32) (b : Fin 2) (s : Fin 4096) (h : Fin 8) (d : Fin 128) :
    headsK o (ix4 b s h d) = o (ix3 b s (headCol 1 h d)) := by
  pointwise [headsK, headCol]
  exact congrArg (fun i => o (ix3 b s i)) (Fin.ext (by show 4096 + (h.val * 128 + d.val) = 4096 + 128 * h.val + d.val; omega))

/-- A value's column. -/
theorem colsV_apply (o : FVec Ideal S2x4096x10240 .f32) (R : Fin 8192) (n : Fin 1024) :
    colsV o (ix2 R n) = o (ix3 (batchOf R) (placeOf R) (headCol 2 (headOf n) (laneOf n))) := by
  pointwise [colsV]
  exact congrArg (fun i => o (ix3 (batchOf R) (placeOf R) i)) (Fin.ext (by
    show 5120 + n.val = 3072 + 1024 * 2 + 128 * (n.val / 128) + n.val % 128; omega))

/-- A column of the heads side by side. -/
theorem joined_apply (a : FVec Ideal S2x4096x8x128 .f32) (R : Fin 8192) (n : Fin 1024) :
    joined a (ix2 R n) = a (ix4 (batchOf R) (placeOf R) (headOf n) (laneOf n)) := by
  pointwise [joined]
  rfl

/-- The projection's rows, batch after batch. -/
theorem rows_apply (o : FVec Ideal S2x4096x10240 .f32) (R : Fin 8192) (n : Fin 10240) :
    shapeCast S8192x10240 o shapeCasts_S2x4096x10240_S8192x10240 (ix2 R n) = o (ix3 (batchOf R) (placeOf R) n) := by
  pointwise
  rfl

/-- A block's mean. -/
theorem blockMeans_apply (k : FVec Ideal S8192x1024 .f32) (b : Fin 2) (j : Fin 16) (n : Fin 1024) :
    blockMeans k (ix3 b j n) = Ideal.div (∑ r : Fin 256, k (ix2 ⟨256 * (16 * b.val + j.val) + r.val, by omega⟩ n)) (Ideal.ofBits .f32 0x43800000#32) := by
  pointwise [blockMeans]
  refine congrArg (fun z => Ideal.div z _) (Finset.sum_congr rfl fun r _ => ?_)
  exact congrArg (fun i => k (ix2 i n)) (Fin.ext (by
    show b.val * 4096 + j.val * 256 + r.val = 256 * (16 * b.val + j.val) + r.val; omega))

section results
variable (x : FVec Ideal S2x4096x2048 .f32) (p : IVec S2x4096 32) (g : FVec Ideal S1x2048 .f32) (w : FVec Ideal S1x2048x10240 .f32)

/-- The projection at a row and a column, of the arguments. -/
theorem out_apply (R : Fin 8192) (n : Fin 10240) :
    projected (normed x g) w (ix3 (batchOf R) (placeOf R) n) = projAt x g w R n := by
  rw [projected_apply]
  exact Finset.sum_congr rfl fun k _ => congrArg (· * w (ix3 0 k n)) (normed_apply x g _ _ k)

/-- The reference's projection. -/
theorem ref_proj : shapeCast S8192x10240 (projected (normed x g) w) shapeCasts_S2x4096x10240_S8192x10240 = projArr x g w := by
  funext y
  obtain ⟨R, n, rfl⟩ : ∃ (R : Fin 8192) (n : Fin 10240), y = ix2 R n := ⟨⟨(y 0).val, (y 0).isLt⟩, ⟨(y 1).val, (y 1).isLt⟩, by
    funext a
    match a with
    | ⟨0, _⟩ => rfl
    | ⟨1, _⟩ => rfl⟩
  exact (rows_apply _ R n).trans (out_apply x g w R n)

/-- The reference's values. -/
theorem ref_v : colsV (projected (normed x g) w) = valArr x g w := by
  funext y
  obtain ⟨R, n, rfl⟩ : ∃ (R : Fin 8192) (n : Fin 1024), y = ix2 R n := ⟨⟨(y 0).val, (y 0).isLt⟩, ⟨(y 1).val, (y 1).isLt⟩, by
    funext a
    match a with
    | ⟨0, _⟩ => rfl
    | ⟨1, _⟩ => rfl⟩
  exact (colsV_apply _ R n).trans (out_apply x g w R _)

/-- Heads turned by the arguments' angles. -/
theorem turned_apply (a : FVec Ideal S2x4096x8x128 .f32) (s : Fin 3)
    (ha : ∀ (R : Fin 8192) (h : Fin 8) (d : Fin 128), a (ix4 (batchOf R) (placeOf R) h d) = projAt x g w R (headCol s h d)) :
    joined (turnedHeads a (Host.cos (angles p freqs)) (Host.sin (angles p freqs))) = turnArr x p g w s := by
  funext y
  obtain ⟨R, n, rfl⟩ : ∃ (R : Fin 8192) (n : Fin 1024), y = ix2 R n := ⟨⟨(y 0).val, (y 0).isLt⟩, ⟨(y 1).val, (y 1).isLt⟩, by
    funext a
    match a with
    | ⟨0, _⟩ => rfl
    | ⟨1, _⟩ => rfl⟩
  have hc : ∀ i : Fin 16, Host.cos (angles p freqs) (ix3 (batchOf R) (placeOf R) i) = Ideal.cos (angle (p (ix2 (batchOf R) (placeOf R))) i) := fun i =>
    congrArg Ideal.cos ((angles_apply p freqs _ _ i).trans (congrArg _ (freqs_apply i)))
  have hs : ∀ i : Fin 16, Host.sin (angles p freqs) (ix3 (batchOf R) (placeOf R) i) = Ideal.sin (angle (p (ix2 (batchOf R) (placeOf R))) i) := fun i =>
    congrArg Ideal.sin ((angles_apply p freqs _ _ i).trans (congrArg _ (freqs_apply i)))
  rw [joined_apply, turnedHeads_apply]
  show _ = turn (p (ix2 (batchOf R) (placeOf R))) (fun d => projAt x g w R (headCol s (headOf n) d)) (laneOf n)
  unfold turn
  simp only [ha, hc, hs]

/-- The reference's queries. -/
theorem ref_q : joined (turnedHeads (headsQ (projected (normed x g) w)) (Host.cos (angles p freqs)) (Host.sin (angles p freqs))) = turnArr x p g w 0 :=
  turned_apply x p g w _ 0 fun R h d => (headsQ_apply _ _ _ h d).trans (out_apply x g w R _)

/-- The reference's keys. -/
theorem ref_k : joined (turnedHeads (headsK (projected (normed x g) w)) (Host.cos (angles p freqs)) (Host.sin (angles p freqs))) = turnArr x p g w 1 :=
  turned_apply x p g w _ 1 fun R h d => (headsK_apply _ _ _ h d).trans (out_apply x g w R _)

/-- The reference's mean keys. -/
theorem ref_mean : blockMeans (joined (turnedHeads (headsK (projected (normed x g) w)) (Host.cos (angles p freqs)) (Host.sin (angles p freqs)))) = meanArr2 x p g w := by
  rw [ref_k]
  funext y
  obtain ⟨b, j, n, rfl⟩ : ∃ (b : Fin 2) (j : Fin 16) (n : Fin 1024), y = ix3 b j n :=
    ⟨⟨(y 0).val, (y 0).isLt⟩, ⟨(y 1).val, (y 1).isLt⟩, ⟨(y 2).val, (y 2).isLt⟩, by
      funext a
      match a with
      | ⟨0, _⟩ => rfl
      | ⟨1, _⟩ => rfl
      | ⟨2, _⟩ => rfl⟩
  exact blockMeans_apply _ b j n

end results

/-- The reference ends with these five arrays and its arguments as they were. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99) = projArr (m ((c.tc : Thread nD τ).loc main_arg0)) (m ((c.tc : Thread nD τ).loc main_arg2)) (m ((c.tc : Thread nD τ).loc main_arg3))
      ∧ r.2.mem ((c.tc : Thread nD τ).loc main_v56) = turnArr (m ((c.tc : Thread nD τ).loc main_arg0)) (m ((c.tc : Thread nD τ).loc main_arg1)) (m ((c.tc : Thread nD τ).loc main_arg2)) (m ((c.tc : Thread nD τ).loc main_arg3)) 0
      ∧ r.2.mem ((c.tc : Thread nD τ).loc main_v100) = turnArr (m ((c.tc : Thread nD τ).loc main_arg0)) (m ((c.tc : Thread nD τ).loc main_arg1)) (m ((c.tc : Thread nD τ).loc main_arg2)) (m ((c.tc : Thread nD τ).loc main_arg3)) 1
      ∧ r.2.mem ((c.tc : Thread nD τ).loc main_v102) = valArr (m ((c.tc : Thread nD τ).loc main_arg0)) (m ((c.tc : Thread nD τ).loc main_arg2)) (m ((c.tc : Thread nD τ).loc main_arg3))
      ∧ r.2.mem ((c.tc : Thread nD τ).loc main_v98) = meanArr2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (ref_proj _ _ _),
      (h c).2.1.trans ((show Value.res_main_v56 m c = joined (turnedHeads (headsQ (projected (normed _ _) _)) (Host.cos (angles _ freqs)) (Host.sin (angles _ freqs))) from rfl).trans (ref_q _ _ _ _)),
      (h c).2.2.1.trans ((show Value.res_main_v100 m c = joined (turnedHeads (headsK (projected (normed _ _) _)) (Host.cos (angles _ freqs)) (Host.sin (angles _ freqs))) from rfl).trans (ref_k _ _ _ _)),
      (h c).2.2.2.1.trans (ref_v _ _ _),
      (h c).2.2.2.2.1.trans ((show Value.res_main_v98 m c = blockMeans (joined (turnedHeads (headsK (projected (normed _ _) _)) (Host.cos (angles _ freqs)) (Host.sin (angles _ freqs)))) from rfl).trans (ref_mean _ _ _ _)),
      (h c).2.2.2.2.2⟩) (Value.run (F := Ideal) m ρ)

end Cert.Reference2Ideal.Inproj
-- ==== Proof.MeLists.lean ====
module

public import proofs.«01_k».proof.Proof.Gen.Kernel3Ideal.Value
public import Idealize.ShloMosaic.Lib.Pipeline.ValueKit
public import Idealize.ShloMosaic.Lib.WholeRead

/-!
# What the merge's body stores

Three arrays are stored, each whole. The convolution reads its input one and two rows back from a scratch array, which
holds the eight rows before the block and then the block's own rows.
-/

@[expose] public section
set_option maxRecDepth 16384
noncomputable section
namespace Cert.Kernel3Ideal.Merge
open Cert.Kernel3Ideal Cert.Kernel3Ideal.Gen Idealize.ShloMosaic Idealize.ShloMosaic.TcCoe Idealize.SL.Sem
open Idealize.ShloMosaic.Pointwise
variable {F : FTy → Type} [FloatOps F]

/-- A pair of zeros. -/
theorem zero2 : (![0, 0] : Fin 2 → Nat) = fun _ => 0 := by funext a; fin_cases a <;> rfl

/-- A load of a whole block reads it. -/
theorem readAt_all {sp : Space} {s : Shape} {e : EltTy} (arg : Memref sig .tc sp s e) (harg : arg.IsWhole) (x : Vec F s e) (off : Fin s.rank → Nat)
    (inb : ∀ a, off a + s.size a ≤ s.size a) (h : off = fun _ => 0) :
    View.readAt (Elt F) arg.view (Rect.unit (s := s) off s.size inb).toLoadRect (harg.unread x) = x := by
  subst h
  funext j
  rw [Memref.IsWhole.readAt_unread]
  refine congrArg x ?_
  funext a
  exact Fin.ext (by simp [Rect.unit, LoadRect.idx])

/-- 256 rows of the scratch array from row `o`: the eight rows `h` first, then the rows `z`. -/
def rowsFrom (o : ℕ) (z : Vec F S256x1024 .f32) (h : Vec F S8x1024 .f32) : Vec F S256x1024 .f32 := fun j =>
  if hj : (j 0).val + o < 8 then h (ix2 (n0 := 8) (n1 := 1024) ⟨(j 0).val + o, hj⟩ (j 1))
  else z (ix2 (n0 := 256) (n1 := 1024) ⟨((j 0).val + o - 8) % 256, Nat.mod_lt _ (by omega)⟩ (j 1))

/-- A load of the scratch array after its two stores. -/
theorem scratch_read {κ : Kind} {sp : Space} (v : View sig κ sp S264x1024 .f32) (z : Vec F S256x1024 .f32) (h : Vec F S8x1024 .f32) (o : ℕ) (ho : o ≤ 8)
    (inb : ∀ a, (![o, 0] : Fin 2 → Nat) a + S256x1024.size a ≤ S264x1024.size a) :
    v.readCov [(⟨Rect.unit (s := S264x1024) ![8, 0] S256x1024.size inb_S264x1024_S256x1024_8_0, z⟩ : View.Piece (Elt F) S264x1024 .f32),
      ⟨Rect.unit (s := S264x1024) ![0, 0] S8x1024.size inb_S264x1024_S8x1024_0_0, h⟩] (Rect.unit (s := S264x1024) ![o, 0] S256x1024.size inb).toLoadRect = rowsFrom o z h := by
  rw [View.readCov_eq_canon']
  funext j
  obtain ⟨r, n, rfl⟩ : ∃ (r : Fin 256) (n : Fin 1024), j = ix2 r n := ⟨⟨(j 0).val, (j 0).isLt⟩, ⟨(j 1).val, (j 1).isLt⟩, by funext a; match a with | ⟨0, _⟩ => rfl | ⟨1, _⟩ => rfl⟩
  have e : (Rect.unit (s := S264x1024) ![o, 0] S256x1024.size inb).toLoadRect.idx (ix2 r n) = ix2 (n0 := 264) (n1 := 1024) ⟨o + r.val, by omega⟩ n := by
    funext a
    fin_cases a <;> exact Fin.ext (by simp [Rect.unit, LoadRect.idx, ix2])
  show View.canon _ ((Rect.unit (s := S264x1024) ![o, 0] S256x1024.size inb).toLoadRect.idx (ix2 r n)) = _
  rw [e]
  have hcover : ∃ p ∈ [(⟨Rect.unit (s := S264x1024) ![8, 0] S256x1024.size inb_S264x1024_S256x1024_8_0, z⟩ : View.Piece (Elt F) S264x1024 .f32),
      ⟨Rect.unit (s := S264x1024) ![0, 0] S8x1024.size inb_S264x1024_S8x1024_0_0, h⟩], ix2 (n0 := 264) (n1 := 1024) ⟨o + r.val, by omega⟩ n ∈ p.1.set := by
    by_cases hr : o + r.val < 8
    · refine ⟨_, List.mem_cons_of_mem _ List.mem_cons_self, (Rect.mem_set_unit (inb := inb_S264x1024_S8x1024_0_0)).mpr fun a => ?_⟩
      match a with
      | ⟨0, _⟩ => exact ⟨Nat.zero_le _, by show o + r.val < 0 + 8; omega⟩
      | ⟨1, _⟩ => exact ⟨Nat.zero_le _, by show n.val < 0 + 1024; omega⟩
    · refine ⟨_, List.mem_cons_self, (Rect.mem_set_unit (inb := inb_S264x1024_S256x1024_8_0)).mpr fun a => ?_⟩
      match a with
      | ⟨0, _⟩ => exact ⟨by show 8 ≤ o + r.val; omega, by show o + r.val < 8 + 256; omega⟩
      | ⟨1, _⟩ => exact ⟨Nat.zero_le _, by show n.val < 0 + 1024; omega⟩
  canon_tiles x hx using hcover
  · have hx0 : o + r.val = 8 + (x 0).val := hx0
    have hx1 : n.val = (x 1).val := hx1
    unfold rowsFrom
    refine Eq.trans ?_ (dif_neg (show ¬(r.val + o < 8) by omega)).symm
    refine congrArg z ?_
    funext a
    match a with
    | ⟨0, _⟩ => exact Fin.ext (by show (x 0).val = (r.val + o - 8) % 256; have : (x 0).val < 256 := (x 0).isLt; omega)
    | ⟨1, _⟩ => exact Fin.ext (by show (x 1).val = n.val; omega)
  · have hx0 : o + r.val = (x 0).val := hx0
    have hx1 : n.val = (x 1).val := hx1
    have hl : (x 0).val < 8 := (x 0).isLt
    unfold rowsFrom
    refine Eq.trans ?_ (dif_pos (show r.val + o < 8 by omega)).symm
    refine congrArg h ?_
    funext a
    match a with
    | ⟨0, _⟩ => exact Fin.ext (by show (x 0).val = r.val + o; omega)
    | ⟨1, _⟩ => exact Fin.ext (by show (x 1).val = n.val; omega)

/-- The branches of a block, gated and added. -/
def mBlk (i : grid0.Coords) (x0 x1 x2 : Vec F S256x1024 .f32) (x3 x4 : Vec F S8x1024 .f32) (x5 x6 : Vec F S256x2048 .f32) (x7 : Vec F S256x1024 .bf16)
    (x9 : Vec F S3x1024 .f32) (x10 : Vec F S1x4096 .f32) (x11 x12 : Vec F S1024x2048 .bf16) : Vec F S256x2048 .bf16 :=
  k0_pay12 (k0_pay8 x9) (k0_pay9 x1 x2 x9) (k0_pay10 x9) (rowsFrom 7 (k0_pay7 x1 x2) (k0_pay6 i x3 x4)) (rowsFrom 6 (k0_pay7 x1 x2) (k0_pay6 i x3 x4)) x0 x11 x7 x12 x10 x5 x6

set_option maxHeartbeats 4000000 in
/-- The sum of a block, stored whole. -/
theorem stores_sum (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x1024 .bf16) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x4096 .f32) (harg11 : arg11.IsWhole) (arg12 : Memref sig .tc .vmem S1024x2048 .bf16) (harg12 : arg12.IsWhole) (arg13 : Memref sig .tc .vmem S1024x2048 .bf16) (harg13 : arg13.IsWhole) (arg14 : Memref sig .tc .vmem S2048x2048 .bf16) (harg14 : arg14.IsWhole) (arg15 : Memref sig .tc .vmem S1x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S2048x256 .bf16) (harg18 : arg18.IsWhole) (arg19 : Memref sig .tc .vmem S264x1024 .f32) (harg19 : arg19.IsWhole)
    (x0 : Vec F S256x1024 .f32) (x1 : Vec F S256x1024 .f32) (x2 : Vec F S256x1024 .f32) (x3 : Vec F S8x1024 .f32) (x4 : Vec F S8x1024 .f32) (x5 : Vec F S256x2048 .f32) (x6 : Vec F S256x2048 .f32) (x7 : Vec F S256x1024 .bf16) (x8 : Vec F S256x2048 .f32) (x9 : Vec F S3x1024 .f32) (x10 : Vec F S1x4096 .f32) (x11 : Vec F S1024x2048 .bf16) (x12 : Vec F S1024x2048 .bf16) (x13 : Vec F S2048x2048 .bf16) (x14 : Vec F S1x2048 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14).1 = [⟨Rect.unit (s := S256x2048) ![0, 0] S256x2048.size inb_S256x2048_S256x2048_0_0, k0_pay1 (k0_pay11 x8) (mBlk i x0 x1 x2 x3 x4 x5 x6 x7 x9 x10 x11 x12) x13⟩] := by
  unfold kernelRun0_A
  dsimp only
  refine Eq.trans (b := [⟨Rect.unit (s := S256x2048) ![0, 0] S256x2048.size inb_S256x2048_S256x2048_0_0, k0_pay1 (k0_pay11 (View.readAt (Elt F) arg9.view (Rect.unit (s := S256x2048) ![0, 0] S256x2048.size inb_S256x2048_S256x2048_0_0).toLoadRect (harg9.unread x8))) (k0_pay12 (k0_pay8 (View.readAt (Elt F) arg10.view (Rect.unit (s := S3x1024) ![0, 0] S3x1024.size inb_S3x1024_S3x1024_0_0).toLoadRect (harg10.unread x9))) (k0_pay9 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2)) (View.readAt (Elt F) arg10.view (Rect.unit (s := S3x1024) ![0, 0] S3x1024.size inb_S3x1024_S3x1024_0_0).toLoadRect (harg10.unread x9))) (k0_pay10 (View.readAt (Elt F) arg10.view (Rect.unit (s := S3x1024) ![0, 0] S3x1024.size inb_S3x1024_S3x1024_0_0).toLoadRect (harg10.unread x9))) (arg19.view.readCov [(⟨Rect.unit (s := S264x1024) ![8, 0] S256x1024.size inb_S264x1024_S256x1024_8_0, k0_pay7 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2))⟩ : View.Piece (Elt F) S264x1024 .f32), ⟨Rect.unit (s := S264x1024) ![0, 0] S8x1024.size inb_S264x1024_S8x1024_0_0, k0_pay6 i (View.readAt (Elt F) arg4.view (Rect.unit (s := S8x1024) ![0, 0] S8x1024.size inb_S8x1024_S8x1024_0_0).toLoadRect (harg4.unread x3)) (View.readAt (Elt F) arg5.view (Rect.unit (s := S8x1024) ![0, 0] S8x1024.size inb_S8x1024_S8x1024_0_0).toLoadRect (harg5.unread x4))⟩] (Rect.unit (s := S264x1024) ![7, 0] S256x1024.size inb_S264x1024_S256x1024_7_0).toLoadRect) (arg19.view.readCov [(⟨Rect.unit (s := S264x1024) ![8, 0] S256x1024.size inb_S264x1024_S256x1024_8_0, k0_pay7 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2))⟩ : View.Piece (Elt F) S264x1024 .f32), ⟨Rect.unit (s := S264x1024) ![0, 0] S8x1024.size inb_S264x1024_S8x1024_0_0, k0_pay6 i (View.readAt (Elt F) arg4.view (Rect.unit (s := S8x1024) ![0, 0] S8x1024.size inb_S8x1024_S8x1024_0_0).toLoadRect (harg4.unread x3)) (View.readAt (Elt F) arg5.view (Rect.unit (s := S8x1024) ![0, 0] S8x1024.size inb_S8x1024_S8x1024_0_0).toLoadRect (harg5.unread x4))⟩] (Rect.unit (s := S264x1024) ![6, 0] S256x1024.size inb_S264x1024_S256x1024_6_0).toLoadRect) (View.readAt (Elt F) arg1.view (Rect.unit (s := S256x1024) ![0, 0] S256x1024.size inb_S256x1024_S256x1024_0_0).toLoadRect (harg1.unread x0)) (View.readAt (Elt F) arg12.view (Rect.unit (s := S1024x2048) ![0, 0] S1024x2048.size inb_S1024x2048_S1024x2048_0_0).toLoadRect (harg12.unread x11)) (View.readAt (Elt F) arg8.view (Rect.unit (s := S256x1024) ![0, 0] S256x1024.size inb_S256x1024_S256x1024_0_0).toLoadRect (harg8.unread x7)) (View.readAt (Elt F) arg13.view (Rect.unit (s := S1024x2048) ![0, 0] S1024x2048.size inb_S1024x2048_S1024x2048_0_0).toLoadRect (harg13.unread x12)) (View.readAt (Elt F) arg11.view (Rect.unit (s := S1x4096) ![0, 0] S1x4096.size inb_S1x4096_S1x4096_0_0).toLoadRect (harg11.unread x10)) (View.readAt (Elt F) arg6.view (Rect.unit (s := S256x2048) ![0, 0] S256x2048.size inb_S256x2048_S256x2048_0_0).toLoadRect (harg6.unread x5)) (View.readAt (Elt F) arg7.view (Rect.unit (s := S256x2048) ![0, 0] S256x2048.size inb_S256x2048_S256x2048_0_0).toLoadRect (harg7.unread x6))) (View.readAt (Elt F) arg14.view (Rect.unit (s := S2048x2048) ![0, 0] S2048x2048.size inb_S2048x2048_S2048x2048_0_0).toLoadRect (harg14.unread x13))⟩]) rfl ?_
  rw [scratch_read arg19.view _ _ 7 (by omega), scratch_read arg19.view _ _ 6 (by omega), readAt_all arg1 harg1 x0 ![0, 0] _ zero2, readAt_all arg2 harg2 x1 ![0, 0] _ zero2, readAt_all arg3 harg3 x2 ![0, 0] _ zero2, readAt_all arg4 harg4 x3 ![0, 0] _ zero2, readAt_all arg5 harg5 x4 ![0, 0] _ zero2, readAt_all arg6 harg6 x5 ![0, 0] _ zero2, readAt_all arg7 harg7 x6 ![0, 0] _ zero2, readAt_all arg8 harg8 x7 ![0, 0] _ zero2, readAt_all arg9 harg9 x8 ![0, 0] _ zero2, readAt_all arg10 harg10 x9 ![0, 0] _ zero2, readAt_all arg11 harg11 x10 ![0, 0] _ zero2, readAt_all arg12 harg12 x11 ![0, 0] _ zero2, readAt_all arg13 harg13 x12 ![0, 0] _ zero2, readAt_all arg14 harg14 x13 ![0, 0] _ zero2]
  rfl

set_option maxHeartbeats 4000000 in
/-- The normalized rows of a block, stored whole. -/
theorem stores_norm (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x1024 .bf16) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x4096 .f32) (harg11 : arg11.IsWhole) (arg12 : Memref sig .tc .vmem S1024x2048 .bf16) (harg12 : arg12.IsWhole) (arg13 : Memref sig .tc .vmem S1024x2048 .bf16) (harg13 : arg13.IsWhole) (arg14 : Memref sig .tc .vmem S2048x2048 .bf16) (harg14 : arg14.IsWhole) (arg15 : Memref sig .tc .vmem S1x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S2048x256 .bf16) (harg18 : arg18.IsWhole) (arg19 : Memref sig .tc .vmem S264x1024 .f32) (harg19 : arg19.IsWhole)
    (x0 : Vec F S256x1024 .f32) (x1 : Vec F S256x1024 .f32) (x2 : Vec F S256x1024 .f32) (x3 : Vec F S8x1024 .f32) (x4 : Vec F S8x1024 .f32) (x5 : Vec F S256x2048 .f32) (x6 : Vec F S256x2048 .f32) (x7 : Vec F S256x1024 .bf16) (x8 : Vec F S256x2048 .f32) (x9 : Vec F S3x1024 .f32) (x10 : Vec F S1x4096 .f32) (x11 : Vec F S1024x2048 .bf16) (x12 : Vec F S1024x2048 .bf16) (x13 : Vec F S2048x2048 .bf16) (x14 : Vec F S1x2048 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14).2.1 = [⟨Rect.unit (s := S256x2048) ![0, 0] S256x2048.size inb_S256x2048_S256x2048_0_0, k0_pay3 (k0_pay11 x8) (mBlk i x0 x1 x2 x3 x4 x5 x6 x7 x9 x10 x11 x12) x13 x14⟩] := by
  unfold kernelRun0_A
  dsimp only
  refine Eq.trans (b := [⟨Rect.unit (s := S256x2048) ![0, 0] S256x2048.size inb_S256x2048_S256x2048_0_0, k0_pay3 (k0_pay11 (View.readAt (Elt F) arg9.view (Rect.unit (s := S256x2048) ![0, 0] S256x2048.size inb_S256x2048_S256x2048_0_0).toLoadRect (harg9.unread x8))) (k0_pay12 (k0_pay8 (View.readAt (Elt F) arg10.view (Rect.unit (s := S3x1024) ![0, 0] S3x1024.size inb_S3x1024_S3x1024_0_0).toLoadRect (harg10.unread x9))) (k0_pay9 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2)) (View.readAt (Elt F) arg10.view (Rect.unit (s := S3x1024) ![0, 0] S3x1024.size inb_S3x1024_S3x1024_0_0).toLoadRect (harg10.unread x9))) (k0_pay10 (View.readAt (Elt F) arg10.view (Rect.unit (s := S3x1024) ![0, 0] S3x1024.size inb_S3x1024_S3x1024_0_0).toLoadRect (harg10.unread x9))) (arg19.view.readCov [(⟨Rect.unit (s := S264x1024) ![8, 0] S256x1024.size inb_S264x1024_S256x1024_8_0, k0_pay7 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2))⟩ : View.Piece (Elt F) S264x1024 .f32), ⟨Rect.unit (s := S264x1024) ![0, 0] S8x1024.size inb_S264x1024_S8x1024_0_0, k0_pay6 i (View.readAt (Elt F) arg4.view (Rect.unit (s := S8x1024) ![0, 0] S8x1024.size inb_S8x1024_S8x1024_0_0).toLoadRect (harg4.unread x3)) (View.readAt (Elt F) arg5.view (Rect.unit (s := S8x1024) ![0, 0] S8x1024.size inb_S8x1024_S8x1024_0_0).toLoadRect (harg5.unread x4))⟩] (Rect.unit (s := S264x1024) ![7, 0] S256x1024.size inb_S264x1024_S256x1024_7_0).toLoadRect) (arg19.view.readCov [(⟨Rect.unit (s := S264x1024) ![8, 0] S256x1024.size inb_S264x1024_S256x1024_8_0, k0_pay7 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2))⟩ : View.Piece (Elt F) S264x1024 .f32), ⟨Rect.unit (s := S264x1024) ![0, 0] S8x1024.size inb_S264x1024_S8x1024_0_0, k0_pay6 i (View.readAt (Elt F) arg4.view (Rect.unit (s := S8x1024) ![0, 0] S8x1024.size inb_S8x1024_S8x1024_0_0).toLoadRect (harg4.unread x3)) (View.readAt (Elt F) arg5.view (Rect.unit (s := S8x1024) ![0, 0] S8x1024.size inb_S8x1024_S8x1024_0_0).toLoadRect (harg5.unread x4))⟩] (Rect.unit (s := S264x1024) ![6, 0] S256x1024.size inb_S264x1024_S256x1024_6_0).toLoadRect) (View.readAt (Elt F) arg1.view (Rect.unit (s := S256x1024) ![0, 0] S256x1024.size inb_S256x1024_S256x1024_0_0).toLoadRect (harg1.unread x0)) (View.readAt (Elt F) arg12.view (Rect.unit (s := S1024x2048) ![0, 0] S1024x2048.size inb_S1024x2048_S1024x2048_0_0).toLoadRect (harg12.unread x11)) (View.readAt (Elt F) arg8.view (Rect.unit (s := S256x1024) ![0, 0] S256x1024.size inb_S256x1024_S256x1024_0_0).toLoadRect (harg8.unread x7)) (View.readAt (Elt F) arg13.view (Rect.unit (s := S1024x2048) ![0, 0] S1024x2048.size inb_S1024x2048_S1024x2048_0_0).toLoadRect (harg13.unread x12)) (View.readAt (Elt F) arg11.view (Rect.unit (s := S1x4096) ![0, 0] S1x4096.size inb_S1x4096_S1x4096_0_0).toLoadRect (harg11.unread x10)) (View.readAt (Elt F) arg6.view (Rect.unit (s := S256x2048) ![0, 0] S256x2048.size inb_S256x2048_S256x2048_0_0).toLoadRect (harg6.unread x5)) (View.readAt (Elt F) arg7.view (Rect.unit (s := S256x2048) ![0, 0] S256x2048.size inb_S256x2048_S256x2048_0_0).toLoadRect (harg7.unread x6))) (View.readAt (Elt F) arg14.view (Rect.unit (s := S2048x2048) ![0, 0] S2048x2048.size inb_S2048x2048_S2048x2048_0_0).toLoadRect (harg14.unread x13)) (View.readAt (Elt F) arg15.view (Rect.unit (s := S1x2048) ![0, 0] S1x2048.size inb_S1x2048_S1x2048_0_0).toLoadRect (harg15.unread x14))⟩]) rfl ?_
  rw [scratch_read arg19.view _ _ 7 (by omega), scratch_read arg19.view _ _ 6 (by omega), readAt_all arg1 harg1 x0 ![0, 0] _ zero2, readAt_all arg2 harg2 x1 ![0, 0] _ zero2, readAt_all arg3 harg3 x2 ![0, 0] _ zero2, readAt_all arg4 harg4 x3 ![0, 0] _ zero2, readAt_all arg5 harg5 x4 ![0, 0] _ zero2, readAt_all arg6 harg6 x5 ![0, 0] _ zero2, readAt_all arg7 harg7 x6 ![0, 0] _ zero2, readAt_all arg8 harg8 x7 ![0, 0] _ zero2, readAt_all arg9 harg9 x8 ![0, 0] _ zero2, readAt_all arg10 harg10 x9 ![0, 0] _ zero2, readAt_all arg11 harg11 x10 ![0, 0] _ zero2, readAt_all arg12 harg12 x11 ![0, 0] _ zero2, readAt_all arg13 harg13 x12 ![0, 0] _ zero2, readAt_all arg14 harg14 x13 ![0, 0] _ zero2, readAt_all arg15 harg15 x14 ![0, 0] _ zero2]
  rfl

set_option maxHeartbeats 4000000 in
/-- The normalized rows transposed of a block, stored whole. -/
theorem stores_normT (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x1024 .bf16) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x4096 .f32) (harg11 : arg11.IsWhole) (arg12 : Memref sig .tc .vmem S1024x2048 .bf16) (harg12 : arg12.IsWhole) (arg13 : Memref sig .tc .vmem S1024x2048 .bf16) (harg13 : arg13.IsWhole) (arg14 : Memref sig .tc .vmem S2048x2048 .bf16) (harg14 : arg14.IsWhole) (arg15 : Memref sig .tc .vmem S1x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S2048x256 .bf16) (harg18 : arg18.IsWhole) (arg19 : Memref sig .tc .vmem S264x1024 .f32) (harg19 : arg19.IsWhole)
    (x0 : Vec F S256x1024 .f32) (x1 : Vec F S256x1024 .f32) (x2 : Vec F S256x1024 .f32) (x3 : Vec F S8x1024 .f32) (x4 : Vec F S8x1024 .f32) (x5 : Vec F S256x2048 .f32) (x6 : Vec F S256x2048 .f32) (x7 : Vec F S256x1024 .bf16) (x8 : Vec F S256x2048 .f32) (x9 : Vec F S3x1024 .f32) (x10 : Vec F S1x4096 .f32) (x11 : Vec F S1024x2048 .bf16) (x12 : Vec F S1024x2048 .bf16) (x13 : Vec F S2048x2048 .bf16) (x14 : Vec F S1x2048 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14).2.2.1 = [⟨Rect.unit (s := S2048x256) ![0, 0] S2048x256.size inb_S2048x256_S2048x256_0_0, k0_pay4 (k0_pay11 x8) (mBlk i x0 x1 x2 x3 x4 x5 x6 x7 x9 x10 x11 x12) x13 x14⟩] := by
  unfold kernelRun0_A
  dsimp only
  refine Eq.trans (b := [⟨Rect.unit (s := S2048x256) ![0, 0] S2048x256.size inb_S2048x256_S2048x256_0_0, k0_pay4 (k0_pay11 (View.readAt (Elt F) arg9.view (Rect.unit (s := S256x2048) ![0, 0] S256x2048.size inb_S256x2048_S256x2048_0_0).toLoadRect (harg9.unread x8))) (k0_pay12 (k0_pay8 (View.readAt (Elt F) arg10.view (Rect.unit (s := S3x1024) ![0, 0] S3x1024.size inb_S3x1024_S3x1024_0_0).toLoadRect (harg10.unread x9))) (k0_pay9 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2)) (View.readAt (Elt F) arg10.view (Rect.unit (s := S3x1024) ![0, 0] S3x1024.size inb_S3x1024_S3x1024_0_0).toLoadRect (harg10.unread x9))) (k0_pay10 (View.readAt (Elt F) arg10.view (Rect.unit (s := S3x1024) ![0, 0] S3x1024.size inb_S3x1024_S3x1024_0_0).toLoadRect (harg10.unread x9))) (arg19.view.readCov [(⟨Rect.unit (s := S264x1024) ![8, 0] S256x1024.size inb_S264x1024_S256x1024_8_0, k0_pay7 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2))⟩ : View.Piece (Elt F) S264x1024 .f32), ⟨Rect.unit (s := S264x1024) ![0, 0] S8x1024.size inb_S264x1024_S8x1024_0_0, k0_pay6 i (View.readAt (Elt F) arg4.view (Rect.unit (s := S8x1024) ![0, 0] S8x1024.size inb_S8x1024_S8x1024_0_0).toLoadRect (harg4.unread x3)) (View.readAt (Elt F) arg5.view (Rect.unit (s := S8x1024) ![0, 0] S8x1024.size inb_S8x1024_S8x1024_0_0).toLoadRect (harg5.unread x4))⟩] (Rect.unit (s := S264x1024) ![7, 0] S256x1024.size inb_S264x1024_S256x1024_7_0).toLoadRect) (arg19.view.readCov [(⟨Rect.unit (s := S264x1024) ![8, 0] S256x1024.size inb_S264x1024_S256x1024_8_0, k0_pay7 (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2))⟩ : View.Piece (Elt F) S264x1024 .f32), ⟨Rect.unit (s := S264x1024) ![0, 0] S8x1024.size inb_S264x1024_S8x1024_0_0, k0_pay6 i (View.readAt (Elt F) arg4.view (Rect.unit (s := S8x1024) ![0, 0] S8x1024.size inb_S8x1024_S8x1024_0_0).toLoadRect (harg4.unread x3)) (View.readAt (Elt F) arg5.view (Rect.unit (s := S8x1024) ![0, 0] S8x1024.size inb_S8x1024_S8x1024_0_0).toLoadRect (harg5.unread x4))⟩] (Rect.unit (s := S264x1024) ![6, 0] S256x1024.size inb_S264x1024_S256x1024_6_0).toLoadRect) (View.readAt (Elt F) arg1.view (Rect.unit (s := S256x1024) ![0, 0] S256x1024.size inb_S256x1024_S256x1024_0_0).toLoadRect (harg1.unread x0)) (View.readAt (Elt F) arg12.view (Rect.unit (s := S1024x2048) ![0, 0] S1024x2048.size inb_S1024x2048_S1024x2048_0_0).toLoadRect (harg12.unread x11)) (View.readAt (Elt F) arg8.view (Rect.unit (s := S256x1024) ![0, 0] S256x1024.size inb_S256x1024_S256x1024_0_0).toLoadRect (harg8.unread x7)) (View.readAt (Elt F) arg13.view (Rect.unit (s := S1024x2048) ![0, 0] S1024x2048.size inb_S1024x2048_S1024x2048_0_0).toLoadRect (harg13.unread x12)) (View.readAt (Elt F) arg11.view (Rect.unit (s := S1x4096) ![0, 0] S1x4096.size inb_S1x4096_S1x4096_0_0).toLoadRect (harg11.unread x10)) (View.readAt (Elt F) arg6.view (Rect.unit (s := S256x2048) ![0, 0] S256x2048.size inb_S256x2048_S256x2048_0_0).toLoadRect (harg6.unread x5)) (View.readAt (Elt F) arg7.view (Rect.unit (s := S256x2048) ![0, 0] S256x2048.size inb_S256x2048_S256x2048_0_0).toLoadRect (harg7.unread x6))) (View.readAt (Elt F) arg14.view (Rect.unit (s := S2048x2048) ![0, 0] S2048x2048.size inb_S2048x2048_S2048x2048_0_0).toLoadRect (harg14.unread x13)) (View.readAt (Elt F) arg15.view (Rect.unit (s := S1x2048) ![0, 0] S1x2048.size inb_S1x2048_S1x2048_0_0).toLoadRect (harg15.unread x14))⟩]) rfl ?_
  rw [scratch_read arg19.view _ _ 7 (by omega), scratch_read arg19.view _ _ 6 (by omega), readAt_all arg1 harg1 x0 ![0, 0] _ zero2, readAt_all arg2 harg2 x1 ![0, 0] _ zero2, readAt_all arg3 harg3 x2 ![0, 0] _ zero2, readAt_all arg4 harg4 x3 ![0, 0] _ zero2, readAt_all arg5 harg5 x4 ![0, 0] _ zero2, readAt_all arg6 harg6 x5 ![0, 0] _ zero2, readAt_all arg7 harg7 x6 ![0, 0] _ zero2, readAt_all arg8 harg8 x7 ![0, 0] _ zero2, readAt_all arg9 harg9 x8 ![0, 0] _ zero2, readAt_all arg10 harg10 x9 ![0, 0] _ zero2, readAt_all arg11 harg11 x10 ![0, 0] _ zero2, readAt_all arg12 harg12 x11 ![0, 0] _ zero2, readAt_all arg13 harg13 x12 ![0, 0] _ zero2, readAt_all arg14 harg14 x13 ![0, 0] _ zero2, readAt_all arg15 harg15 x14 ![0, 0] _ zero2]
  rfl

end Cert.Kernel3Ideal.Merge
-- ==== Proof.MeMath.lean ====
module

public import proofs.«01_k».proof.Proof.InMath

/-!
# The mathematics of the merge of the branches

The short gated convolution, the two branches' products, their sum under sigmoid gates, the output projection added to
the layer's input, and the rows normalized.
-/

@[expose] public section
noncomputable section
namespace Cert.Merge
open Idealize.ShloMosaic Idealize.ShloMosaic.Pointwise Cert.Inproj

/-- A gate: the sigmoid of a number and its bias. -/
def gate (x b : EReal) : EReal := Ideal.logistic (x + b)

/-- Two branches, each under its gate. -/
def mixed (ga ba ya gb bb yb : EReal) : EReal := gate ga ba * ya + gate gb bb * yb

/-- Three taps: the row's own number, the one before, and the one before that. -/
def taps (w2 z w1 z1 w0 z2 : EReal) : EReal := w2 * z + w1 * z1 + w0 * z2

section arrays
variable (p : (⟨2, ![8192, 10240]⟩ : Shape).Idx → EReal) (at' : (⟨2, ![8192, 1024]⟩ : Shape).Idx → EReal)
  (x : (⟨3, ![2, 4096, 2048]⟩ : Shape).Idx → EReal) (gb : (⟨2, ![1, 4096]⟩ : Shape).Idx → EReal)
  (cw : (⟨3, ![1, 3, 1024]⟩ : Shape).Idx → EReal) (wa wb : (⟨3, ![1, 1024, 2048]⟩ : Shape).Idx → EReal)
  (wo : (⟨3, ![1, 2048, 2048]⟩ : Shape).Idx → EReal) (g : (⟨2, ![1, 2048]⟩ : Shape).Idx → EReal)

/-- The convolution's input at a row. -/
def prodAt (R : Fin 8192) (n : Fin 1024) : EReal := p (ix2 R ⟨1024 + n.val, by omega⟩) * p (ix2 R ⟨2048 + n.val, by omega⟩)

/-- The convolution's input `d` rows before, zero before the sequence's start. -/
def backAt (d : ℕ) (R : Fin 8192) (n : Fin 1024) : EReal :=
  if R.val % 4096 < d then 0 else prodAt p ⟨R.val - d, by omega⟩ n

/-- The gated convolution at a row. -/
def convAt (R : Fin 8192) (n : Fin 1024) : EReal :=
  p (ix2 R ⟨n.val, by omega⟩) * taps (cw (ix3 0 2 n)) (prodAt p R n) (cw (ix3 0 1 n)) (backAt p 1 R n) (cw (ix3 0 0 n)) (backAt p 2 R n)

/-- The branches, gated and added. -/
def mixedAt (R : Fin 8192) (j : Fin 2048) : EReal :=
  mixed (p (ix2 R ⟨6144 + j.val, by omega⟩)) (gb (ix2 0 ⟨j.val, by omega⟩)) (∑ n, convAt p cw R n * wa (ix3 0 n j))
    (p (ix2 R ⟨8192 + j.val, by omega⟩)) (gb (ix2 0 ⟨2048 + j.val, by omega⟩)) (∑ n, at' (ix2 R n) * wb (ix3 0 n j))

/-- The layer's input with the branches added. -/
def sumAt (R : Fin 8192) (j : Fin 2048) : EReal :=
  x (ix3 (batchOf R) (placeOf R) j) + ∑ k, mixedAt p at' gb cw wa wb R k * wo (ix3 0 k j)

/-- Its rows normalized. -/
def normAt (R : Fin 8192) (j : Fin 2048) : EReal := hid (sumAt p at' x gb cw wa wb wo R) (fun k => g (ix2 0 k)) j

/-- The sum, as an array. -/
def sumArr : (⟨2, ![8192, 2048]⟩ : Shape).Idx → EReal := fun y => sumAt p at' x gb cw wa wb wo (y 0) (y 1)
/-- The normalized rows. -/
def normArr : (⟨2, ![8192, 2048]⟩ : Shape).Idx → EReal := fun y => normAt p at' x gb cw wa wb wo g (y 0) (y 1)
/-- The normalized rows, transposed. -/
def turnedArr : (⟨2, ![2048, 8192]⟩ : Shape).Idx → EReal := fun y => normAt p at' x gb cw wa wb wo g (y 1) (y 0)

end arrays
end Cert.Merge
-- ==== Proof.MeApply.lean ====
module

public import proofs.«01_k».proof.Proof.Gen.Kernel3Ideal.Skeleton
public import proofs.«01_k».proof.Proof.MeMath
public import Idealize.ShloMosaic.Lib.WordCmp

/-!
# What the merge's body computes, read at an index
-/

@[expose] public section
set_option maxRecDepth 16384
noncomputable section
namespace Cert.Kernel3Ideal.Merge
open Cert.Kernel3Ideal Cert.Kernel3Ideal.Gen
open Idealize.ShloMosaic Idealize.ShloMosaic.TcCoe Idealize.ShloMosaic.Pointwise Cert.Inproj Cert.Merge

/-- The convolution's input. -/
theorem z_apply (a b : FVec Ideal S256x1024 .f32) (r : Fin 256) (n : Fin 1024) :
    k0_pay7 (F := Ideal) a b (ix2 r n) = a (ix2 r n) * b (ix2 r n) := by
  pointwise [k0_pay7, k0_pay5]

/-- The eight rows before the block: zero where the block starts a sequence. -/
theorem halo_apply (i : grid0.Coords) (a b : FVec Ideal S8x1024 .f32) (r : Fin 8) (n : Fin 1024) :
    k0_pay6 (F := Ideal) i a b (ix2 r n) = if (i 0).val % 16 = 0 then 0 else a (ix2 r n) * b (ix2 r n) := by
  have hb : ∀ k : Fin 32, (Scalar.cmpi .eq (Scalar.select (Scalar.andi (Scalar.xori (Scalar.cmpi .slt (Scalar.remsi (Scalar.muli (BitVec.ofNat 32 k.val) 256#32) (Scalar.select (Scalar.cmpi .eq 4096#32 0#32) 1#32 4096#32)) 0#32)
      (Scalar.cmpi .slt (Scalar.select (Scalar.cmpi .eq 4096#32 0#32) 1#32 4096#32) 0#32)) (Scalar.cmpi .ne (Scalar.remsi (Scalar.muli (BitVec.ofNat 32 k.val) 256#32) (Scalar.select (Scalar.cmpi .eq 4096#32 0#32) 1#32 4096#32)) 0#32))
      (Scalar.addi (Scalar.remsi (Scalar.muli (BitVec.ofNat 32 k.val) 256#32) (Scalar.select (Scalar.cmpi .eq 4096#32 0#32) 1#32 4096#32)) (Scalar.select (Scalar.cmpi .eq 4096#32 0#32) 1#32 4096#32))
      (Scalar.remsi (Scalar.muli (BitVec.ofNat 32 k.val) 256#32) (Scalar.select (Scalar.cmpi .eq 4096#32 0#32) 1#32 4096#32))) 0#32 : BitVec 1) = BitVec.ofBool (decide (k.val % 16 = 0)) := by decide +kernel
  unfold k0_pay6
  dsimp only
  rw [hb ⟨(i 0).val, (i 0).isLt⟩]
  by_cases h : (i 0).val % 16 = 0
  · rw [if_pos h]
    simp only [h]
    pointwise
  · rw [if_neg h]
    simp only [h]
    pointwise

/-- The branches of a block, gated and added. -/
theorem mixed_apply (cb cc cx : FVec Ideal S256x1024 .f32) (w : FVec Ideal S3x1024 .f32) (z1 z2 : FVec Ideal S256x1024 .f32)
    (wa : FVec Ideal S1024x2048 .bf16) (a : FVec Ideal S256x1024 .bf16) (wb : FVec Ideal S1024x2048 .bf16) (bias : FVec Ideal S1x4096 .f32)
    (ga gb : FVec Ideal S256x2048 .f32) (r : Fin 256) (j : Fin 2048) :
    k0_pay12 (F := Ideal) (k0_pay8 w) (k0_pay9 cc cx w) (k0_pay10 w) z1 z2 cb wa a wb bias ga gb (ix2 r j)
      = mixed (ga (ix2 r j)) (bias (ix2 0 ⟨j.val, by omega⟩)) (∑ n : Fin 1024, cb (ix2 r n) * taps (w (ix2 2 n)) (cc (ix2 r n) * cx (ix2 r n)) (w (ix2 1 n)) (z1 (ix2 r n)) (w (ix2 0 n)) (z2 (ix2 r n)) * wa (ix2 n j))
          (gb (ix2 r j)) (bias (ix2 0 ⟨2048 + j.val, by omega⟩)) (∑ n : Fin 1024, a (ix2 r n) * wb (ix2 n j)) := by
  unfold mixed gate taps
  pointwise [k0_pay12, k0_pay8, k0_pay9, k0_pay10, k0_pay5]

/-- The output projection added to the input's block. -/
theorem sum_apply (x : FVec Ideal S256x2048 .f32) (y : FVec Ideal S256x2048 .bf16) (wo : FVec Ideal S2048x2048 .bf16) (r : Fin 256) (j : Fin 2048) :
    k0_pay1 (F := Ideal) (k0_pay11 x) y wo (ix2 r j) = x (ix2 r j) + ∑ k : Fin 2048, y (ix2 r k) * wo (ix2 k j) := by
  pointwise [k0_pay1, k0_pay11]

/-- A normalized row, of the sum already read. -/
theorem norm_apply (x : FVec Ideal S256x2048 .f32) (y : FVec Ideal S256x2048 .bf16) (wo : FVec Ideal S2048x2048 .bf16) (g : FVec Ideal S1x2048 .f32) (r : Fin 256) (j : Fin 2048) :
    k0_pay3 (F := Ideal) (k0_pay11 x) y wo g (ix2 r j) = hid (fun j => k0_pay1 (F := Ideal) (k0_pay11 x) y wo (ix2 r j)) (fun k => g (ix2 0 k)) j := by
  unfold hid
  pointwise [k0_pay3, k0_pay2]

/-- The same, transposed. -/
theorem normT_apply (x : FVec Ideal S256x2048 .f32) (y : FVec Ideal S256x2048 .bf16) (wo : FVec Ideal S2048x2048 .bf16) (g : FVec Ideal S1x2048 .f32) (r : Fin 256) (j : Fin 2048) :
    k0_pay4 (F := Ideal) (k0_pay11 x) y wo g (ix2 j r) = hid (fun j => k0_pay1 (F := Ideal) (k0_pay11 x) y wo (ix2 r j)) (fun k => g (ix2 0 k)) j := by
  unfold hid
  pointwise [k0_pay4, k0_pay2]

end Cert.Kernel3Ideal.Merge
-- ==== Proof.MeOut.lean ====
module

public import proofs.«01_k».proof.Proof.MeLists
public import proofs.«01_k».proof.Proof.MeApply

/-!
# The arrays the merge leaves

The blocks a grid point reads, and the three arrays its stores make up.
-/

@[expose] public section
set_option maxRecDepth 16384
noncomputable section
namespace Cert.Kernel3Ideal.Merge
open Cert.Kernel3Ideal Cert.Kernel3Ideal.Gen Idealize.ShloMosaic Idealize.ShloMosaic.TcCoe Idealize.SL.Sem
open Idealize.ShloMosaic.Pointwise Cert.Inproj Cert.Merge

/-- Window 0's block at a grid point. -/
theorem index0 : ∀ t : Fin cfg0.N, win0_0.index t = ![(grid0.coords t 0).val, 0] :=
  (by decide +kernel : ∀ t : Fin grid0.N, win0_0.index t = ![(grid0.coords t 0).val, 0])
/-- Window 1's block at a grid point. -/
theorem index1 : ∀ t : Fin cfg0.N, win0_1.index t = ![(grid0.coords t 0).val, 1] :=
  (by decide +kernel : ∀ t : Fin grid0.N, win0_1.index t = ![(grid0.coords t 0).val, 1])
/-- Window 2's block at a grid point. -/
theorem index2 : ∀ t : Fin cfg0.N, win0_2.index t = ![(grid0.coords t 0).val, 2] :=
  (by decide +kernel : ∀ t : Fin grid0.N, win0_2.index t = ![(grid0.coords t 0).val, 2])
/-- Window 3's block at a grid point. -/
theorem index3 : ∀ t : Fin cfg0.N, win0_3.index t = ![(grid0.coords t 0).val * 32 - 1, 1] :=
  (by decide +kernel : ∀ t : Fin grid0.N, win0_3.index t = ![(grid0.coords t 0).val * 32 - 1, 1])
/-- Window 4's block at a grid point. -/
theorem index4 : ∀ t : Fin cfg0.N, win0_4.index t = ![(grid0.coords t 0).val * 32 - 1, 2] :=
  (by decide +kernel : ∀ t : Fin grid0.N, win0_4.index t = ![(grid0.coords t 0).val * 32 - 1, 2])
/-- Window 5's block at a grid point. -/
theorem index5 : ∀ t : Fin cfg0.N, win0_5.index t = ![(grid0.coords t 0).val, 3] :=
  (by decide +kernel : ∀ t : Fin grid0.N, win0_5.index t = ![(grid0.coords t 0).val, 3])
/-- Window 6's block at a grid point. -/
theorem index6 : ∀ t : Fin cfg0.N, win0_6.index t = ![(grid0.coords t 0).val, 4] :=
  (by decide +kernel : ∀ t : Fin grid0.N, win0_6.index t = ![(grid0.coords t 0).val, 4])
/-- Window 7's block at a grid point. -/
theorem index7 : ∀ t : Fin cfg0.N, win0_7.index t = ![(grid0.coords t 0).val, 0] :=
  (by decide +kernel : ∀ t : Fin grid0.N, win0_7.index t = ![(grid0.coords t 0).val, 0])
/-- Window 8's block at a grid point. -/
theorem index8 : ∀ t : Fin cfg0.N, win0_8.index t = ![(grid0.coords t 0).val, 0] :=
  (by decide +kernel : ∀ t : Fin grid0.N, win0_8.index t = ![(grid0.coords t 0).val, 0])
/-- Window 9's block at a grid point. -/
theorem index9 : ∀ t : Fin cfg0.N, win0_9.index t = ![0, 0] :=
  (by decide +kernel : ∀ t : Fin grid0.N, win0_9.index t = ![0, 0])
/-- Window 10's block at a grid point. -/
theorem index10 : ∀ t : Fin cfg0.N, win0_10.index t = ![0, 0] :=
  (by decide +kernel : ∀ t : Fin grid0.N, win0_10.index t = ![0, 0])
/-- Window 11's block at a grid point. -/
theorem index11 : ∀ t : Fin cfg0.N, win0_11.index t = ![0, 0] :=
  (by decide +kernel : ∀ t : Fin grid0.N, win0_11.index t = ![0, 0])
/-- Window 12's block at a grid point. -/
theorem index12 : ∀ t : Fin cfg0.N, win0_12.index t = ![0, 0] :=
  (by decide +kernel : ∀ t : Fin grid0.N, win0_12.index t = ![0, 0])
/-- Window 13's block at a grid point. -/
theorem index13 : ∀ t : Fin cfg0.N, win0_13.index t = ![0, 0] :=
  (by decide +kernel : ∀ t : Fin grid0.N, win0_13.index t = ![0, 0])
/-- Window 14's block at a grid point. -/
theorem index14 : ∀ t : Fin cfg0.N, win0_14.index t = ![0, 0] :=
  (by decide +kernel : ∀ t : Fin grid0.N, win0_14.index t = ![0, 0])
/-- Window 15's block at a grid point. -/
theorem index15 : ∀ t : Fin cfg0.N, win0_15.index t = ![(grid0.coords t 0).val, 0] :=
  (by decide +kernel : ∀ t : Fin grid0.N, win0_15.index t = ![(grid0.coords t 0).val, 0])
/-- Window 16's block at a grid point. -/
theorem index16 : ∀ t : Fin cfg0.N, win0_16.index t = ![(grid0.coords t 0).val, 0] :=
  (by decide +kernel : ∀ t : Fin grid0.N, win0_16.index t = ![(grid0.coords t 0).val, 0])
/-- Window 17's block at a grid point. -/
theorem index17 : ∀ t : Fin cfg0.N, win0_17.index t = ![0, (grid0.coords t 0).val] :=
  (by decide +kernel : ∀ t : Fin grid0.N, win0_17.index t = ![0, (grid0.coords t 0).val])

section host
variable (m : (ℓ : Loc nD τ sig) → Buf (Elt Ideal) ℓ) (c : Dev nD)

/-- Rows of the input, by batch. -/
theorem split_x (x : FVec Ideal S2x4096x2048 .f32) (R : Fin 8192) (k : Fin 2048) :
    shapeCast S8192x2048 x shapeCasts_S2x4096x2048_S8192x2048 (ix2 R k) = x (ix3 (batchOf R) (placeOf R) k) := by
  pointwise [batchOf, placeOf]
/-- The taps. -/
theorem split_cw (x : FVec Ideal S1x3x1024 .f32) (k : Fin 3) (n : Fin 1024) :
    shapeCast S3x1024 x shapeCasts_S1x3x1024_S3x1024 (ix2 k n) = x (ix3 0 k n) := by
  pointwise
/-- The biases. -/
theorem split_gb (x : FVec Ideal S1x4096 .f32) (k : Fin 4096) :
    broadcastInDim S1x4096 ![1] bcast_S4096_S1x4096_1 (shapeCast S4096 x shapeCasts_S1x4096_S4096) (ix2 0 k) = x (ix2 0 k) := by
  pointwise
/-- The gains. -/
theorem split_g (x : FVec Ideal S1x2048 .f32) (k : Fin 2048) :
    broadcastInDim S1x2048 ![1] bcast_S2048_S1x2048_1 (shapeCast S2048 x shapeCasts_S1x2048_S2048) (ix2 0 k) = x (ix2 0 k) := by
  pointwise
/-- A branch's weights. -/
theorem split_w (x : FVec Ideal S1x1024x2048 .f32) (k : Fin 1024) (n : Fin 2048) :
    truncf (F := Ideal) .bf16 (shapeCast S1024x2048 x shapeCasts_S1x1024x2048_S1024x2048) bitsLt_bf16_f32 (ix2 k n) = x (ix3 0 k n) := by
  pointwise
/-- The output's weights. -/
theorem split_wo (x : FVec Ideal S1x2048x2048 .f32) (k : Fin 2048) (n : Fin 2048) :
    truncf (F := Ideal) .bf16 (shapeCast S2048x2048 x shapeCasts_S1x2048x2048_S2048x2048) bitsLt_bf16_f32 (ix2 k n) = x (ix3 0 k n) := by
  pointwise

/-- The rows the kernel starts from. -/
theorem start_x (R : Fin 8192) (k : Fin 2048) : (V m c main_v0 : FVec Ideal S8192x2048 .f32) (ix2 R k) = (m ((c.tc : Thread nD τ).loc main_arg2)) (ix3 (batchOf R) (placeOf R) k) := by
  have h : (V m c main_v0 : FVec Ideal S8192x2048 .f32) = shapeCast S8192x2048 ((m ((c.tc : Thread nD τ).loc main_arg2)) : FVec Ideal S2x4096x2048 .f32) shapeCasts_S2x4096x2048_S8192x2048 := by
    first | rfl | (dsimp only [V]; after_results_simp <;> rfl)
  exact (congrFun h _).trans (split_x _ R k)

/-- The taps the kernel starts from. -/
theorem start_cw (k : Fin 3) (n : Fin 1024) : (V m c main_v2 : FVec Ideal S3x1024 .f32) (ix2 k n) = (m ((c.tc : Thread nD τ).loc main_arg4)) (ix3 0 k n) := by
  have h : (V m c main_v2 : FVec Ideal S3x1024 .f32) = shapeCast S3x1024 ((m ((c.tc : Thread nD τ).loc main_arg4)) : FVec Ideal S1x3x1024 .f32) shapeCasts_S1x3x1024_S3x1024 := by
    first | rfl | (dsimp only [V]; after_results_simp <;> rfl)
  exact (congrFun h _).trans (split_cw _ k n)

/-- The biases the kernel starts from. -/
theorem start_gb (k : Fin 4096) : (V m c main_v7 : FVec Ideal S1x4096 .f32) (ix2 0 k) = (m ((c.tc : Thread nD τ).loc main_arg3)) (ix2 0 k) := by
  have h : (V m c main_v7 : FVec Ideal S1x4096 .f32) = broadcastInDim S1x4096 ![1] bcast_S4096_S1x4096_1 (shapeCast S4096 ((m ((c.tc : Thread nD τ).loc main_arg3)) : FVec Ideal S1x4096 .f32) shapeCasts_S1x4096_S4096) := by
    first | rfl | (dsimp only [V]; after_results_simp <;> rfl)
  exact (congrFun h _).trans (split_gb _ k)

/-- The convolution branch's weights the kernel starts from. -/
theorem start_wa (k : Fin 1024) (n : Fin 2048) : (V m c main_v8 : FVec Ideal S1024x2048 .bf16) (ix2 k n) = (m ((c.tc : Thread nD τ).loc main_arg5)) (ix3 0 k n) := by
  have h : (V m c main_v8 : FVec Ideal S1024x2048 .bf16) = truncf (F := Ideal) .bf16 (shapeCast S1024x2048 ((m ((c.tc : Thread nD τ).loc main_arg5)) : FVec Ideal S1x1024x2048 .f32) shapeCasts_S1x1024x2048_S1024x2048) bitsLt_bf16_f32 := by
    first | rfl | (dsimp only [V]; after_results_simp <;> rfl)
  exact (congrFun h _).trans (split_w _ k n)

/-- The attention branch's weights the kernel starts from. -/
theorem start_wb (k : Fin 1024) (n : Fin 2048) : (V m c main_v9 : FVec Ideal S1024x2048 .bf16) (ix2 k n) = (m ((c.tc : Thread nD τ).loc main_arg6)) (ix3 0 k n) := by
  have h : (V m c main_v9 : FVec Ideal S1024x2048 .bf16) = truncf (F := Ideal) .bf16 (shapeCast S1024x2048 ((m ((c.tc : Thread nD τ).loc main_arg6)) : FVec Ideal S1x1024x2048 .f32) shapeCasts_S1x1024x2048_S1024x2048) bitsLt_bf16_f32 := by
    first | rfl | (dsimp only [V]; after_results_simp <;> rfl)
  exact (congrFun h _).trans (split_w _ k n)

/-- The output's weights the kernel starts from. -/
theorem start_wo (k : Fin 2048) (n : Fin 2048) : (V m c main_v10 : FVec Ideal S2048x2048 .bf16) (ix2 k n) = (m ((c.tc : Thread nD τ).loc main_arg7)) (ix3 0 k n) := by
  have h : (V m c main_v10 : FVec Ideal S2048x2048 .bf16) = truncf (F := Ideal) .bf16 (shapeCast S2048x2048 ((m ((c.tc : Thread nD τ).loc main_arg7)) : FVec Ideal S1x2048x2048 .f32) shapeCasts_S1x2048x2048_S2048x2048) bitsLt_bf16_f32 := by
    first | rfl | (dsimp only [V]; after_results_simp <;> rfl)
  exact (congrFun h _).trans (split_wo _ k n)

/-- The gains the kernel starts from. -/
theorem start_g (k : Fin 2048) : (V m c main_v11 : FVec Ideal S1x2048 .f32) (ix2 0 k) = (m ((c.tc : Thread nD τ).loc main_arg8)) (ix2 0 k) := by
  have h : (V m c main_v11 : FVec Ideal S1x2048 .f32) = broadcastInDim S1x2048 ![1] bcast_S2048_S1x2048_1 (shapeCast S2048 ((m ((c.tc : Thread nD τ).loc main_arg8)) : FVec Ideal S1x2048 .f32) shapeCasts_S1x2048_S2048) := by
    first | rfl | (dsimp only [V]; after_results_simp <;> rfl)
  exact (congrFun h _).trans (split_g _ k)

end host

section blocks
variable (m : (ℓ : Loc nD τ sig) → Buf (Elt Ideal) ℓ) (c : Dev nD) (t : Fin cfg0.N)

/-- There are 32 grid points. -/
theorem point_lt (t : Fin cfg0.N) : (grid0.coords t 0).val < 32 := (grid0.coords t 0).isLt

/-- Row `r` of a grid point's block, among all rows. -/
def rowAt (t : Fin cfg0.N) (r : Fin 256) : Fin 8192 := ⟨(grid0.coords t 0).val * 256 + r.val, by have := point_lt t; omega⟩

/-- A grid point's projection columns from 0. -/
theorem read_cb (r : Fin 256) (n : Fin 1024) : (iblk m c 0 t : FVec Ideal S256x1024 .f32) (ix2 r n) = (m ((c.tc : Thread nD τ).loc main_arg0)) (ix2 (rowAt t r) ⟨n.val, by omega⟩) := by
  have e0 : (rowAt t r).val = (grid0.coords t 0).val * 256 + r.val := rfl
  blk_ext [iblk, V, index0 t]

/-- A grid point's projection columns from 1024. -/
theorem read_cc (r : Fin 256) (n : Fin 1024) : (iblk m c 1 t : FVec Ideal S256x1024 .f32) (ix2 r n) = (m ((c.tc : Thread nD τ).loc main_arg0)) (ix2 (rowAt t r) ⟨1024 + n.val, by omega⟩) := by
  have e0 : (rowAt t r).val = (grid0.coords t 0).val * 256 + r.val := rfl
  blk_ext [iblk, V, index1 t]

/-- A grid point's projection columns from 2048. -/
theorem read_cx (r : Fin 256) (n : Fin 1024) : (iblk m c 2 t : FVec Ideal S256x1024 .f32) (ix2 r n) = (m ((c.tc : Thread nD τ).loc main_arg0)) (ix2 (rowAt t r) ⟨2048 + n.val, by omega⟩) := by
  have e0 : (rowAt t r).val = (grid0.coords t 0).val * 256 + r.val := rfl
  blk_ext [iblk, V, index2 t]

/-- The eight rows before a grid point's block, in the projection's columns from 1024. -/
theorem read_pc (h : (grid0.coords t 0).val % 16 ≠ 0) (r : Fin 8) (n : Fin 1024) : (iblk m c 3 t : FVec Ideal S8x1024 .f32) (ix2 r n) = (m ((c.tc : Thread nD τ).loc main_arg0)) (ix2 (n0 := 8192) (n1 := 10240) ⟨(grid0.coords t 0).val * 256 + r.val - 8, by have := point_lt t; omega⟩ ⟨1024 + n.val, by omega⟩) := by
  have := point_lt t
  blk_ext [iblk, V, index3 t]

/-- The eight rows before a grid point's block, in the projection's columns from 2048. -/
theorem read_px (h : (grid0.coords t 0).val % 16 ≠ 0) (r : Fin 8) (n : Fin 1024) : (iblk m c 4 t : FVec Ideal S8x1024 .f32) (ix2 r n) = (m ((c.tc : Thread nD τ).loc main_arg0)) (ix2 (n0 := 8192) (n1 := 10240) ⟨(grid0.coords t 0).val * 256 + r.val - 8, by have := point_lt t; omega⟩ ⟨2048 + n.val, by omega⟩) := by
  have := point_lt t
  blk_ext [iblk, V, index4 t]

/-- A grid point's projection columns from 6144. -/
theorem read_ga (r : Fin 256) (j : Fin 2048) : (iblk m c 5 t : FVec Ideal S256x2048 .f32) (ix2 r j) = (m ((c.tc : Thread nD τ).loc main_arg0)) (ix2 (rowAt t r) ⟨6144 + j.val, by omega⟩) := by
  have e0 : (rowAt t r).val = (grid0.coords t 0).val * 256 + r.val := rfl
  blk_ext [iblk, V, index5 t]

/-- A grid point's projection columns from 8192. -/
theorem read_gb (r : Fin 256) (j : Fin 2048) : (iblk m c 6 t : FVec Ideal S256x2048 .f32) (ix2 r j) = (m ((c.tc : Thread nD τ).loc main_arg0)) (ix2 (rowAt t r) ⟨8192 + j.val, by omega⟩) := by
  have e0 : (rowAt t r).val = (grid0.coords t 0).val * 256 + r.val := rfl
  blk_ext [iblk, V, index6 t]

/-- A grid point's attention. -/
theorem read_at (r : Fin 256) (n : Fin 1024) : (iblk m c 7 t : FVec Ideal S256x1024 .bf16) (ix2 r n) = (m ((c.tc : Thread nD τ).loc main_arg1)) (ix2 (rowAt t r) n) := by
  have e0 : (rowAt t r).val = (grid0.coords t 0).val * 256 + r.val := rfl
  blk_ext [iblk, V, index7 t]

/-- A grid point's input rows. -/
theorem read_x (r : Fin 256) (j : Fin 2048) : (iblk m c 8 t : FVec Ideal S256x2048 .f32) (ix2 r j) = (m ((c.tc : Thread nD τ).loc main_arg2)) (ix3 (batchOf (rowAt t r)) (placeOf (rowAt t r)) j) := by
  have h : (iblk m c 8 t : FVec Ideal S256x2048 .f32) (ix2 r j) = (V m c main_v0 : FVec Ideal S8192x2048 .f32) (ix2 (rowAt t r) j) := by
    have e0 : (rowAt t r).val = (grid0.coords t 0).val * 256 + r.val := rfl
    blk_ext [iblk, index8 t]
  exact h.trans (start_x m c (rowAt t r) j)

/-- The taps. -/
theorem read_cw (k : Fin 3) (n : Fin 1024) : (iblk m c 9 t : FVec Ideal S3x1024 .f32) (ix2 k n) = (m ((c.tc : Thread nD τ).loc main_arg4)) (ix3 0 k n) := by
  have h : (iblk m c 9 t : FVec Ideal S3x1024 .f32) (ix2 k n) = (V m c main_v2 : FVec Ideal S3x1024 .f32) (ix2 k n) := by
    blk_ext [iblk, index9 t]
  exact h.trans (start_cw m c k n)

/-- The biases. -/
theorem read_bias (k : Fin 4096) : (iblk m c 10 t : FVec Ideal S1x4096 .f32) (ix2 0 k) = (m ((c.tc : Thread nD τ).loc main_arg3)) (ix2 0 k) := by
  have h : (iblk m c 10 t : FVec Ideal S1x4096 .f32) (ix2 0 k) = (V m c main_v7 : FVec Ideal S1x4096 .f32) (ix2 0 k) := by
    blk_ext [iblk, index10 t]
  exact h.trans (start_gb m c k)

/-- The convolution branch's weights. -/
theorem read_wa (k : Fin 1024) (n : Fin 2048) : (iblk m c 11 t : FVec Ideal S1024x2048 .bf16) (ix2 k n) = (m ((c.tc : Thread nD τ).loc main_arg5)) (ix3 0 k n) := by
  have h : (iblk m c 11 t : FVec Ideal S1024x2048 .bf16) (ix2 k n) = (V m c main_v8 : FVec Ideal S1024x2048 .bf16) (ix2 k n) := by
    blk_ext [iblk, index11 t]
  exact h.trans (start_wa m c k n)

/-- The attention branch's weights. -/
theorem read_wb (k : Fin 1024) (n : Fin 2048) : (iblk m c 12 t : FVec Ideal S1024x2048 .bf16) (ix2 k n) = (m ((c.tc : Thread nD τ).loc main_arg6)) (ix3 0 k n) := by
  have h : (iblk m c 12 t : FVec Ideal S1024x2048 .bf16) (ix2 k n) = (V m c main_v9 : FVec Ideal S1024x2048 .bf16) (ix2 k n) := by
    blk_ext [iblk, index12 t]
  exact h.trans (start_wb m c k n)

/-- The output's weights. -/
theorem read_wo (k : Fin 2048) (n : Fin 2048) : (iblk m c 13 t : FVec Ideal S2048x2048 .bf16) (ix2 k n) = (m ((c.tc : Thread nD τ).loc main_arg7)) (ix3 0 k n) := by
  have h : (iblk m c 13 t : FVec Ideal S2048x2048 .bf16) (ix2 k n) = (V m c main_v10 : FVec Ideal S2048x2048 .bf16) (ix2 k n) := by
    blk_ext [iblk, index13 t]
  exact h.trans (start_wo m c k n)

/-- The gains. -/
theorem read_g (k : Fin 2048) : (iblk m c 14 t : FVec Ideal S1x2048 .f32) (ix2 0 k) = (m ((c.tc : Thread nD τ).loc main_arg8)) (ix2 0 k) := by
  have h : (iblk m c 14 t : FVec Ideal S1x2048 .f32) (ix2 0 k) = (V m c main_v11 : FVec Ideal S1x2048 .f32) (ix2 0 k) := by
    blk_ext [iblk, index14 t]
  exact h.trans (start_g m c k)

/-- The convolution's input of a block, read `d` rows back. -/
theorem back_read (d o : ℕ) (hd : o + d = 8) (hd' : d ≤ 8) (r : Fin 256) (n : Fin 1024) : rowsFrom (F := Ideal) o (k0_pay7 (iblk m c 1 t) (iblk m c 2 t)) (k0_pay6 (grid0.coords t) (iblk m c 3 t) (iblk m c 4 t)) (ix2 r n) = backAt (m ((c.tc : Thread nD τ).loc main_arg0)) d (rowAt t r) n := by
  have hp := point_lt t
  have er : (rowAt t r).val = (grid0.coords t 0).val * 256 + r.val := rfl
  unfold backAt rowsFrom
  by_cases h : r.val + o < 8
  · refine (dif_pos h).trans ((halo_apply (grid0.coords t) _ _ ⟨r.val + o, h⟩ n).trans ?_)
    by_cases h0 : (grid0.coords t 0).val % 16 = 0
    · rw [if_pos h0, if_pos (show (rowAt t r).val % 4096 < d by omega)]
    · rw [if_neg h0, if_neg (show ¬((rowAt t r).val % 4096 < d) by omega), read_pc m c t h0, read_px m c t h0]
      unfold prodAt
      have e : (⟨(grid0.coords t 0).val * 256 + (r.val + o) - 8, by omega⟩ : Fin 8192) = ⟨(rowAt t r).val - d, by omega⟩ := Fin.ext (by show (grid0.coords t 0).val * 256 + (r.val + o) - 8 = (rowAt t r).val - d; omega)
      rw [e]
  · refine (dif_neg h).trans ((z_apply _ _ ⟨(r.val + o - 8) % 256, Nat.mod_lt _ (by omega)⟩ n).trans ?_)
    rw [if_neg (show ¬((rowAt t r).val % 4096 < d) by omega), read_cc m c t, read_cx m c t]
    unfold prodAt
    have e : rowAt t ⟨(r.val + o - 8) % 256, Nat.mod_lt _ (by omega)⟩ = ⟨(rowAt t r).val - d, by omega⟩ := Fin.ext (by show (grid0.coords t 0).val * 256 + (r.val + o - 8) % 256 = (rowAt t r).val - d; omega)
    rw [e]

/-- The gated branches of a block. -/
theorem mixed_read (r : Fin 256) (j : Fin 2048) : (mBlk (F := Ideal) (grid0.coords t) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t)) (ix2 r j) = mixedAt (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (rowAt t r) j := by
  unfold mBlk mixedAt
  refine (mixed_apply _ _ _ _ _ _ _ _ _ _ _ _ r j).trans ?_
  rw [read_ga m c t, read_gb m c t, read_bias m c t, read_bias m c t]
  refine congrArg₂ (fun a b => mixed _ _ a _ _ b) (Finset.sum_congr rfl fun n _ => ?_) (Finset.sum_congr rfl fun n _ => ?_)
  · rw [back_read m c t 1 7 rfl (by omega), back_read m c t 2 6 rfl (by omega), read_cb m c t, read_cc m c t, read_cx m c t, read_cw m c t, read_cw m c t, read_cw m c t, read_wa m c t]
    rfl
  · rw [read_at m c t, read_wb m c t]

/-- The sum of a block. -/
theorem sum_read (r : Fin 256) (j : Fin 2048) : k0_pay1 (F := Ideal) (k0_pay11 (iblk m c 8 t)) (mBlk (F := Ideal) (grid0.coords t) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t)) (iblk m c 13 t) (ix2 r j) = sumAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (rowAt t r) j := by
  unfold sumAt
  refine (sum_apply _ _ _ r j).trans ?_
  rw [read_x m c t]
  refine congrArg _ (Finset.sum_congr rfl fun k _ => ?_)
  rw [mixed_read m c t, read_wo m c t]

/-- The normalized rows of a block. -/
theorem norm_read (r : Fin 256) (j : Fin 2048) : k0_pay3 (F := Ideal) (k0_pay11 (iblk m c 8 t)) (mBlk (F := Ideal) (grid0.coords t) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t)) (iblk m c 13 t) (iblk m c 14 t) (ix2 r j) = normAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (rowAt t r) j := by
  unfold normAt
  refine (norm_apply _ _ _ _ r j).trans ?_
  exact congrArg₂ (fun a b => hid a b j) (funext fun j => sum_read m c t r j) (funext fun k => read_g m c t k)

/-- The normalized rows of a block, transposed. -/
theorem normT_read (r : Fin 256) (j : Fin 2048) : k0_pay4 (F := Ideal) (k0_pay11 (iblk m c 8 t)) (mBlk (F := Ideal) (grid0.coords t) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t)) (iblk m c 13 t) (iblk m c 14 t) (ix2 j r) = normAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (rowAt t r) j := by
  unfold normAt
  refine (normT_apply _ _ _ _ r j).trans ?_
  exact congrArg₂ (fun a b => hid a b j) (funext fun j => sum_read m c t r j) (funext fun k => read_g m c t k)

end blocks

section final
variable (m : (ℓ : Loc nD τ sig) → Buf (Elt Ideal) ℓ) (c : Dev nD)

/-- The sum after the run. -/
theorem final_sum : (dats m 0 c).arrAt 15 cfg0.N = sumArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 15 _ (by decide +kernel) fun t hf y => ?_
  blk_simp
  rw [after0_15]
  have hr : (outsAt0 m c t).1 y = (k0_pay1 (F := Ideal) (k0_pay11 (iblk m c 8 t)) (mBlk (F := Ideal) (grid0.coords t) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t)) (iblk m c 13 t)) y := by
    unfold outsAt0
    dsimp only
    unfold out0_A_15
    rw [View.read_writes_junk_eq_canon, stores_sum, View.canon_unit_zero zero2]
  obtain ⟨r, n, rfl⟩ : ∃ (r : Fin 256) (n : Fin 2048), y = ix2 r n := ⟨⟨(y 0).val, (y 0).isLt⟩, ⟨(y 1).val, (y 1).isLt⟩, by funext a; match a with | ⟨0, _⟩ => rfl | ⟨1, _⟩ => rfl⟩
  have hp : (win0_15.blk t).view.emb (ix2 r n) = ix2 (rowAt t r) n := by
    have e0 : (rowAt t r).val = (grid0.coords t 0).val * 256 + r.val := rfl
    blk_ext [index15 t]
  rw [hr, hp, sum_read m c t]
  rfl

/-- The normalized rows after the run. -/
theorem final_norm : (dats m 0 c).arrAt 16 cfg0.N = normArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 16 _ (by decide +kernel) fun t hf y => ?_
  blk_simp
  rw [after0_16]
  have hr : (outsAt0 m c t).2.1 y = (k0_pay3 (F := Ideal) (k0_pay11 (iblk m c 8 t)) (mBlk (F := Ideal) (grid0.coords t) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t)) (iblk m c 13 t) (iblk m c 14 t)) y := by
    unfold outsAt0
    dsimp only
    unfold out0_A_16
    rw [View.read_writes_junk_eq_canon, stores_norm, View.canon_unit_zero zero2]
  obtain ⟨r, n, rfl⟩ : ∃ (r : Fin 256) (n : Fin 2048), y = ix2 r n := ⟨⟨(y 0).val, (y 0).isLt⟩, ⟨(y 1).val, (y 1).isLt⟩, by funext a; match a with | ⟨0, _⟩ => rfl | ⟨1, _⟩ => rfl⟩
  have hp : (win0_16.blk t).view.emb (ix2 r n) = ix2 (rowAt t r) n := by
    have e0 : (rowAt t r).val = (grid0.coords t 0).val * 256 + r.val := rfl
    blk_ext [index16 t]
  rw [hr, hp, norm_read m c t]
  rfl

/-- The normalized rows transposed after the run. -/
theorem final_normT : (dats m 0 c).arrAt 17 cfg0.N = turnedArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 17 _ (by decide +kernel) fun t hf y => ?_
  blk_simp
  rw [after0_17]
  have hr : (outsAt0 m c t).2.2 y = (k0_pay4 (F := Ideal) (k0_pay11 (iblk m c 8 t)) (mBlk (F := Ideal) (grid0.coords t) (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 12 t)) (iblk m c 13 t) (iblk m c 14 t)) y := by
    unfold outsAt0
    dsimp only
    unfold out0_A_17
    rw [View.read_writes_junk_eq_canon, stores_normT, View.canon_unit_zero zero2]
  obtain ⟨r, n, rfl⟩ : ∃ (r : Fin 2048) (n : Fin 256), y = ix2 r n := ⟨⟨(y 0).val, (y 0).isLt⟩, ⟨(y 1).val, (y 1).isLt⟩, by funext a; match a with | ⟨0, _⟩ => rfl | ⟨1, _⟩ => rfl⟩
  have hp : (win0_17.blk t).view.emb (ix2 r n) = ix2 r (rowAt t n) := by
    have e0 : (rowAt t n).val = (grid0.coords t 0).val * 256 + n.val := rfl
    blk_ext [index17 t]
  rw [hr, hp, normT_read m c t]
  rfl

end final
end Cert.Kernel3Ideal.Merge
-- ==== Proof.MeRef.lean ====
module

public import proofs.«01_k».proof.Proof.Gen.Reference3Ideal.Run
public import proofs.«01_k».proof.Proof.MeMath
public import Idealize.ShloMosaic.Lib.KernelVsHost

/-!
# The merge's reference, stage by stage

The reference's results are long terms. Here their stages are named and read at an index: the convolution's input padded
by two rows of zeros, its three taps, the two gates, the branches' sum, the output projection, and the normalized rows.
-/

@[expose] public section
set_option maxRecDepth 16384
noncomputable section
namespace Cert.Reference3Ideal.Merge
open Cert.Reference3Ideal Cert.Reference3Ideal.Gen Idealize.ShloMosaic Idealize.ShloMosaic.TcCoe Idealize.SL.Sem
open Idealize.ShloMosaic.Pointwise Cert.Inproj Cert.Merge

/-- The projection by batch. -/
def byBatch (p : FVec Ideal S8192x10240 .f32) : FVec Ideal S2x4096x10240 .f32 := shapeCast _ p shapeCasts_S8192x10240_S2x4096x10240

/-- The convolution's input. -/
def product (o : FVec Ideal S2x4096x10240 .f32) : FVec Ideal S2x4096x1024 .f32 :=
  mulf (extractStridedSlice S2x4096x1024 ![0, 0, 1024] o slices_S2x4096x10240_S2x4096x1024_0_0_1024) (extractStridedSlice S2x4096x1024 ![0, 0, 2048] o slices_S2x4096x10240_S2x4096x1024_0_0_2048)

/-- Two rows of zeros before each sequence. -/
def padded (z : FVec Ideal S2x4096x1024 .f32) : FVec Ideal S2x4098x1024 .f32 :=
  pad S2x4098x1024 ![0, 2, 0] ![0, 0, 0] ![0, 0, 0] z (sitofp .f32 (constantI S_ 32 0#32)) pads_S2x4096x1024_S2x4098x1024_000_200_000 h_S_

/-- The weights of a tap, at every row. -/
def spread (w : FVec Ideal S1x1x1024 .f32) : FVec Ideal S2x4096x1024 .f32 :=
  broadcastInDim S2x4096x1024 ![0, 1, 2] bcast_S1x1x1024_S2x4096x1024_0_1_2 (broadcastInDim S1x1x1024 ![2] bcast_S1024_S1x1x1024_2 (shapeCast _ w shapeCasts_S1x1x1024_S1024))

/-- The gated convolution. -/
def conved (o : FVec Ideal S2x4096x10240 .f32) (w : FVec Ideal S1x3x1024 .f32) : FVec Ideal S2x4096x1024 .f32 :=
  mulf (extractStridedSlice S2x4096x1024 ![0, 0, 0] o slices_S2x4096x10240_S2x4096x1024_0_0_0)
    (addf (addf (mulf (spread (extractStridedSlice S1x1x1024 ![0, 0, 0] w slices_S1x3x1024_S1x1x1024_0_0_0)) (extractStridedSlice S2x4096x1024 ![0, 0, 0] (padded (product o)) slices_S2x4098x1024_S2x4096x1024_0_0_0))
      (mulf (spread (extractStridedSlice S1x1x1024 ![0, 1, 0] w slices_S1x3x1024_S1x1x1024_0_1_0)) (extractStridedSlice S2x4096x1024 ![0, 1, 0] (padded (product o)) slices_S2x4098x1024_S2x4096x1024_0_1_0)))
      (mulf (spread (extractStridedSlice S1x1x1024 ![0, 2, 0] w slices_S1x3x1024_S1x1x1024_0_2_0)) (extractStridedSlice S2x4096x1024 ![0, 2, 0] (padded (product o)) slices_S2x4098x1024_S2x4096x1024_0_2_0)))

/-- One over one and an exponential. -/
def sigmoid (a : FVec Ideal S2x4096x2048 .f32) : FVec Ideal S2x4096x2048 .f32 :=
  Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf a)))

/-- A bias at every row. -/
def biased (a : FVec Ideal S2x4096x2048 .f32) (b : FVec Ideal S2048 .f32) : FVec Ideal S2x4096x2048 .f32 :=
  addf a (broadcastInDim S2x4096x2048 ![0, 1, 2] bcast_S1x1x2048_S2x4096x2048_0_1_2 (broadcastInDim S1x1x2048 ![2] bcast_S2048_S1x1x2048_2 b))

/-- The convolution's gate. -/
def gateA (o : FVec Ideal S2x4096x10240 .f32) (gb : FVec Ideal S1x4096 .f32) : FVec Ideal S2x4096x2048 .f32 :=
  sigmoid (biased (extractStridedSlice S2x4096x2048 ![0, 0, 6144] o slices_S2x4096x10240_S2x4096x2048_0_0_6144) (extractStridedSlice S2048 ![0] (shapeCast _ gb shapeCasts_S1x4096_S4096) slices_S4096_S2048_0))
/-- The attention's gate. -/
def gateB (o : FVec Ideal S2x4096x10240 .f32) (gb : FVec Ideal S1x4096 .f32) : FVec Ideal S2x4096x2048 .f32 :=
  sigmoid (biased (extractStridedSlice S2x4096x2048 ![0, 0, 8192] o slices_S2x4096x10240_S2x4096x2048_0_0_8192) (extractStridedSlice S2048 ![2048] (shapeCast _ gb shapeCasts_S1x4096_S4096) slices_S4096_S2048_2048))

/-- A branch's product. -/
def branch (a : FVec Ideal S2x4096x1024 .f32) (w : FVec Ideal S1x1024x2048 .f32) : FVec Ideal S2x4096x2048 .f32 :=
  Host.dotGeneral dot_S2x4096x1024_S1024x2048_S2x4096x2048_2_0_01_1_n_n none a (shapeCast _ w shapeCasts_S1x1024x2048_S1024x2048)

/-- The attention by batch. -/
def attnRows (a : FVec Ideal S8192x1024 .bf16) : FVec Ideal S2x4096x1024 .f32 := shapeCast _ (extf .f32 a bitsLt_bf16_f32) shapeCasts_S8192x1024_S2x4096x1024

/-- The branches, gated and added. -/
def merged (p : FVec Ideal S8192x10240 .f32) (a : FVec Ideal S8192x1024 .bf16) (gb : FVec Ideal S1x4096 .f32) (w : FVec Ideal S1x3x1024 .f32) (wa wb : FVec Ideal S1x1024x2048 .f32) : FVec Ideal S2x4096x2048 .f32 :=
  addf (mulf (gateA (byBatch p) gb) (branch (conved (byBatch p) w) wa)) (mulf (gateB (byBatch p) gb) (branch (attnRows a) wb))

/-- The input with the branches' projection added. -/
def summed (x y : FVec Ideal S2x4096x2048 .f32) (wo : FVec Ideal S1x2048x2048 .f32) : FVec Ideal S2x4096x2048 .f32 :=
  addf x (Host.dotGeneral dot_S2x4096x2048_S2048x2048_S2x4096x2048_2_0_01_1_n_n none y (shapeCast _ wo shapeCasts_S1x2048x2048_S2048x2048))

/-- The normalized rows. -/
def normed (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 (shapeCast _ g shapeCasts_S1x2048_S2048)))

/-- All rows, of both batches. -/
def flat (a : FVec Ideal S2x4096x2048 .f32) : FVec Ideal S8192x2048 .f32 := shapeCast _ a shapeCasts_S2x4096x2048_S8192x2048

/-- A row of the projection, by batch. -/
theorem byBatch_apply (p : FVec Ideal S8192x10240 .f32) (R : Fin 8192) (n : Fin 10240) : byBatch p (ix3 (batchOf R) (placeOf R) n) = p (ix2 R n) := by
  pointwise [byBatch]
  exact congrArg (fun i => p (ix2 i n)) (Fin.ext (by show R.val / 4096 * 4096 + R.val % 4096 = R.val; omega))

/-- A row of the attention, by batch. -/
theorem attnRows_apply (a : FVec Ideal S8192x1024 .bf16) (R : Fin 8192) (n : Fin 1024) : attnRows a (ix3 (batchOf R) (placeOf R) n) = a (ix2 R n) := by
  pointwise [attnRows]
  exact congrArg (fun i => a (ix2 i n)) (Fin.ext (by show R.val / 4096 * 4096 + R.val % 4096 = R.val; omega))

/-- The convolution's input at a row. -/
theorem product_apply (o : FVec Ideal S2x4096x10240 .f32) (b : Fin 2) (s : Fin 4096) (n : Fin 1024) :
    product o (ix3 b s n) = o (ix3 b s ⟨1024 + n.val, by omega⟩) * o (ix3 b s ⟨2048 + n.val, by omega⟩) := by
  pointwise [product]

/-- The padded input at a row. -/
theorem padded_apply (z : FVec Ideal S2x4096x1024 .f32) (b : Fin 2) (s : Fin 4098) (n : Fin 1024) :
    padded z (ix3 b s n) = if h : 2 ≤ s.val then z (ix3 b ⟨s.val - 2, by omega⟩ n) else 0 := by
  unfold padded
  by_cases h : 2 ≤ s.val
  · rw [dif_pos h]
    refine pad_apply_of_inside _ _ _ z _ _ _ (ix3 b s n) (ix3 b (⟨s.val - 2, by omega⟩ : Fin 4096) n) fun a => ?_
    match a with
    | ⟨0, _⟩ => show b.val = 0 + b.val * (0 + 1); omega
    | ⟨1, _⟩ => show s.val = 2 + (s.val - 2) * (0 + 1); omega
    | ⟨2, _⟩ => show n.val = 0 + n.val * (0 + 1); omega
  · rw [dif_neg h]
    refine (pad_apply_of_not_inside _ _ _ z _ _ _ (ix3 b s n) (⟨1, by decide⟩ : Fin 3) fun q => h ?_).trans ?_
    · exact q.1
    · pointwise
      show (((0#32).toInt : ℝ) : EReal) = 0
      simp

/-- A tap's weights. -/
theorem spread_apply (w : FVec Ideal S1x1x1024 .f32) (b : Fin 2) (s : Fin 4096) (n : Fin 1024) : spread w (ix3 b s n) = w (ix3 0 0 n) := by
  pointwise [spread]

/-- The gated convolution at a row. -/
theorem conved_apply (o : FVec Ideal S2x4096x10240 .f32) (w : FVec Ideal S1x3x1024 .f32) (b : Fin 2) (s : Fin 4096) (n : Fin 1024) :
    conved o w (ix3 b s n) = o (ix3 b s ⟨n.val, by omega⟩) * (w (ix3 0 0 n) * padded (product o) (ix3 b ⟨s.val, by omega⟩ n) + w (ix3 0 1 n) * padded (product o) (ix3 b ⟨1 + s.val, by omega⟩ n) + w (ix3 0 2 n) * padded (product o) (ix3 b ⟨2 + s.val, by omega⟩ n)) := by
  pointwise [conved, spread]

/-- The convolution's gate at a row. -/
theorem gateA_apply (o : FVec Ideal S2x4096x10240 .f32) (gb : FVec Ideal S1x4096 .f32) (b : Fin 2) (s : Fin 4096) (j : Fin 2048) :
    gateA o gb (ix3 b s j) = gate (o (ix3 b s ⟨6144 + j.val, by omega⟩)) (gb (ix2 0 ⟨j.val, by omega⟩)) := by
  unfold gate
  pointwise [gateA, sigmoid, biased]
  rfl

/-- The attention's gate at a row. -/
theorem gateB_apply (o : FVec Ideal S2x4096x10240 .f32) (gb : FVec Ideal S1x4096 .f32) (b : Fin 2) (s : Fin 4096) (j : Fin 2048) :
    gateB o gb (ix3 b s j) = gate (o (ix3 b s ⟨8192 + j.val, by omega⟩)) (gb (ix2 0 ⟨2048 + j.val, by omega⟩)) := by
  unfold gate
  pointwise [gateB, sigmoid, biased]
  rfl

/-- A branch's product at a row. -/
theorem branch_apply (a : FVec Ideal S2x4096x1024 .f32) (w : FVec Ideal S1x1024x2048 .f32) (b : Fin 2) (s : Fin 4096) (j : Fin 2048) :
    branch a w (ix3 b s j) = ∑ n : Fin 1024, a (ix3 b s n) * w (ix3 0 n j) := by
  pointwise [branch]

/-- The sum at a row. -/
theorem summed_apply (x y : FVec Ideal S2x4096x2048 .f32) (wo : FVec Ideal S1x2048x2048 .f32) (b : Fin 2) (s : Fin 4096) (j : Fin 2048) :
    summed x y wo (ix3 b s j) = x (ix3 b s j) + ∑ k : Fin 2048, y (ix3 b s k) * wo (ix3 0 k j) := by
  pointwise [summed]

/-- A normalized row. -/
theorem normed_apply (x : FVec Ideal S2x4096x2048 .f32) (g : FVec Ideal S1x2048 .f32) (b : Fin 2) (s : Fin 4096) (k : Fin 2048) :
    normed x g (ix3 b s k) = hid (fun k => x (ix3 b s k)) (fun k => g (ix2 0 k)) k := by
  unfold hid
  pointwise [normed]

/-- A row of both batches. -/
theorem flat_apply (a : FVec Ideal S2x4096x2048 .f32) (R : Fin 8192) (j : Fin 2048) : flat a (ix2 R j) = a (ix3 (batchOf R) (placeOf R) j) := by
  pointwise [flat, batchOf, placeOf]

/-- A row, narrowed. -/
theorem narrowed_apply (a : FVec Ideal S8192x2048 .f32) (R : Fin 8192) (j : Fin 2048) : truncf (F := Ideal) .bf16 a bitsLt_bf16_f32 (ix2 R j) = a (ix2 R j) := by
  pointwise

/-- A column, transposed and narrowed. -/
theorem turned_apply (a : FVec Ideal S8192x2048 .f32) (j : Fin 2048) (R : Fin 8192) :
    truncf (F := Ideal) .bf16 (transpose S2048x8192 [1, 0] a transposes_S8192x2048_S2048x8192_1_0) bitsLt_bf16_f32 (ix2 j R) = a (ix2 R j) := by
  pointwise

section results
variable (p : FVec Ideal S8192x10240 .f32) (a : FVec Ideal S8192x1024 .bf16) (x : FVec Ideal S2x4096x2048 .f32) (gb : FVec Ideal S1x4096 .f32)
  (w : FVec Ideal S1x3x1024 .f32) (wa wb : FVec Ideal S1x1024x2048 .f32) (wo : FVec Ideal S1x2048x2048 .f32) (g : FVec Ideal S1x2048 .f32)

/-- The padded input, read `d` rows before a row. -/
theorem padded_at (d : ℕ) (hd : d ≤ 2) (R : Fin 8192) (n : Fin 1024) (s : Fin 4098) (hs : s.val + d = R.val % 4096 + 2) :
    padded (product (byBatch p)) (ix3 (batchOf R) s n) = backAt p d R n := by
  rw [padded_apply]
  unfold backAt
  by_cases h : R.val % 4096 < d
  · rw [if_pos h, dif_neg (by omega)]
  · rw [if_neg h, dif_pos (by omega), product_apply]
    have eb : batchOf R = batchOf (⟨R.val - d, by omega⟩ : Fin 8192) := Fin.ext (by show R.val / 4096 = (R.val - d) / 4096; omega)
    have es : (⟨s.val - 2, by omega⟩ : Fin 4096) = placeOf (⟨R.val - d, by omega⟩ : Fin 8192) := Fin.ext (by show s.val - 2 = (R.val - d) % 4096; omega)
    rw [es, eb, byBatch_apply, byBatch_apply]
    rfl

/-- No row back is the row itself. -/
theorem back_zero (R : Fin 8192) (n : Fin 1024) : backAt p 0 R n = prodAt p R n := by
  unfold backAt
  rw [if_neg (by omega)]
  exact congrArg (fun R => prodAt p R n) (Fin.ext (by show R.val - 0 = R.val; omega))

/-- The reference's gated convolution. -/
theorem ref_conv (R : Fin 8192) (n : Fin 1024) : conved (byBatch p) w (ix3 (batchOf R) (placeOf R) n) = convAt p w R n := by
  rw [conved_apply, byBatch_apply, padded_at p 2 (by omega) R n _ (by show R.val % 4096 + 2 = R.val % 4096 + 2; rfl),
    padded_at p 1 (by omega) R n _ (by show 1 + R.val % 4096 + 1 = R.val % 4096 + 2; omega),
    padded_at p 0 (by omega) R n _ (by show 2 + R.val % 4096 + 0 = R.val % 4096 + 2; omega), back_zero]
  unfold convAt taps
  refine congrArg _ ?_
  rw [add_comm, add_comm (w (ix3 0 0 n) * _), add_assoc]

/-- The reference's gated branches. -/
theorem ref_mixed (R : Fin 8192) (j : Fin 2048) : merged p a gb w wa wb (ix3 (batchOf R) (placeOf R) j) = mixedAt p a gb w wa wb R j := by
  unfold merged mixedAt mixed
  show gateA (byBatch p) gb (ix3 (batchOf R) (placeOf R) j) * branch (conved (byBatch p) w) wa (ix3 (batchOf R) (placeOf R) j)
    + gateB (byBatch p) gb (ix3 (batchOf R) (placeOf R) j) * branch (attnRows a) wb (ix3 (batchOf R) (placeOf R) j) = _
  rw [gateA_apply, gateB_apply, branch_apply, branch_apply, byBatch_apply, byBatch_apply]
  have h1 : ∀ n : Fin 1024, conved (byBatch p) w (ix3 (batchOf R) (placeOf R) n) * wa (ix3 0 n j) = convAt p w R n * wa (ix3 0 n j) := fun n => congrArg (· * wa (ix3 0 n j)) (ref_conv p w R n)
  have h2 : ∀ n : Fin 1024, attnRows a (ix3 (batchOf R) (placeOf R) n) * wb (ix3 0 n j) = a (ix2 R n) * wb (ix3 0 n j) := fun n => congrArg (· * wb (ix3 0 n j)) (attnRows_apply a R n)
  rw [Finset.sum_congr rfl fun n _ => h1 n, Finset.sum_congr rfl fun n _ => h2 n]

/-- The reference's sum. -/
theorem ref_sum_at (R : Fin 8192) (j : Fin 2048) : summed x (merged p a gb w wa wb) wo (ix3 (batchOf R) (placeOf R) j) = sumAt p a x gb w wa wb wo R j := by
  rw [summed_apply]
  unfold sumAt
  exact congrArg _ (Finset.sum_congr rfl fun k _ => congrArg (· * wo (ix3 0 k j)) (ref_mixed p a gb w wa wb R k))

/-- The reference's normalized rows. -/
theorem ref_norm_at (R : Fin 8192) (j : Fin 2048) : normed (summed x (merged p a gb w wa wb) wo) g (ix3 (batchOf R) (placeOf R) j) = normAt p a x gb w wa wb wo g R j := by
  rw [normed_apply]
  unfold normAt
  exact congrArg (fun f => hid f _ j) (funext fun k => ref_sum_at p a x gb w wa wb wo R k)

/-- The reference's first result. -/
theorem ref_sum : flat (summed x (merged p a gb w wa wb) wo) = sumArr p a x gb w wa wb wo := by
  funext y
  obtain ⟨R, j, rfl⟩ : ∃ (R : Fin 8192) (j : Fin 2048), y = ix2 R j := ⟨⟨(y 0).val, (y 0).isLt⟩, ⟨(y 1).val, (y 1).isLt⟩, by funext a; match a with | ⟨0, _⟩ => rfl | ⟨1, _⟩ => rfl⟩
  exact (flat_apply _ R j).trans (ref_sum_at p a x gb w wa wb wo R j)

/-- The reference's second result. -/
theorem ref_norm : truncf (F := Ideal) .bf16 (flat (normed (summed x (merged p a gb w wa wb) wo) g)) bitsLt_bf16_f32 = normArr p a x gb w wa wb wo g := by
  funext y
  obtain ⟨R, j, rfl⟩ : ∃ (R : Fin 8192) (j : Fin 2048), y = ix2 R j := ⟨⟨(y 0).val, (y 0).isLt⟩, ⟨(y 1).val, (y 1).isLt⟩, by funext a; match a with | ⟨0, _⟩ => rfl | ⟨1, _⟩ => rfl⟩
  exact (narrowed_apply _ R j).trans ((flat_apply _ R j).trans (ref_norm_at p a x gb w wa wb wo g R j))

/-- The reference's third result. -/
theorem ref_turned : truncf (F := Ideal) .bf16 (transpose S2048x8192 [1, 0] (flat (normed (summed x (merged p a gb w wa wb) wo) g)) transposes_S8192x2048_S2048x8192_1_0) bitsLt_bf16_f32 = turnedArr p a x gb w wa wb wo g := by
  funext y
  obtain ⟨j, R, rfl⟩ : ∃ (j : Fin 2048) (R : Fin 8192), y = ix2 j R := ⟨⟨(y 0).val, (y 0).isLt⟩, ⟨(y 1).val, (y 1).isLt⟩, by funext a; match a with | ⟨0, _⟩ => rfl | ⟨1, _⟩ => rfl⟩
  exact (turned_apply _ j R).trans ((flat_apply _ R j).trans (ref_norm_at p a x gb w wa wb wo g R j))

end results

/-- The reference ends with these three arrays and its arguments as they were. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77) = sumArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v78) = normArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v80) = turnedArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans ((show Value.res_main_v77 m c = flat (summed (m ((c.tc : Thread nD τ).loc main_arg2)) (merged (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) from rfl).trans (ref_sum _ _ _ _ _ _ _ _)),
      (h c).2.1.trans ((show Value.res_main_v78 m c = truncf (F := Ideal) .bf16 (flat (normed (summed (m ((c.tc : Thread nD τ).loc main_arg2)) (merged (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (m ((c.tc : Thread nD τ).loc main_arg8)))) bitsLt_bf16_f32 from rfl).trans (ref_norm _ _ _ _ _ _ _ _ _)),
      (h c).2.2.1.trans ((show Value.res_main_v80 m c = truncf (F := Ideal) .bf16 (transpose S2048x8192 [1, 0] (flat (normed (summed (m ((c.tc : Thread nD τ).loc main_arg2)) (merged (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (m ((c.tc : Thread nD τ).loc main_arg8)))) transposes_S8192x2048_S2048x8192_1_0) bitsLt_bf16_f32 from rfl).trans (ref_turned _ _ _ _ _ _ _ _ _)),
      (h c).2.2.2⟩) (Value.run (F := Ideal) m ρ)

end Cert.Reference3Ideal.Merge
-- ==== Proof.Heads.lean ====
module

public import proofs.«01_k».proof.Proof.Gen.KernelIdeal.Value
public import Idealize.ShloMosaic.Lib.Pointwise
public import Idealize.ShloMosaic.Lib.WholeRead
public import Idealize.ShloMosaic.Lib.Pipeline.ValueKit
public import Idealize.ShloMosaic.Lib.WordArith.Masks

/-!
# The attention kernel's body, one head at a time

The body treats eight heads side by side: each takes its own 128 columns of the queries, keys, values and block means,
and the heads share nothing. Here the body's text is said once, for one head (`headOut`), and the eight pieces that the
run of the body stores are shown to be that function at the eight column ranges.
-/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise
variable {F : FTy → Type} [FloatOps F] [Named F]

/-- A head's running maximum and running numerator-with-denominator. -/
abbrev St (F : FTy → Type) [FloatOps F] := FVec F S256x1 .f32 × FVec F S256x256 .f32

/-- Eight pairs laid out as the loop carries them. -/
abbrev pack {A B : Type} (f : Fin 8 → A × B) : A × B × A × B × A × B × A × B × A × B × A × B × A × B × A × B :=
  ((f 0).1, (f 0).2, (f 1).1, (f 1).2, (f 2).1, (f 2).2, (f 3).1, (f 3).2, (f 4).1, (f 4).2, (f 5).1, (f 5).2,
    (f 6).1, (f 6).2, (f 7).1, (f 7).2)

/-- The one-hot columns of block pair `p`: row `r` has its 1 in the lane numbered by the row's block. -/
def oneHot (p : BitVec 32) : FVec F S512x128 .bf16 :=
  truncf .bf16 (select (cmpi .eq (iota .tc S512x128 32 [1] iota_S512x128_d1_w32)
      (addi (broadcast S512x128 (Scalar.muli 2#32 p)) k0_pay59))
    (broadcast S512x128 (Scalar.ofBits (F := F) .f32 0x3F800000#32))
    (broadcast S512x128 (Scalar.ofBits (F := F) .f32 0x00000000#32))) bitsLt_bf16_f32

/-- One further block pair folded into a head's state. -/
def step (qe : FVec F S256x256 .bf16) (oh : FVec F S512x128 .bf16) (kk vv : Vec F S512x128 .bf16) (s : St F) : St F :=
  (k0_pay7 qe s.1 oh kk, k0_pay8 k0_pay58 qe s.1 s.2 oh kk vv)

/-- The grid point's block number, as the kernel's word. -/
abbrev blk (i : grid0.Coords) : BitVec 32 := BitVec.ofNat 32 (i 2).val
/-- The number of the block pair that holds the block. -/
abbrev pairOf (i : grid0.Coords) : BitVec 32 := Scalar.shrui (blk i) 1#32
/-- Whether the block is the second of its pair. -/
abbrev oddOf (i : grid0.Coords) : BitVec 32 := Scalar.subi (blk i) (Scalar.muli 2#32 (pairOf i))
/-- The block numbers down the rows. -/
abbrev blockRows : IVec S16x256 32 := iota .tc S16x256 32 [0] iota_S16x256_d0_w32

/-- The marks of the three rounds. -/
def marks (i : grid0.Coords) (q : Vec F S256x128 .f32) (km : Vec F S1x16x128 .f32) : FVec F S16x256 .f32 :=
  k0_pay63 (blk i) blockRows (k0_pay60 i q km) k0_pay61 (k0_pay62 i q km) 16#32

/-- The queries beside their bias columns. -/
def qAug (i : grid0.Coords) (q : Vec F S256x128 .f32) (km : Vec F S1x16x128 .f32) : FVec F S256x256 .bf16 :=
  k0_pay64 (blk i) blockRows q (marks i q km)

/-- The scaled and masked scores of the block's own pair. -/
def ownScores (i : grid0.Coords) (q : Vec F S256x128 .f32) (km : Vec F S1x16x128 .f32) (kk : Vec F S512x128 .bf16) :
    FVec F S256x512 .f32 :=
  k0_pay66 (blk i) (pairOf i) (oddOf i) (iota .tc S512x128 32 [1] iota_S512x128_d1_w32) k0_pay59
    (iota .tc S256x512 32 [0] iota_S256x512_d0_w32) (iota .tc S256x512 32 [1] iota_S256x512_d1_w32) blockRows q (marks i q km) kk

/-- A head's state after its own pair. -/
def first (i : grid0.Coords) (q : Vec F S256x128 .f32) (km : Vec F S1x16x128 .f32) (kk vv : Vec F S512x128 .bf16) : St F :=
  (k0_pay67 (blk i) (pairOf i) (oddOf i) (iota .tc S512x128 32 [1] iota_S512x128_d1_w32) k0_pay59
    (iota .tc S256x512 32 [0] iota_S256x512_d0_w32) (iota .tc S256x512 32 [1] iota_S256x512_d1_w32) blockRows q (marks i q km) kk,
   k0_pay69 (k0_pay65 k0_pay58 vv) (k0_pay68 (blk i) (pairOf i) (oddOf i) (iota .tc S512x128 32 [1] iota_S512x128_d1_w32) k0_pay59
    (iota .tc S256x512 32 [0] iota_S256x512_d0_w32) (iota .tc S256x512 32 [1] iota_S256x512_d1_w32) blockRows q (marks i q km) kk))

/-- Columns `128 h` to `128 h + 127` of rows `512 p` to `512 p + 511`. -/
def kvSlice (x : Vec F S4096x1024 .bf16) (p h : Fin 8) : Vec F S512x128 .bf16 := fun j =>
  x (ix2 ⟨512 * p.val + (j 0).val, by have h0 : (j 0).val < 512 := (j 0).isLt; omega⟩
    ⟨128 * h.val + (j 1).val, by have h1 : (j 1).val < 128 := (j 1).isLt; omega⟩)
/-- Columns `128 h` to `128 h + 127` of the queries. -/
def qSlice (x : Vec F S256x1024 .f32) (h : Fin 8) : Vec F S256x128 .f32 := fun j =>
  x (ix2 (j 0 : Fin 256) ⟨128 * h.val + (j 1).val, by have h1 : (j 1).val < 128 := (j 1).isLt; omega⟩)
/-- Columns `128 h` to `128 h + 127` of the block means. -/
def kmSlice (x : Vec F S1x16x1024 .f32) (h : Fin 8) : Vec F S1x16x128 .f32 := fun j =>
  x (ix3 (j 0 : Fin 1) (j 1 : Fin 16) ⟨128 * h.val + (j 2).val, by have h1 : (j 2).val < 128 := (j 2).isLt; omega⟩)

/-- The pair that holds block `i`, as an index. -/
def ownPair (i : grid0.Coords) : Fin 8 := ⟨(i 2).val / 2, by have h : (i 2).val < 16 := (i 2).isLt; omega⟩

/-- A head's state `s` with the pairs below `n` folded into it. -/
def foldPairs (qe : FVec F S256x256 .bf16) (ks vs : Fin 8 → Vec F S512x128 .bf16) (s : St F) : ℕ → St F
  | 0 => s
  | n + 1 => step qe (oneHot (BitVec.ofNat 32 n)) (ks (Fin.ofNat 8 n)) (vs (Fin.ofNat 8 n)) (foldPairs qe ks vs s n)

/-- A head's state after its own pair and the pairs below `n`. -/
def headState (i : grid0.Coords) (q : Vec F S256x128 .f32) (km : Vec F S1x16x128 .f32) (ks vs : Fin 8 → Vec F S512x128 .bf16)
    (n : ℕ) : St F :=
  foldPairs (qAug i q km) ks vs (first i q km (ks (ownPair i)) (vs (ownPair i))) n

/-- What the body stores for one head. -/
def headOut (i : grid0.Coords) (q : Vec F S256x128 .f32) (km : Vec F S1x16x128 .f32) (ks vs : Fin 8 → Vec F S512x128 .bf16) :
    FVec F S256x128 .bf16 :=
  k0_pay1 (headState i q km ks vs ((i 2).val / 2)).2

/-- The loop makes as many trips as there are whole pairs before the block's own. -/
theorem trips_eq : ∀ i : grid0.Coords, (k0_t1_loop i).trips = (i 2).val / 2 := by decide +kernel

/-- The remainder loop makes no trip. -/
theorem trips2_eq : ∀ i : grid0.Coords, (k0_t2_loop i).trips = 0 := by decide +kernel

/-- Where a trip loads the keys and values of each head. -/
theorem off_trip : ∀ (i : grid0.Coords) (k : Fin (k0_t1_loop i).trips) (h : Fin 8),
    ![k0_off9 i k, k0_off10 i k, k0_off11 i k, k0_off12 i k, k0_off13 i k, k0_off14 i k, k0_off15 i k, k0_off16 i k] h = ![512 * k.val, 128 * h.val] := by decide +kernel

/-- Where the first part loads the keys and values of each head. -/
theorem off_own : ∀ (i : grid0.Coords) (h : Fin 8),
    ![k0_off1 i, k0_off2 i, k0_off3 i, k0_off4 i, k0_off5 i, k0_off6 i, k0_off7 i, k0_off8 i] h = ![512 * ((i 2).val / 2), 128 * h.val] := by decide +kernel

/-- A load of the keys or values through a whole memref is a slice. -/
theorem readAt_slice (M : Memref sig .tc .vmem S4096x1024 .bf16) (hM : M.IsWhole) (x : Vec F S4096x1024 .bf16)
    (off : Fin 2 → Nat) (inb : ∀ a, off a + S512x128.size a ≤ S4096x1024.size a) (p h : Fin 8)
    (e : off = ![512 * p.val, 128 * h.val]) :
    View.readAt (Elt F) M.view (Rect.unit (s := S4096x1024) off S512x128.size inb).toLoadRect (hM.unread x) = kvSlice x p h := by
  subst e
  funext j
  rw [hM.readAt_unread]
  refine congrArg x ?_
  funext a
  fin_cases a <;> exact Fin.ext (by simp [Rect.unit, LoadRect.idx, ix2])

/-- What one trip of the loop makes of the eight heads' states. -/
theorem trip_eq (𝒱 : Variants) (c : Dev nD) (bd : Option 𝒱.V) (i : grid0.Coords) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x16x1024 .f32) (harg6 : arg6.IsWhole) (arg7 : Memref sig .tc .vmem S256x1024 .bf16) (harg7 : arg7.IsWhole) (v0 : BitVec 32) (v2 : BitVec 32) (v3 : FVec F S512x128 .bf16) (v4 : IVec S512x128 32) (v10 : IVec S512x128 32) (v11 : IVec S256x512 32) (v12 : IVec S256x512 32) (v97 : FVec F S256x256 .bf16) (v124 : FVec F S256x1 .f32) (v129 : FVec F S256x256 .f32) (v213 : FVec F S256x256 .bf16) (v240 : FVec F S256x1 .f32) (v245 : FVec F S256x256 .f32) (v329 : FVec F S256x256 .bf16) (v356 : FVec F S256x1 .f32) (v361 : FVec F S256x256 .f32) (v445 : FVec F S256x256 .bf16) (v472 : FVec F S256x1 .f32) (v477 : FVec F S256x256 .f32) (v561 : FVec F S256x256 .bf16) (v588 : FVec F S256x1 .f32) (v593 : FVec F S256x256 .f32) (v677 : FVec F S256x256 .bf16) (v704 : FVec F S256x1 .f32) (v709 : FVec F S256x256 .f32) (v793 : FVec F S256x256 .bf16) (v820 : FVec F S256x1 .f32) (v825 : FVec F S256x256 .f32) (v909 : FVec F S256x256 .bf16) (v911 : BitVec 32) (v915 : IVec S512x128 1) (cst_325 : F .f32) (X_arg4 : BufTy.Contents (Elt F) arg4.view.ty) (X_arg5 : BufTy.Contents (Elt F) arg5.view.ty) (k : Fin (k0_t1_loop i).trips) (f : Fin 8 → FVec F S256x1 .f32 × FVec F S256x256 .f32) :
    tripR_k0_t1 (F := F) 𝒱 c bd i arg3 harg3 arg4 harg4 arg5 harg5 arg6 harg6 arg7 harg7 v0 v2 v3 v4 v10 v11 v12 v97 v124 v129 v213 v240 v245 v329 v356 v361 v445 v472 v477 v561 v588 v593 v677 v704 v709 v793 v820 v825 v909 v911 v915 cst_325 X_arg4 X_arg5 k (pack f) = pack (fun h => (fun ones (qe : FVec F S256x256 .bf16) (oh : FVec F S512x128 .bf16) (kk vv : Vec F S512x128 .bf16) (s : St F) => ((k0_pay7 qe s.1 oh kk, k0_pay8 ones qe s.1 s.2 oh kk vv) : St F))
      v3 (![v97, v213, v329, v445, v561, v677, v793, v909] h) (k0_pay5 i v4 v10 0#32 1#32 k)
      (![(View.readAt (Elt F) arg4.view (Rect.unit (s := S4096x1024) (k0_off9 i k) S512x128.size (k0_off9_inb i k)).toLoadRect X_arg4), (View.readAt (Elt F) arg4.view (Rect.unit (s := S4096x1024) (k0_off10 i k) S512x128.size (k0_off10_inb i k)).toLoadRect X_arg4), (View.readAt (Elt F) arg4.view (Rect.unit (s := S4096x1024) (k0_off11 i k) S512x128.size (k0_off11_inb i k)).toLoadRect X_arg4), (View.readAt (Elt F) arg4.view (Rect.unit (s := S4096x1024) (k0_off12 i k) S512x128.size (k0_off12_inb i k)).toLoadRect X_arg4), (View.readAt (Elt F) arg4.view (Rect.unit (s := S4096x1024) (k0_off13 i k) S512x128.size (k0_off13_inb i k)).toLoadRect X_arg4), (View.readAt (Elt F) arg4.view (Rect.unit (s := S4096x1024) (k0_off14 i k) S512x128.size (k0_off14_inb i k)).toLoadRect X_arg4), (View.readAt (Elt F) arg4.view (Rect.unit (s := S4096x1024) (k0_off15 i k) S512x128.size (k0_off15_inb i k)).toLoadRect X_arg4), (View.readAt (Elt F) arg4.view (Rect.unit (s := S4096x1024) (k0_off16 i k) S512x128.size (k0_off16_inb i k)).toLoadRect X_arg4)] h)
      (![(View.readAt (Elt F) arg5.view (Rect.unit (s := S4096x1024) (k0_off9 i k) S512x128.size (k0_off9_inb i k)).toLoadRect X_arg5), (View.readAt (Elt F) arg5.view (Rect.unit (s := S4096x1024) (k0_off10 i k) S512x128.size (k0_off10_inb i k)).toLoadRect X_arg5), (View.readAt (Elt F) arg5.view (Rect.unit (s := S4096x1024) (k0_off11 i k) S512x128.size (k0_off11_inb i k)).toLoadRect X_arg5), (View.readAt (Elt F) arg5.view (Rect.unit (s := S4096x1024) (k0_off12 i k) S512x128.size (k0_off12_inb i k)).toLoadRect X_arg5), (View.readAt (Elt F) arg5.view (Rect.unit (s := S4096x1024) (k0_off13 i k) S512x128.size (k0_off13_inb i k)).toLoadRect X_arg5), (View.readAt (Elt F) arg5.view (Rect.unit (s := S4096x1024) (k0_off14 i k) S512x128.size (k0_off14_inb i k)).toLoadRect X_arg5), (View.readAt (Elt F) arg5.view (Rect.unit (s := S4096x1024) (k0_off15 i k) S512x128.size (k0_off15_inb i k)).toLoadRect X_arg5), (View.readAt (Elt F) arg5.view (Rect.unit (s := S4096x1024) (k0_off16 i k) S512x128.size (k0_off16_inb i k)).toLoadRect X_arg5)] h) (f h)) := by
  unfold tripR_k0_t1 trip_k0_t1
  rfl

/-- The induction variable's word. -/
theorem iv_eq (k : ℕ) : Scf.iv 0#32 1#32 k = BitVec.ofNat 32 k := by
  simp [Scf.iv]

/-- The eight heads' states after `n` trips: each its own fold. -/
theorem st_eq (𝒱 : Variants) (c : Dev nD) (bd : Option 𝒱.V) (i : grid0.Coords) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x16x1024 .f32) (harg6 : arg6.IsWhole) (arg7 : Memref sig .tc .vmem S256x1024 .bf16) (harg7 : arg7.IsWhole) (v0 : BitVec 32) (v2 : BitVec 32) (v3 : FVec F S512x128 .bf16) (v4 : IVec S512x128 32) (v10 : IVec S512x128 32) (v11 : IVec S256x512 32) (v12 : IVec S256x512 32) (v97 : FVec F S256x256 .bf16) (v124 : FVec F S256x1 .f32) (v129 : FVec F S256x256 .f32) (v213 : FVec F S256x256 .bf16) (v240 : FVec F S256x1 .f32) (v245 : FVec F S256x256 .f32) (v329 : FVec F S256x256 .bf16) (v356 : FVec F S256x1 .f32) (v361 : FVec F S256x256 .f32) (v445 : FVec F S256x256 .bf16) (v472 : FVec F S256x1 .f32) (v477 : FVec F S256x256 .f32) (v561 : FVec F S256x256 .bf16) (v588 : FVec F S256x1 .f32) (v593 : FVec F S256x256 .f32) (v677 : FVec F S256x256 .bf16) (v704 : FVec F S256x1 .f32) (v709 : FVec F S256x256 .f32) (v793 : FVec F S256x256 .bf16) (v820 : FVec F S256x1 .f32) (v825 : FVec F S256x256 .f32) (v909 : FVec F S256x256 .bf16) (v911 : BitVec 32) (v915 : IVec S512x128 1) (cst_325 : F .f32) (x1 x2 : Vec F S4096x1024 .bf16)
    (a0 : FVec F S256x1 .f32) (b0 : FVec F S256x256 .f32) (a1 : FVec F S256x1 .f32) (b1 : FVec F S256x256 .f32) (a2 : FVec F S256x1 .f32) (b2 : FVec F S256x256 .f32) (a3 : FVec F S256x1 .f32) (b3 : FVec F S256x256 .f32) (a4 : FVec F S256x1 .f32) (b4 : FVec F S256x256 .f32) (a5 : FVec F S256x1 .f32) (b5 : FVec F S256x256 .f32) (a6 : FVec F S256x1 .f32) (b6 : FVec F S256x256 .f32) (a7 : FVec F S256x1 .f32) (b7 : FVec F S256x256 .f32) (n : ℕ) (hn : n ≤ (k0_t1_loop i).trips)
    (h3 : v3 = k0_pay58) (h4 : v4 = iota .tc S512x128 32 [1] iota_S512x128_d1_w32) (h10 : v10 = k0_pay59) :
    st_k0_t1 (F := F) 𝒱 c bd i arg3 harg3 arg4 harg4 arg5 harg5 arg6 harg6 arg7 harg7 v0 v2 v3 v4 v10 v11 v12 v97 v124 v129 v213 v240 v245 v329 v356 v361 v445 v472 v477 v561 v588 v593 v677 v704 v709 v793 v820 v825 v909 v911 v915 cst_325 (harg4.unread x1) (harg5.unread x2) (a0, b0, a1, b1, a2, b2, a3, b3, a4, b4, a5, b5, a6, b6, a7, b7) n
      = pack (fun h => foldPairs (![v97, v213, v329, v445, v561, v677, v793, v909] h) (fun p => kvSlice x1 p h) (fun p => kvSlice x2 p h)
          (![(a0, b0), (a1, b1), (a2, b2), (a3, b3), (a4, b4), (a5, b5), (a6, b6), (a7, b7)] h) n) := by
  subst h3 h4 h10
  induction n with
  | zero => rfl
  | succ n ih =>
    have hk : n < (k0_t1_loop i).trips := hn
    have h8 : (Fin.ofNat 8 n).val = n := by
      have := trips_eq i
      have h16 : (i 2).val < 16 := (i 2).isLt
      exact Nat.mod_eq_of_lt (by omega)
    rw [show n + 1 = (⟨n, hk⟩ : Fin (k0_t1_loop i).trips).val + 1 from rfl, st_k0_t1_succ, ih (Nat.le_of_lt hk), trip_eq]
    refine congrArg pack (funext fun h => ?_)
    have hs : ∀ (M : Memref sig .tc .vmem S4096x1024 .bf16) (hM : M.IsWhole) (x : Vec F S4096x1024 .bf16) (h : Fin 8),
        (![(View.readAt (Elt F) M.view (Rect.unit (s := S4096x1024) (k0_off9 i ⟨n, hk⟩) S512x128.size (k0_off9_inb i ⟨n, hk⟩)).toLoadRect (hM.unread x)), (View.readAt (Elt F) M.view (Rect.unit (s := S4096x1024) (k0_off10 i ⟨n, hk⟩) S512x128.size (k0_off10_inb i ⟨n, hk⟩)).toLoadRect (hM.unread x)), (View.readAt (Elt F) M.view (Rect.unit (s := S4096x1024) (k0_off11 i ⟨n, hk⟩) S512x128.size (k0_off11_inb i ⟨n, hk⟩)).toLoadRect (hM.unread x)), (View.readAt (Elt F) M.view (Rect.unit (s := S4096x1024) (k0_off12 i ⟨n, hk⟩) S512x128.size (k0_off12_inb i ⟨n, hk⟩)).toLoadRect (hM.unread x)), (View.readAt (Elt F) M.view (Rect.unit (s := S4096x1024) (k0_off13 i ⟨n, hk⟩) S512x128.size (k0_off13_inb i ⟨n, hk⟩)).toLoadRect (hM.unread x)), (View.readAt (Elt F) M.view (Rect.unit (s := S4096x1024) (k0_off14 i ⟨n, hk⟩) S512x128.size (k0_off14_inb i ⟨n, hk⟩)).toLoadRect (hM.unread x)), (View.readAt (Elt F) M.view (Rect.unit (s := S4096x1024) (k0_off15 i ⟨n, hk⟩) S512x128.size (k0_off15_inb i ⟨n, hk⟩)).toLoadRect (hM.unread x)), (View.readAt (Elt F) M.view (Rect.unit (s := S4096x1024) (k0_off16 i ⟨n, hk⟩) S512x128.size (k0_off16_inb i ⟨n, hk⟩)).toLoadRect (hM.unread x))] : Fin 8 → Vec F S512x128 .bf16) h
          = kvSlice x (Fin.ofNat 8 n) h := by
      intro M hM x h
      have e := (off_trip i ⟨n, hk⟩ h).trans (show ![512 * n, 128 * h.val] = ![512 * (Fin.ofNat 8 n).val, 128 * h.val] by rw [h8])
      fin_cases h <;> exact readAt_slice M hM x _ _ (Fin.ofNat 8 n) _ e
    rw [hs arg4 harg4 x1 h, hs arg5 harg5 x2 h]
    have ho : k0_pay5 i (iota .tc S512x128 32 [1] iota_S512x128_d1_w32) k0_pay59 0#32 1#32 ⟨n, hk⟩ = oneHot (F := F) (BitVec.ofNat 32 n) := by
      rw [← iv_eq n]; rfl
    rw [ho]
    exact rfl

/-- The eight pieces the body stores, the last first. -/
def pieces (out : Fin 8 → FVec F S256x128 .bf16) : List (View.Piece (Elt F) S256x1024 .bf16) :=
  [⟨Rect.unit (s := S256x1024) ![0, 896] S256x128.size inb_S256x1024_S256x128_0_896, out 7⟩, ⟨Rect.unit (s := S256x1024) ![0, 768] S256x128.size inb_S256x1024_S256x128_0_768, out 6⟩, ⟨Rect.unit (s := S256x1024) ![0, 640] S256x128.size inb_S256x1024_S256x128_0_640, out 5⟩, ⟨Rect.unit (s := S256x1024) ![0, 512] S256x128.size inb_S256x1024_S256x128_0_512, out 4⟩, ⟨Rect.unit (s := S256x1024) ![0, 384] S256x128.size inb_S256x1024_S256x128_0_384, out 3⟩, ⟨Rect.unit (s := S256x1024) ![0, 256] S256x128.size inb_S256x1024_S256x128_0_256, out 2⟩, ⟨Rect.unit (s := S256x1024) ![0, 128] S256x128.size inb_S256x1024_S256x128_0_128, out 1⟩, ⟨Rect.unit (s := S256x1024) ![0, 0] S256x128.size inb_S256x1024_S256x128_0_0, out 0⟩]

/-- The remainder loop, which makes no trip, leaves its initial value. -/
theorem st2_eq (𝒱 : Variants) (c : Dev nD) (bd : Option 𝒱.V) (i : grid0.Coords) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x16x1024 .f32) (harg6 : arg6.IsWhole) (arg7 : Memref sig .tc .vmem S256x1024 .bf16) (harg7 : arg7.IsWhole) (v0 : BitVec 32) (v2 : BitVec 32) (v3 : FVec F S512x128 .bf16) (v4 : IVec S512x128 32) (v10 : IVec S512x128 32) (v11 : IVec S256x512 32) (v12 : IVec S256x512 32) (v97 : FVec F S256x256 .bf16) (v124 : FVec F S256x1 .f32) (v129 : FVec F S256x256 .f32) (v213 : FVec F S256x256 .bf16) (v240 : FVec F S256x1 .f32) (v245 : FVec F S256x256 .f32) (v329 : FVec F S256x256 .bf16) (v356 : FVec F S256x1 .f32) (v361 : FVec F S256x256 .f32) (v445 : FVec F S256x256 .bf16) (v472 : FVec F S256x1 .f32) (v477 : FVec F S256x256 .f32) (v561 : FVec F S256x256 .bf16) (v588 : FVec F S256x1 .f32) (v593 : FVec F S256x256 .f32) (v677 : FVec F S256x256 .bf16) (v704 : FVec F S256x1 .f32) (v709 : FVec F S256x256 .f32) (v793 : FVec F S256x256 .bf16) (v820 : FVec F S256x1 .f32) (v825 : FVec F S256x256 .f32) (v909 : FVec F S256x256 .bf16) (v911 : BitVec 32) (v915 : IVec S512x128 1) (cst_325 : F .f32) (v946 : BitVec 32) (X_arg4 : BufTy.Contents (Elt F) arg4.view.ty) (X_arg5 : BufTy.Contents (Elt F) arg5.view.ty) (init : FVec F S256x1 .f32 × FVec F S256x256 .f32 × FVec F S256x1 .f32 × FVec F S256x256 .f32 × FVec F S256x1 .f32 × FVec F S256x256 .f32 × FVec F S256x1 .f32 × FVec F S256x256 .f32 × FVec F S256x1 .f32 × FVec F S256x256 .f32 × FVec F S256x1 .f32 × FVec F S256x256 .f32 × FVec F S256x1 .f32 × FVec F S256x256 .f32 × FVec F S256x1 .f32 × FVec F S256x256 .f32) (n : ℕ) (hn : n = 0) :
    st_k0_t2 (F := F) 𝒱 c bd i arg3 harg3 arg4 harg4 arg5 harg5 arg6 harg6 arg7 harg7 v0 v2 v3 v4 v10 v11 v12 v97 v124 v129 v213 v240 v245 v329 v356 v361 v445 v472 v477 v561 v588 v593 v677 v704 v709 v793 v820 v825 v909 v911 v915 cst_325 v946 X_arg4 X_arg5 init n = init := by
  subst hn; rfl

/-- A load of a head's queries through a whole memref is a slice. -/
theorem readAt_q (M : Memref sig .tc .vmem S256x1024 .f32) (hM : M.IsWhole) (x : Vec F S256x1024 .f32)
    (off : Fin 2 → Nat) (inb : ∀ a, off a + S256x128.size a ≤ S256x1024.size a) (h : Fin 8) (e : off = ![0, 128 * h.val]) :
    View.readAt (Elt F) M.view (Rect.unit (s := S256x1024) off S256x128.size inb).toLoadRect (hM.unread x) = qSlice x h := by
  subst e
  funext j
  rw [hM.readAt_unread]
  refine congrArg x ?_
  funext a
  fin_cases a <;> exact Fin.ext (by simp [Rect.unit, LoadRect.idx, ix2])

/-- A load of a head's block means through a whole memref is a slice. -/
theorem readAt_km (M : Memref sig .tc .vmem S1x16x1024 .f32) (hM : M.IsWhole) (x : Vec F S1x16x1024 .f32)
    (off : Fin 3 → Nat) (inb : ∀ a, off a + S1x16x128.size a ≤ S1x16x1024.size a) (h : Fin 8) (e : off = ![0, 0, 128 * h.val]) :
    View.readAt (Elt F) M.view (Rect.unit (s := S1x16x1024) off S1x16x128.size inb).toLoadRect (hM.unread x) = kmSlice x h := by
  subst e
  funext j
  rw [hM.readAt_unread]
  refine congrArg x ?_
  funext a
  fin_cases a <;> exact Fin.ext (by simp [Rect.unit, LoadRect.idx, ix3])

/-- The eight numerators-with-denominators of the loop's carried value. -/
abbrev seconds (a : FVec F S256x1 .f32 × FVec F S256x256 .f32 × FVec F S256x1 .f32 × FVec F S256x256 .f32 × FVec F S256x1 .f32 × FVec F S256x256 .f32 × FVec F S256x1 .f32 × FVec F S256x256 .f32 × FVec F S256x1 .f32 × FVec F S256x256 .f32 × FVec F S256x1 .f32 × FVec F S256x256 .f32 × FVec F S256x1 .f32 × FVec F S256x256 .f32 × FVec F S256x1 .f32 × FVec F S256x256 .f32) : Fin 8 → FVec F S256x256 .f32 :=
  ![a.2.1, a.2.2.2.1, a.2.2.2.2.2.1, a.2.2.2.2.2.2.2.1, a.2.2.2.2.2.2.2.2.2.1, a.2.2.2.2.2.2.2.2.2.2.2.1, a.2.2.2.2.2.2.2.2.2.2.2.2.2.1, a.2.2.2.2.2.2.2.2.2.2.2.2.2.2.2]

/-- Two folds agree where what they start from agrees. -/
theorem foldPairs_congr {qe qe' : FVec F S256x256 .bf16} {s s' : St F} (ks vs : Fin 8 → Vec F S512x128 .bf16) (n : ℕ)
    (hq : qe = qe') (h1 : s.1 = s'.1) (h2 : s.2 = s'.2) :
    k0_pay1 (foldPairs qe ks vs s n).2 = k0_pay1 (foldPairs qe' ks vs s' n).2 := by
  obtain rfl := hq
  obtain rfl : s = s' := Prod.ext h1 h2
  rfl

/-- Two lists of pieces agree where the eight pieces do. -/
theorem pieces_congr (f g : Fin 8 → FVec F S256x128 .bf16) (h0 : f 0 = g 0) (h1 : f 1 = g 1) (h2 : f 2 = g 2) (h3 : f 3 = g 3)
    (h4 : f 4 = g 4) (h5 : f 5 = g 5) (h6 : f 6 = g 6) (h7 : f 7 = g 7) : pieces f = pieces g := by
  refine congrArg pieces (funext fun h => ?_)
  fin_cases h <;> assumption

end Cert.KernelIdeal.Attn
-- ==== Proof.HeadsRun.lean ====
module

public import proofs.«01_k».proof.Proof.Heads
public import Idealize.ShloMosaic.Lib.Pipeline.ValueKit

/-!
# The pieces the attention kernel's body stores

The run's eight stored pieces are the one-head function `headOut` at the eight column ranges.
-/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise
variable {F : FTy → Type} [FloatOps F] [Named F]

set_option maxHeartbeats 10000000 in
/-- The run of the body stores, for each head, what the head makes of its own columns. -/
theorem run_pieces (c : Dev nD) (i : grid0.Coords) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x16x1024 .f32) (harg6 : arg6.IsWhole) (arg7 : Memref sig .tc .vmem S256x1024 .bf16) (harg7 : arg7.IsWhole) (x0 : Vec F S256x1024 .f32) (x1 : Vec F S4096x1024 .bf16) (x2 : Vec F S4096x1024 .bf16) (x3 : Vec F S1x16x1024 .f32) :
    (kernelRun0_A c i arg3 harg3 arg4 harg4 arg5 harg5 arg6 harg6 arg7 harg7 x0 x1 x2 x3).1
      = pieces (fun h => headOut i (qSlice x0 h) (kmSlice x3 h) (fun p => kvSlice x1 p h) (fun p => kvSlice x2 p h)) := by
  unfold kernelRun0_A
  dsimp only
  refine Eq.trans (b := pieces (fun h => k0_pay1 (seconds (st_k0_t2 (F := F) _ _ _ _ _ _ _ _ _ _ _ _ _ _ _ _ _ _ _ _ _ _ _ _ _ _ _ _ _ _ _ _ _ _ _ _ _ _ _ _ _ _ _ _ _ _ _ _ _ _ _) h))) rfl ?_
  rw [st2_eq (hn := trips2_eq i)]
  refine Eq.trans (b := pieces (fun h => k0_pay1 (seconds (st_k0_t1 (F := F) _ _ _ _ _ _ _ _ _ _ _ _ _ _ _ _ _ _ _ _ _ _ _ _ _ _ _ _ _ _ _ _ _ _ _ _ _ _ _ _ _ _ _ _ _ _ _ _ _ _) h))) rfl ?_
  rw [st_eq]
  rotate_left
  · exact le_refl _
  · rfl
  · rfl
  · rfl
  have hq : ∀ h : Fin 8, (![View.readAt (Elt F) arg3.view (Rect.unit (s := S256x1024) ![0, 0] S256x128.size inb_S256x1024_S256x128_0_0).toLoadRect (harg3.unread x0), View.readAt (Elt F) arg3.view (Rect.unit (s := S256x1024) ![0, 128] S256x128.size inb_S256x1024_S256x128_0_128).toLoadRect (harg3.unread x0), View.readAt (Elt F) arg3.view (Rect.unit (s := S256x1024) ![0, 256] S256x128.size inb_S256x1024_S256x128_0_256).toLoadRect (harg3.unread x0), View.readAt (Elt F) arg3.view (Rect.unit (s := S256x1024) ![0, 384] S256x128.size inb_S256x1024_S256x128_0_384).toLoadRect (harg3.unread x0), View.readAt (Elt F) arg3.view (Rect.unit (s := S256x1024) ![0, 512] S256x128.size inb_S256x1024_S256x128_0_512).toLoadRect (harg3.unread x0), View.readAt (Elt F) arg3.view (Rect.unit (s := S256x1024) ![0, 640] S256x128.size inb_S256x1024_S256x128_0_640).toLoadRect (harg3.unread x0), View.readAt (Elt F) arg3.view (Rect.unit (s := S256x1024) ![0, 768] S256x128.size inb_S256x1024_S256x128_0_768).toLoadRect (harg3.unread x0), View.readAt (Elt F) arg3.view (Rect.unit (s := S256x1024) ![0, 896] S256x128.size inb_S256x1024_S256x128_0_896).toLoadRect (harg3.unread x0)] : Fin 8 → Vec F S256x128 .f32) h = qSlice x0 h := by
    intro h; fin_cases h <;> exact readAt_q arg3 harg3 x0 _ _ _ rfl
  have hkm : ∀ h : Fin 8, (![View.readAt (Elt F) arg6.view (Rect.unit (s := S1x16x1024) ![0, 0, 0] S1x16x128.size inb_S1x16x1024_S1x16x128_0_0_0).toLoadRect (harg6.unread x3), View.readAt (Elt F) arg6.view (Rect.unit (s := S1x16x1024) ![0, 0, 128] S1x16x128.size inb_S1x16x1024_S1x16x128_0_0_128).toLoadRect (harg6.unread x3), View.readAt (Elt F) arg6.view (Rect.unit (s := S1x16x1024) ![0, 0, 256] S1x16x128.size inb_S1x16x1024_S1x16x128_0_0_256).toLoadRect (harg6.unread x3), View.readAt (Elt F) arg6.view (Rect.unit (s := S1x16x1024) ![0, 0, 384] S1x16x128.size inb_S1x16x1024_S1x16x128_0_0_384).toLoadRect (harg6.unread x3), View.readAt (Elt F) arg6.view (Rect.unit (s := S1x16x1024) ![0, 0, 512] S1x16x128.size inb_S1x16x1024_S1x16x128_0_0_512).toLoadRect (harg6.unread x3), View.readAt (Elt F) arg6.view (Rect.unit (s := S1x16x1024) ![0, 0, 640] S1x16x128.size inb_S1x16x1024_S1x16x128_0_0_640).toLoadRect (harg6.unread x3), View.readAt (Elt F) arg6.view (Rect.unit (s := S1x16x1024) ![0, 0, 768] S1x16x128.size inb_S1x16x1024_S1x16x128_0_0_768).toLoadRect (harg6.unread x3), View.readAt (Elt F) arg6.view (Rect.unit (s := S1x16x1024) ![0, 0, 896] S1x16x128.size inb_S1x16x1024_S1x16x128_0_0_896).toLoadRect (harg6.unread x3)] : Fin 8 → Vec F S1x16x128 .f32) h = kmSlice x3 h := by
    intro h; fin_cases h <;> exact readAt_km arg6 harg6 x3 _ _ _ rfl
  have hk : ∀ h : Fin 8, (![View.readAt (Elt F) arg4.view (Rect.unit (s := S4096x1024) (k0_off1 i) S512x128.size (k0_off1_inb i)).toLoadRect (harg4.unread x1), View.readAt (Elt F) arg4.view (Rect.unit (s := S4096x1024) (k0_off2 i) S512x128.size (k0_off2_inb i)).toLoadRect (harg4.unread x1), View.readAt (Elt F) arg4.view (Rect.unit (s := S4096x1024) (k0_off3 i) S512x128.size (k0_off3_inb i)).toLoadRect (harg4.unread x1), View.readAt (Elt F) arg4.view (Rect.unit (s := S4096x1024) (k0_off4 i) S512x128.size (k0_off4_inb i)).toLoadRect (harg4.unread x1), View.readAt (Elt F) arg4.view (Rect.unit (s := S4096x1024) (k0_off5 i) S512x128.size (k0_off5_inb i)).toLoadRect (harg4.unread x1), View.readAt (Elt F) arg4.view (Rect.unit (s := S4096x1024) (k0_off6 i) S512x128.size (k0_off6_inb i)).toLoadRect (harg4.unread x1), View.readAt (Elt F) arg4.view (Rect.unit (s := S4096x1024) (k0_off7 i) S512x128.size (k0_off7_inb i)).toLoadRect (harg4.unread x1), View.readAt (Elt F) arg4.view (Rect.unit (s := S4096x1024) (k0_off8 i) S512x128.size (k0_off8_inb i)).toLoadRect (harg4.unread x1)] : Fin 8 → Vec F S512x128 .bf16) h = kvSlice x1 (ownPair i) h := by
    intro h; have e := off_own i h; fin_cases h <;> exact readAt_slice arg4 harg4 x1 _ _ (ownPair i) _ e
  have hv : ∀ h : Fin 8, (![View.readAt (Elt F) arg5.view (Rect.unit (s := S4096x1024) (k0_off1 i) S512x128.size (k0_off1_inb i)).toLoadRect (harg5.unread x2), View.readAt (Elt F) arg5.view (Rect.unit (s := S4096x1024) (k0_off2 i) S512x128.size (k0_off2_inb i)).toLoadRect (harg5.unread x2), View.readAt (Elt F) arg5.view (Rect.unit (s := S4096x1024) (k0_off3 i) S512x128.size (k0_off3_inb i)).toLoadRect (harg5.unread x2), View.readAt (Elt F) arg5.view (Rect.unit (s := S4096x1024) (k0_off4 i) S512x128.size (k0_off4_inb i)).toLoadRect (harg5.unread x2), View.readAt (Elt F) arg5.view (Rect.unit (s := S4096x1024) (k0_off5 i) S512x128.size (k0_off5_inb i)).toLoadRect (harg5.unread x2), View.readAt (Elt F) arg5.view (Rect.unit (s := S4096x1024) (k0_off6 i) S512x128.size (k0_off6_inb i)).toLoadRect (harg5.unread x2), View.readAt (Elt F) arg5.view (Rect.unit (s := S4096x1024) (k0_off7 i) S512x128.size (k0_off7_inb i)).toLoadRect (harg5.unread x2), View.readAt (Elt F) arg5.view (Rect.unit (s := S4096x1024) (k0_off8 i) S512x128.size (k0_off8_inb i)).toLoadRect (harg5.unread x2)] : Fin 8 → Vec F S512x128 .bf16) h = kvSlice x2 (ownPair i) h := by
    intro h; have e := off_own i h; fin_cases h <;> exact readAt_slice arg5 harg5 x2 _ _ (ownPair i) _ e
  have ht : (k0_t1_loop i).trips = (i 2).val / 2 := trips_eq i
  have hR : ∀ h : Fin 8, headOut i (qSlice x0 h) (kmSlice x3 h) (fun p => kvSlice x1 p h) (fun p => kvSlice x2 p h)
      = k0_pay1 (foldPairs (qAug i (![View.readAt (Elt F) arg3.view (Rect.unit (s := S256x1024) ![0, 0] S256x128.size inb_S256x1024_S256x128_0_0).toLoadRect (harg3.unread x0), View.readAt (Elt F) arg3.view (Rect.unit (s := S256x1024) ![0, 128] S256x128.size inb_S256x1024_S256x128_0_128).toLoadRect (harg3.unread x0), View.readAt (Elt F) arg3.view (Rect.unit (s := S256x1024) ![0, 256] S256x128.size inb_S256x1024_S256x128_0_256).toLoadRect (harg3.unread x0), View.readAt (Elt F) arg3.view (Rect.unit (s := S256x1024) ![0, 384] S256x128.size inb_S256x1024_S256x128_0_384).toLoadRect (harg3.unread x0), View.readAt (Elt F) arg3.view (Rect.unit (s := S256x1024) ![0, 512] S256x128.size inb_S256x1024_S256x128_0_512).toLoadRect (harg3.unread x0), View.readAt (Elt F) arg3.view (Rect.unit (s := S256x1024) ![0, 640] S256x128.size inb_S256x1024_S256x128_0_640).toLoadRect (harg3.unread x0), View.readAt (Elt F) arg3.view (Rect.unit (s := S256x1024) ![0, 768] S256x128.size inb_S256x1024_S256x128_0_768).toLoadRect (harg3.unread x0), View.readAt (Elt F) arg3.view (Rect.unit (s := S256x1024) ![0, 896] S256x128.size inb_S256x1024_S256x128_0_896).toLoadRect (harg3.unread x0)] h) (![View.readAt (Elt F) arg6.view (Rect.unit (s := S1x16x1024) ![0, 0, 0] S1x16x128.size inb_S1x16x1024_S1x16x128_0_0_0).toLoadRect (harg6.unread x3), View.readAt (Elt F) arg6.view (Rect.unit (s := S1x16x1024) ![0, 0, 128] S1x16x128.size inb_S1x16x1024_S1x16x128_0_0_128).toLoadRect (harg6.unread x3), View.readAt (Elt F) arg6.view (Rect.unit (s := S1x16x1024) ![0, 0, 256] S1x16x128.size inb_S1x16x1024_S1x16x128_0_0_256).toLoadRect (harg6.unread x3), View.readAt (Elt F) arg6.view (Rect.unit (s := S1x16x1024) ![0, 0, 384] S1x16x128.size inb_S1x16x1024_S1x16x128_0_0_384).toLoadRect (harg6.unread x3), View.readAt (Elt F) arg6.view (Rect.unit (s := S1x16x1024) ![0, 0, 512] S1x16x128.size inb_S1x16x1024_S1x16x128_0_0_512).toLoadRect (harg6.unread x3), View.readAt (Elt F) arg6.view (Rect.unit (s := S1x16x1024) ![0, 0, 640] S1x16x128.size inb_S1x16x1024_S1x16x128_0_0_640).toLoadRect (harg6.unread x3), View.readAt (Elt F) arg6.view (Rect.unit (s := S1x16x1024) ![0, 0, 768] S1x16x128.size inb_S1x16x1024_S1x16x128_0_0_768).toLoadRect (harg6.unread x3), View.readAt (Elt F) arg6.view (Rect.unit (s := S1x16x1024) ![0, 0, 896] S1x16x128.size inb_S1x16x1024_S1x16x128_0_0_896).toLoadRect (harg6.unread x3)] h)) (fun p => kvSlice x1 p h) (fun p => kvSlice x2 p h)
          (first i (![View.readAt (Elt F) arg3.view (Rect.unit (s := S256x1024) ![0, 0] S256x128.size inb_S256x1024_S256x128_0_0).toLoadRect (harg3.unread x0), View.readAt (Elt F) arg3.view (Rect.unit (s := S256x1024) ![0, 128] S256x128.size inb_S256x1024_S256x128_0_128).toLoadRect (harg3.unread x0), View.readAt (Elt F) arg3.view (Rect.unit (s := S256x1024) ![0, 256] S256x128.size inb_S256x1024_S256x128_0_256).toLoadRect (harg3.unread x0), View.readAt (Elt F) arg3.view (Rect.unit (s := S256x1024) ![0, 384] S256x128.size inb_S256x1024_S256x128_0_384).toLoadRect (harg3.unread x0), View.readAt (Elt F) arg3.view (Rect.unit (s := S256x1024) ![0, 512] S256x128.size inb_S256x1024_S256x128_0_512).toLoadRect (harg3.unread x0), View.readAt (Elt F) arg3.view (Rect.unit (s := S256x1024) ![0, 640] S256x128.size inb_S256x1024_S256x128_0_640).toLoadRect (harg3.unread x0), View.readAt (Elt F) arg3.view (Rect.unit (s := S256x1024) ![0, 768] S256x128.size inb_S256x1024_S256x128_0_768).toLoadRect (harg3.unread x0), View.readAt (Elt F) arg3.view (Rect.unit (s := S256x1024) ![0, 896] S256x128.size inb_S256x1024_S256x128_0_896).toLoadRect (harg3.unread x0)] h) (![View.readAt (Elt F) arg6.view (Rect.unit (s := S1x16x1024) ![0, 0, 0] S1x16x128.size inb_S1x16x1024_S1x16x128_0_0_0).toLoadRect (harg6.unread x3), View.readAt (Elt F) arg6.view (Rect.unit (s := S1x16x1024) ![0, 0, 128] S1x16x128.size inb_S1x16x1024_S1x16x128_0_0_128).toLoadRect (harg6.unread x3), View.readAt (Elt F) arg6.view (Rect.unit (s := S1x16x1024) ![0, 0, 256] S1x16x128.size inb_S1x16x1024_S1x16x128_0_0_256).toLoadRect (harg6.unread x3), View.readAt (Elt F) arg6.view (Rect.unit (s := S1x16x1024) ![0, 0, 384] S1x16x128.size inb_S1x16x1024_S1x16x128_0_0_384).toLoadRect (harg6.unread x3), View.readAt (Elt F) arg6.view (Rect.unit (s := S1x16x1024) ![0, 0, 512] S1x16x128.size inb_S1x16x1024_S1x16x128_0_0_512).toLoadRect (harg6.unread x3), View.readAt (Elt F) arg6.view (Rect.unit (s := S1x16x1024) ![0, 0, 640] S1x16x128.size inb_S1x16x1024_S1x16x128_0_0_640).toLoadRect (harg6.unread x3), View.readAt (Elt F) arg6.view (Rect.unit (s := S1x16x1024) ![0, 0, 768] S1x16x128.size inb_S1x16x1024_S1x16x128_0_0_768).toLoadRect (harg6.unread x3), View.readAt (Elt F) arg6.view (Rect.unit (s := S1x16x1024) ![0, 0, 896] S1x16x128.size inb_S1x16x1024_S1x16x128_0_0_896).toLoadRect (harg6.unread x3)] h) (![View.readAt (Elt F) arg4.view (Rect.unit (s := S4096x1024) (k0_off1 i) S512x128.size (k0_off1_inb i)).toLoadRect (harg4.unread x1), View.readAt (Elt F) arg4.view (Rect.unit (s := S4096x1024) (k0_off2 i) S512x128.size (k0_off2_inb i)).toLoadRect (harg4.unread x1), View.readAt (Elt F) arg4.view (Rect.unit (s := S4096x1024) (k0_off3 i) S512x128.size (k0_off3_inb i)).toLoadRect (harg4.unread x1), View.readAt (Elt F) arg4.view (Rect.unit (s := S4096x1024) (k0_off4 i) S512x128.size (k0_off4_inb i)).toLoadRect (harg4.unread x1), View.readAt (Elt F) arg4.view (Rect.unit (s := S4096x1024) (k0_off5 i) S512x128.size (k0_off5_inb i)).toLoadRect (harg4.unread x1), View.readAt (Elt F) arg4.view (Rect.unit (s := S4096x1024) (k0_off6 i) S512x128.size (k0_off6_inb i)).toLoadRect (harg4.unread x1), View.readAt (Elt F) arg4.view (Rect.unit (s := S4096x1024) (k0_off7 i) S512x128.size (k0_off7_inb i)).toLoadRect (harg4.unread x1), View.readAt (Elt F) arg4.view (Rect.unit (s := S4096x1024) (k0_off8 i) S512x128.size (k0_off8_inb i)).toLoadRect (harg4.unread x1)] h) (![View.readAt (Elt F) arg5.view (Rect.unit (s := S4096x1024) (k0_off1 i) S512x128.size (k0_off1_inb i)).toLoadRect (harg5.unread x2), View.readAt (Elt F) arg5.view (Rect.unit (s := S4096x1024) (k0_off2 i) S512x128.size (k0_off2_inb i)).toLoadRect (harg5.unread x2), View.readAt (Elt F) arg5.view (Rect.unit (s := S4096x1024) (k0_off3 i) S512x128.size (k0_off3_inb i)).toLoadRect (harg5.unread x2), View.readAt (Elt F) arg5.view (Rect.unit (s := S4096x1024) (k0_off4 i) S512x128.size (k0_off4_inb i)).toLoadRect (harg5.unread x2), View.readAt (Elt F) arg5.view (Rect.unit (s := S4096x1024) (k0_off5 i) S512x128.size (k0_off5_inb i)).toLoadRect (harg5.unread x2), View.readAt (Elt F) arg5.view (Rect.unit (s := S4096x1024) (k0_off6 i) S512x128.size (k0_off6_inb i)).toLoadRect (harg5.unread x2), View.readAt (Elt F) arg5.view (Rect.unit (s := S4096x1024) (k0_off7 i) S512x128.size (k0_off7_inb i)).toLoadRect (harg5.unread x2), View.readAt (Elt F) arg5.view (Rect.unit (s := S4096x1024) (k0_off8 i) S512x128.size (k0_off8_inb i)).toLoadRect (harg5.unread x2)] h)) (k0_t1_loop i).trips).2 := by
    intro h
    rw [hq, hkm, hk, hv, ht]
    exact rfl
  rw [show (fun h : Fin 8 => headOut i (qSlice x0 h) (kmSlice x3 h) (fun p => kvSlice x1 p h) (fun p => kvSlice x2 p h)) = _ from funext hR]
  refine pieces_congr _ _ ?_ ?_ ?_ ?_ ?_ ?_ ?_ ?_
  all_goals refine foldPairs_congr _ _ _ ?_ ?_ ?_ <;> exact rfl

end Cert.KernelIdeal.Attn
-- ==== Proof.Select.lean ====
module

public import Idealize.ShloMosaic.Lib.SortFacts
public import Mathlib.Data.EReal.Operations

/-!
# The choice of the earlier blocks

The reference sorts the sixteen blocks by their gate, greatest first and equal gates in block order, and keeps the first
three. The kernel takes, three times over, the first block whose gate is greatest and strikes it out. Here the sorted
order is `ranked`, and a round of the kernel is shown to find the block that the sorted order has at that place.
-/

@[expose] public section
noncomputable section
namespace Cert.Attn
open Idealize.ShloMosaic

/-- Block `a` comes strictly before block `b`: a greater gate, or an equal gate and a smaller number. -/
def Ahead (G : Fin 16 → EReal) (a b : Fin 16) : Prop := G b < G a ∨ (G a = G b ∧ a < b)

/-- The comparison by which the sort orders two blocks. -/
def gateBefore (G : Fin 16 → EReal) (a b : Fin 16) : Bool := decide (G b < G a)

/-- The block at each place of the sorted order. -/
def ranked (G : Fin 16 → EReal) : Fin 16 → Fin 16 := sortedFrom (gateBefore G)

/-- Inserting a block that is numbered below all of a list keeps the list in order. -/
theorem pairwise_insert (G : Fin 16 → EReal) (a : Fin 16) (l : List (Fin 16)) (ha : ∀ b ∈ l, a < b)
    (hl : l.Pairwise (Ahead G)) : (insertBefore (gateBefore G) a l).Pairwise (Ahead G) := by
  induction l with
  | nil => exact List.pairwise_singleton _ _
  | cons b l ih =>
    have hb := List.pairwise_cons.mp hl
    unfold insertBefore
    split
    · rename_i hba
      have hba : G a < G b := of_decide_eq_true hba
      refine List.pairwise_cons.mpr ⟨fun c hc => ?_, ih (fun c hc => ha c (List.mem_cons_of_mem _ hc)) hb.2⟩
      have hc' := (perm_insertBefore (gateBefore G) a l).mem_iff.mp hc
      rcases List.mem_cons.mp hc' with rfl | h
      · exact Or.inl hba
      · exact hb.1 c h
    · rename_i hba
      have hba : G b ≤ G a := not_lt.mp fun h => hba (decide_eq_true h)
      refine List.pairwise_cons.mpr ⟨fun c hc => ?_, hl⟩
      have hac := ha c hc
      have hcb : G c ≤ G b := by
        rcases List.mem_cons.mp hc with rfl | h
        · exact le_refl _
        · rcases hb.1 c h with h | h
          · exact le_of_lt h
          · exact h.1.ge
      rcases lt_or_eq_of_le (hcb.trans hba) with h | h
      · exact Or.inl h
      · exact Or.inr ⟨h.symm, hac⟩

/-- The stable sort of an increasing list is in order. -/
theorem pairwise_sort (G : Fin 16 → EReal) (l : List (Fin 16)) (hl : l.Pairwise (· < ·)) :
    (stableSort (gateBefore G) l).Pairwise (Ahead G) := by
  induction l with
  | nil => exact List.Pairwise.nil
  | cons a l ih =>
    have h := List.pairwise_cons.mp hl
    unfold stableSort
    exact pairwise_insert G a _ (fun b hb => h.1 b ((perm_stableSort (gateBefore G) l).mem_iff.mp hb)) (ih h.2)

/-- An earlier place of the sorted order holds a block that comes before a later place's. -/
theorem ranked_ahead (G : Fin 16 → EReal) (j k : Fin 16) (h : j < k) : Ahead G (ranked G j) (ranked G k) := by
  have hp : ∀ a b : Fin (sortPositions 16 (gateBefore G)).length, a < b →
      Ahead G ((sortPositions 16 (gateBefore G)).get a) ((sortPositions 16 (gateBefore G)).get b) :=
    List.pairwise_iff_get.mp (pairwise_sort G (List.finRange 16) (List.pairwise_lt_finRange 16))
  unfold ranked sortedFrom
  exact hp _ _ (by simp only [Fin.lt_def, Fin.val_cast]; exact h)

/-- The sorted order holds every block once. -/
theorem ranked_injective (G : Fin 16 → EReal) : Function.Injective (ranked G) := sortedFrom_injective _

/-- The sorted order holds every block. -/
theorem ranked_surjective (G : Fin 16 → EReal) : Function.Surjective (ranked G) := sortedFrom_surjective _

/-- Where only the blocks below `i` have a gate, the first `i` places hold blocks below `i`. -/
theorem ranked_lt (G : Fin 16 → EReal) (i : ℕ) (hG : ∀ b : Fin 16, b.val < i ↔ G b ≠ ⊥) (r : Fin 16) (hr : r.val < i)
    (hi : i ≤ 16) : (ranked G r).val < i := by
  by_contra hlt
  have hbot : G (ranked G r) = ⊥ := by
    by_contra h; exact hlt ((hG _).mpr h)
  have hsub : (Finset.univ.filter fun b : Fin 16 => b.val < i) ⊆ (Finset.univ.filter fun k : Fin 16 => k < r).image (ranked G) := by
    intro b hb
    have hb' : b.val < i := (Finset.mem_filter.mp hb).2
    obtain ⟨k, rfl⟩ := ranked_surjective G b
    refine Finset.mem_image.mpr ⟨k, Finset.mem_filter.mpr ⟨Finset.mem_univ _, ?_⟩, rfl⟩
    by_contra hk
    have hGk := (hG _).mp hb'
    rcases lt_or_eq_of_le (not_lt.mp hk) with h | h
    · rcases ranked_ahead G r k h with h' | h'
      · rw [hbot] at h'; exact not_lt_bot h'
      · exact hGk (h'.1.symm.trans hbot)
    · rw [← h] at hGk; exact hGk hbot
  have hc := (Finset.card_le_card hsub).trans Finset.card_image_le
  have e1 : (Finset.univ.filter fun b : Fin 16 => b.val < i).card = i := by
    rcases Nat.lt_or_ge i 16 with h | h
    · have := Fin.card_Iio (⟨i, h⟩ : Fin 16)
      refine (congrArg Finset.card (Finset.ext fun b => ?_)).trans this
      simp [Fin.lt_def]
    · have : i = 16 := by omega
      subst this
      rw [Finset.filter_true_of_mem fun b _ => b.isLt]; simp
  have e2 : (Finset.univ.filter fun k : Fin 16 => k < r).card = r.val := by
    rw [← Fin.card_Iio r]
    refine congrArg Finset.card (Finset.ext fun b => ?_)
    simp
  omega

/-- Block `a` is the first whose gate is greatest. -/
def IsFirst (G : Fin 16 → EReal) (a : Fin 16) : Prop := ∀ b, G b ≤ G a ∧ (G b = G a → a ≤ b)

/-- Striking block `a` out. -/
def strike (G : Fin 16 → EReal) (a : Fin 16) : Fin 16 → EReal := fun b => if b = a then ⊥ else G b

/-- The gates that are left before each round: the blocks at the places below are struck out. -/
def left (G : Fin 16 → EReal) : ℕ → Fin 16 → EReal
  | 0 => G
  | n + 1 => strike (left G n) (ranked G (Fin.ofNat 16 n))

/-- A gate that is left is the block's gate, or nothing where the block is at a place below. -/
theorem left_apply (G : Fin 16 → EReal) (n : ℕ) (hn : n ≤ 16) (k : Fin 16) :
    left G n (ranked G k) = if k.val < n then ⊥ else G (ranked G k) := by
  induction n with
  | zero => simp [left]
  | succ n ih =>
    have hv : (Fin.ofNat 16 n).val = n := Nat.mod_eq_of_lt hn
    unfold left strike
    by_cases h : k = Fin.ofNat 16 n
    · rw [if_pos (by rw [h]), if_pos (by rw [h, hv]; omega)]
    · rw [if_neg fun e => h (ranked_injective G e), ih (by omega)]
      have hk : k.val ≠ n := fun e => h (Fin.ext (e.trans hv.symm))
      by_cases h1 : k.val < n
      · rw [if_pos h1, if_pos (by omega)]
      · rw [if_neg h1, if_neg (by omega)]

/-- Round `r` finds the block at place `r`, while there is an earlier block left. -/
theorem isFirst_ranked (G : Fin 16 → EReal) (i : ℕ) (hG : ∀ b : Fin 16, b.val < i ↔ G b ≠ ⊥) (r : Fin 16) (hr : r.val < i)
    (hi : i ≤ 16) : IsFirst (left G r.val) (ranked G r) := by
  have hlt := ranked_lt G i hG r hr hi
  have hne := (hG _).mp hlt
  have h0 : left G r.val (ranked G r) = G (ranked G r) := by
    rw [left_apply G r.val (by omega), if_neg (lt_irrefl _)]
  intro b
  obtain ⟨k, rfl⟩ := ranked_surjective G b
  rw [h0, left_apply G r.val (by omega)]
  by_cases hk : k.val < r.val
  · rw [if_pos hk]
    exact ⟨bot_le, fun e => absurd e.symm hne⟩
  · rw [if_neg hk]
    rcases lt_or_eq_of_le (not_lt.mp hk) with h | h
    · rcases ranked_ahead G r k h with h' | h'
      · exact ⟨le_of_lt h', fun e => absurd e h'.ne⟩
      · exact ⟨h'.1.ge, fun _ => le_of_lt h'.2⟩
    · have : k = r := Fin.ext h.symm
      rw [this]
      exact ⟨le_rfl, fun _ => le_rfl⟩

/-- Block `b` is among the (at most three) chosen ones of block `i`. -/
def Chosen (G : Fin 16 → EReal) (i : ℕ) (b : Fin 16) : Prop := ∃ j : Fin 3, j.val < i ∧ ranked G (j.castLE (by decide)) = b

open Classical in
/-- A sum over the chosen blocks, place by place. -/
theorem sum_chosen (G : Fin 16 → EReal) (i : ℕ) (f : Fin 16 → EReal) :
    (∑ j : Fin 3, if j.val < i then f (ranked G (j.castLE (by decide))) else 0) = ∑ b : Fin 16, if Chosen G i b then f b else 0 := by
  rw [← Finset.sum_filter, ← Finset.sum_filter]
  have hinj : Function.Injective fun j : Fin 3 => ranked G (j.castLE (by decide : 3 ≤ 16)) :=
    fun a b h => by
      have := ranked_injective G h
      exact Fin.ext (congrArg (fun x : Fin 16 => x.val) this)
  rw [← Finset.sum_image (f := f) (g := fun j : Fin 3 => ranked G (j.castLE (by decide : 3 ≤ 16))) (fun a _ b _ h => hinj h)]
  refine Finset.sum_congr (Finset.ext fun b => ?_) fun _ _ => rfl
  rw [Finset.mem_image, Finset.mem_filter]
  constructor
  · rintro ⟨a, ha, rfl⟩
    exact ⟨Finset.mem_univ _, a, (Finset.mem_filter.mp ha).2, rfl⟩
  · rintro ⟨_, a, ha, rfl⟩
    exact ⟨a, Finset.mem_filter.mpr ⟨Finset.mem_univ _, ha⟩, rfl⟩

end Cert.Attn
-- ==== Proof.Mix.lean ====
module

public import Idealize.ShloMosaic.PureOps.Ideal
public import Mathlib.Analysis.SpecialFunctions.Pow.Real

/-!
# Weighted means over the extended reals

A row of attention is the mean of the value rows under weights that are real and not negative: `exp` of the scaled
score where the query sees the key, and 0 where it does not. The kernel holds the weights relative to a running maximum
and folds key blocks in one pair at a time; the reference takes one maximum over all. Either is the plain weighted sum
times a positive real, and the quotient by the weights' sum takes that factor out again. The values may be infinite.
-/

@[expose] public section
noncomputable section
namespace Cert.Attn
open Idealize.ShloMosaic

/-- A real that is not negative goes into a finite sum of extended reals. -/
theorem coe_mul_sum {ι : Type} (r : ℝ) (hr : 0 ≤ r) (s : Finset ι) (f : ι → EReal) :
    (r : EReal) * ∑ x ∈ s, f x = ∑ x ∈ s, (r : EReal) * f x := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The inclusion of the reals takes finite sums to finite sums. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The factor that a maximum `m` takes out of the powers of two. -/
def scale2 (m : ℝ) : ℝ := Real.rpow 2 (-m)

/-- The base-two scale is positive. -/
theorem scale2_pos (m : ℝ) : 0 < scale2 m := Real.rpow_pos_of_pos two_pos _

/-- The weight of a key: `exp` of its scaled score where it is seen, else 0. -/
def weight (c : ℝ) (vis : Prop) [Decidable vis] (s : ℝ) : ℝ := if vis then Real.exp (s * c) else 0

/-- A weight is not negative. -/
theorem weight_nonneg (c : ℝ) (vis : Prop) [Decidable vis] (s : ℝ) : 0 ≤ weight c vis s := by
  unfold weight; split
  · exact le_of_lt (Real.exp_pos _)
  · exact le_refl _

/-- A score relative to a maximum, raised to base two, is the weight times the maximum's factor. -/
theorem exp2_score (c : ℝ) (vis : Prop) [Decidable vis] (s m : ℝ) :
    Ideal.exp2 ((if vis then ((s * (c * (Real.log 2)⁻¹) : ℝ) : EReal) else ⊥) - (m : EReal))
      = ((weight c vis s * scale2 m : ℝ) : EReal) := by
  unfold weight scale2
  split
  · rw [← EReal.coe_sub, Ideal.exp2_coe]
    refine congrArg _ ?_
    show (2 : ℝ) ^ (s * (c * (Real.log 2)⁻¹) - m) = Real.exp (s * c) * (2 : ℝ) ^ (-m)
    rw [sub_eq_add_neg, Real.rpow_add two_pos]
    refine congrArg (· * _) ?_
    rw [Real.rpow_def_of_pos two_pos]
    refine congrArg _ ?_
    have h : Real.log 2 ≠ 0 := (Real.log_pos one_lt_two).ne'
    field_simp
  · rw [EReal.bot_sub, Ideal.exp2_bot, zero_mul, EReal.coe_zero]

/-- The same to base e. -/
theorem exp_score (c : ℝ) (vis : Prop) [Decidable vis] (s m : ℝ) :
    Ideal.exp ((if vis then ((s * c : ℝ) : EReal) else ⊥) - (m : EReal)) = ((weight c vis s * Real.exp (-m) : ℝ) : EReal) := by
  unfold weight
  split
  · rw [← EReal.coe_sub, Ideal.exp_coe, sub_eq_add_neg, Real.exp_add]
  · rw [EReal.bot_sub, Ideal.exp_bot, zero_mul, EReal.coe_zero]

/-- A weighted sum whose weights all carry one factor. -/
theorem factor_out {ι : Type} (s : Finset ι) (w : ι → ℝ) (k : ℝ) (hk : 0 ≤ k) (V : ι → EReal) :
    ∑ x ∈ s, ((w x * k : ℝ) : EReal) * V x = (k : EReal) * ∑ x ∈ s, (w x : EReal) * V x := by
  rw [coe_mul_sum k hk]
  refine Finset.sum_congr rfl fun x _ => ?_
  rw [mul_comm (w x) k, EReal.coe_mul, mul_assoc]

/-- Folding a further pair in: what was held is brought to the new maximum, and the pair's sum is added. -/
theorem fold_in {ι : Type} (s : Finset ι) (m m' : ℝ) (A : EReal) (w : ι → ℝ) (V : ι → EReal) :
    Ideal.exp2 ((m : EReal) - (m' : EReal)) * ((scale2 m : EReal) * A) + ∑ x ∈ s, ((w x * scale2 m' : ℝ) : EReal) * V x
      = (scale2 m' : EReal) * (A + ∑ x ∈ s, (w x : EReal) * V x) := by
  rw [factor_out s w _ (scale2_pos m').le, ← EReal.coe_sub, Ideal.exp2_coe, ← mul_assoc, ← EReal.coe_mul]
  have h : Real.rpow 2 (m - m') * scale2 m = scale2 m' := by
    unfold scale2
    show (2 : ℝ) ^ (m - m') * (2 : ℝ) ^ (-m) = (2 : ℝ) ^ (-m')
    rw [← Real.rpow_add two_pos]
    congr 1
    ring
  rw [h]
  exact (EReal.left_distrib_of_nonneg_of_ne_top (by exact_mod_cast (scale2_pos m').le) (EReal.coe_ne_top _) _ _).symm

/-- The quotient takes a common positive factor out. -/
theorem div_factor (k W : ℝ) (hk : 0 < k) (hW : 0 < W) (A : EReal) :
    Ideal.div ((k : EReal) * A) ((k : EReal) * (W : EReal)) = A * ((1 / W : ℝ) : EReal) := by
  rw [← EReal.coe_mul, Ideal.div_coe (mul_pos hk hW).ne', mul_comm (k : EReal) A, mul_assoc, ← EReal.coe_mul]
  congr 2
  field_simp

/-- The weighted sum of quotients is the quotient of the weighted sum. -/
theorem sum_div {ι : Type} (s : Finset ι) (w : ι → ℝ) (k W : ℝ) (hk : 0 < k) (hW : 0 < W) (V : ι → EReal) :
    ∑ x ∈ s, Ideal.div ((w x * k : ℝ) : EReal) ((W * k : ℝ) : EReal) * V x
      = (∑ x ∈ s, (w x : EReal) * V x) * ((1 / W : ℝ) : EReal) := by
  have h0 : 0 ≤ 1 / W := (one_div_pos.mpr hW).le
  rw [mul_comm (∑ x ∈ s, _), coe_mul_sum _ h0]
  refine Finset.sum_congr rfl fun x _ => ?_
  rw [Ideal.div_coe (mul_pos hW hk).ne', ← EReal.coe_mul, ← mul_assoc, ← EReal.coe_mul]
  congr 2
  field_simp

/-- The greatest of finitely many extended reals is real, where none is `⊤` and one is not `⊥`. -/
theorem fold_max_real {ι : Type} (s : Finset ι) (f : ι → EReal) (htop : ∀ x ∈ s, f x ≠ ⊤) (x₀ : ι) (hx : x₀ ∈ s)
    (hbot : f x₀ ≠ ⊥) : ∃ m : ℝ, s.fold max ⊥ f = (m : EReal) := by
  have h1 : s.fold max ⊥ f < ⊤ := (Finset.fold_max_lt ⊤).mpr ⟨bot_lt_top, fun x hx => lt_top_iff_ne_top.mpr (htop x hx)⟩
  have h2 : ⊥ < s.fold max ⊥ f := (Finset.lt_fold_max ⊥).mpr (Or.inr ⟨x₀, hx, bot_lt_iff_ne_bot.mpr hbot⟩)
  exact ⟨_, (EReal.coe_toReal h1.ne h2.ne').symm⟩

/-- A real maximum stays real when further extended reals below `⊤` are taken in. -/
theorem max_fold_real {ι : Type} (s : Finset ι) (f : ι → EReal) (htop : ∀ x ∈ s, f x ≠ ⊤) (m : ℝ) :
    ∃ m' : ℝ, max (m : EReal) (s.fold max ⊥ f) = (m' : EReal) := by
  have h1 : s.fold max ⊥ f < ⊤ := (Finset.fold_max_lt ⊤).mpr ⟨bot_lt_top, fun x hx => lt_top_iff_ne_top.mpr (htop x hx)⟩
  have h3 : max (m : EReal) (s.fold max ⊥ f) < ⊤ := max_lt (EReal.coe_lt_top m) h1
  have h4 : ⊥ < max (m : EReal) (s.fold max ⊥ f) := lt_of_lt_of_le (EReal.bot_lt_coe m) (le_max_left _ _)
  exact ⟨_, (EReal.coe_toReal h3.ne h4.ne').symm⟩

end Cert.Attn
-- ==== Proof.Rounds.lean ====
module

public import proofs.«01_k».proof.Proof.Heads
public import proofs.«01_k».proof.Proof.Select
public import proofs.«01_k».proof.Proof.Mix
public import Idealize.ShloMosaic.Lib.WordCmp
public import Idealize.ShloMosaic.Lib.IdealHost
public import Idealize.ShloMosaic.Lib.PlanTiles.Rows

/-!
# The kernel's three rounds

Each round of the kernel takes, in every column (a query), the first block whose gate is greatest and strikes it out.
-/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise Cert.Attn
open Idealize.ShloMosaic.WordCmp (cmpi_eq_ofNat cmpi_slt_ofNat cmpi_sgt_ofNat select_decide)
open Idealize.ShloMosaic.PlanTiles (minsi_word)

/-- The block a round finds in each column, marked by 1. -/
def roundHit (g : FVec Ideal S16x256 .f32) : IVec S16x256 1 :=
  cmpi .eq blockRows (broadcastTo S16x256 (shapeCast S1x256 (multiReductionI .minsi [0] S256
    (select (cmpf .oeq g (broadcastTo S16x256 (shapeCast S1x256
      (multiReduction .maximumf [0] S256 g 0xFF800000#32 reduces_S16x256_S256 (.inl rfl) rfl) shapeCasts_S256_S1x256) broadcasts_S1x256_S16x256))
      blockRows (broadcast S16x256 16#32))
    2147483647#32 reduces_S16x256_S256 rfl) shapeCasts_S256_S1x256) broadcasts_S1x256_S16x256)

/-- The gates a round leaves. -/
def nextGate (g : FVec Ideal S16x256 .f32) : FVec Ideal S16x256 .f32 :=
  select (roundHit g) (broadcast S16x256 (Scalar.ofBits (F := Ideal) .f32 0xFF800000#32)) g

/-- A round's mark, made only where there is still a block before the query's own. -/
def addMark (b : BitVec 32) (r : BitVec 32) (g s : FVec Ideal S16x256 .f32) : FVec Ideal S16x256 .f32 :=
  select (andi (roundHit g) (broadcast S16x256 (Scalar.cmpi .sgt b r)))
    (broadcast S16x256 (Scalar.ofBits (F := Ideal) .f32 0x3F800000#32)) s

/-- The marks are three rounds. -/
theorem marks_rounds (i : grid0.Coords) (q : Vec Ideal S256x128 .f32) (km : Vec Ideal S1x16x128 .f32) :
    marks i q km = addMark (blk i) 2#32 (nextGate (nextGate (k0_pay60 i q km))) (addMark (blk i) 1#32 (nextGate (k0_pay60 i q km))
      (addMark (blk i) 0#32 (k0_pay60 i q km) (broadcast S16x256 (Scalar.ofBits (F := Ideal) .f32 0x00000000#32)))) := rfl

/-- The bits of the constant that pads the gates. -/
theorem bits_bot : Ideal.ofBits .f32 0xFF800000#32 = (⊥ : EReal) := by
  simp [Ideal.ofBits, Ideal.ieee]

/-- The least of finitely many small words is the word of the least number. -/
theorem fold_minsi (s : Finset (Fin 16)) (n : Fin 16 → ℕ) (hn : ∀ x, n x < 2 ^ 31) :
    s.fold IntOp.minsi 2147483647#32 (fun x => BitVec.ofNat 32 (n x)) = BitVec.ofNat 32 (s.fold min 2147483647 n)
      ∧ s.fold min 2147483647 n < 2 ^ 31 := by
  classical
  induction s using Finset.induction_on with
  | empty => exact ⟨rfl, by rw [Finset.fold_empty]; norm_num⟩
  | insert a s ha ih =>
    rw [Finset.fold_insert ha, Finset.fold_insert ha, ih.1]
    refine ⟨?_, lt_of_le_of_lt (min_le_left _ _) (hn a)⟩
    rw [minsi_word (hn a) ih.2, min_comm]

/-- A round finds the first block whose gate is greatest. -/
theorem hit_apply (g : FVec Ideal S16x256 .f32) (c : Fin 256) (a : Fin 16) (h : IsFirst (fun b => g (ix2 b c)) a) (b : Fin 16) :
    roundHit g (ix2 b c) = BitVec.ofBool (decide (b = a)) := by
  pointwise [roundHit, blockRows]
  have hm : Finset.fold max (Ideal.ofBits FTy.f32 4286578688#32) (fun x => g (ix2 x c)) Finset.univ = g (ix2 a c) := by
    refine le_antisymm ((Finset.fold_max_le _).mpr ⟨?_, fun x _ => (h x).1⟩) ((Finset.le_fold_max _).mpr (Or.inr ⟨a, Finset.mem_univ _, le_rfl⟩))
    rw [show Ideal.ofBits FTy.f32 4286578688#32 = (⊥ : EReal) from bits_bot]
    exact bot_le
  rw [hm]
  have hf : (fun x : Fin 16 => if g (ix2 x c) = g (ix2 a c) then BitVec.ofNat 32 x.val else 16#32)
      = fun x => BitVec.ofNat 32 (if g (ix2 x c) = g (ix2 a c) then x.val else 16) := by
    funext x; split <;> rfl
  rw [hf, (fold_minsi Finset.univ _ (fun x => by split <;> omega)).1]
  have hv : (Finset.univ.fold min 2147483647 fun x : Fin 16 => if g (ix2 x c) = g (ix2 a c) then x.val else 16) = a.val := by
    refine le_antisymm ((Finset.fold_min_le _).mpr (Or.inr ⟨a, Finset.mem_univ _, by rw [if_pos rfl]⟩))
      ((Finset.le_fold_min _).mpr ⟨by omega, fun x _ => ?_⟩)
    split
    · rename_i hx; exact (h x).2 hx
    · omega
  rw [hv, cmpi_eq_ofNat (by omega) (by omega)]
  simp only [Fin.ext_iff]

/-- The gates before round `r`. -/
def gatesAt (i : grid0.Coords) (q : Vec Ideal S256x128 .f32) (km : Vec Ideal S1x16x128 .f32) : ℕ → FVec Ideal S16x256 .f32
  | 0 => k0_pay60 i q km
  | n + 1 => nextGate (gatesAt i q km n)

/-- The gates of query `c`: its products with the block means, and nothing for its own block and the later ones. -/
def gateCol (i : grid0.Coords) (q : Vec Ideal S256x128 .f32) (km : Vec Ideal S1x16x128 .f32) (c : Fin 256) : Fin 16 → EReal :=
  fun b => k0_pay60 i q km (ix2 b c)

/-- While there are earlier blocks left, the gates before round `n` are the query's with the first `n` places struck out. -/
theorem gatesAt_left (i : grid0.Coords) (q : Vec Ideal S256x128 .f32) (km : Vec Ideal S1x16x128 .f32) (c : Fin 256)
    (hG : ∀ b : Fin 16, b.val < (i 2).val ↔ gateCol i q km c b ≠ ⊥) (n : ℕ) (hn : n ≤ (i 2).val) :
    (fun b => gatesAt i q km n (ix2 b c)) = left (gateCol i q km c) n := by
  have h16 : (i 2).val < 16 := (i 2).isLt
  induction n with
  | zero => rfl
  | succ n ih =>
    have ih := ih (by omega)
    have hr : (Fin.ofNat 16 n).val = n := Nat.mod_eq_of_lt (by omega)
    have hf := isFirst_ranked (gateCol i q km c) (i 2).val hG (Fin.ofNat 16 n) (by omega) (by omega)
    rw [hr, ← ih] at hf
    funext b
    unfold left strike
    rw [← ih]
    show Scalar.select (roundHit (gatesAt i q km n) (ix2 b c)) (Ideal.ofBits .f32 0xFF800000#32) (gatesAt i q km n (ix2 b c)) = _
    rw [hit_apply _ c _ hf b, select_decide, bits_bot]

/-- Round `r` marks the block at place `r`, where the query has more than `r` earlier blocks. -/
theorem addMark_apply (i : grid0.Coords) (q : Vec Ideal S256x128 .f32) (km : Vec Ideal S1x16x128 .f32) (c : Fin 256)
    (hG : ∀ b : Fin 16, b.val < (i 2).val ↔ gateCol i q km c b ≠ ⊥) (r : Fin 3) (s : FVec Ideal S16x256 .f32) (b : Fin 16) :
    addMark (blk i) (BitVec.ofNat 32 r.val) (gatesAt i q km r.val) s (ix2 b c)
      = if r.val < (i 2).val ∧ ranked (gateCol i q km c) (r.castLE (by decide)) = b then (1 : EReal) else s (ix2 b c) := by
  have h16 : (i 2).val < 16 := (i 2).isLt
  show Scalar.select (IntOp.andi (roundHit (gatesAt i q km r.val) (ix2 b c)) (IntOp.cmpi .sgt (BitVec.ofNat 32 (i 2).val) (BitVec.ofNat 32 r.val)))
      (Ideal.ofBits .f32 0x3F800000#32) (s (ix2 b c)) = _
  rw [cmpi_sgt_ofNat (by omega) (by omega)]
  by_cases hr : r.val < (i 2).val
  · have hf := isFirst_ranked (gateCol i q km c) (i 2).val hG (r.castLE (by decide)) hr (by omega)
    rw [show (r.castLE (by decide : 3 ≤ 16)).val = r.val from rfl, ← gatesAt_left i q km c hG r.val (by omega)] at hf
    rw [hit_apply _ c _ hf b]
    by_cases hb : ranked (gateCol i q km c) (r.castLE (by decide)) = b
    · subst hb
      simp [hr, Scalar.select, IntOp.andi, show Ideal.ofBits FTy.f32 1065353216#32 = 1 from Ideal.ofBits_one_f32]
    · have hb' : ¬ b = ranked (gateCol i q km c) (r.castLE (by decide)) := fun e => hb e.symm
      simp [hr, hb, hb', Scalar.select, IntOp.andi]
  · have h0 : ∀ x : BitVec 1, IntOp.andi x (BitVec.ofBool (decide (r.val < (i 2).val))) = 0#1 := by
      intro x; simp [hr, IntOp.andi]
    rw [h0, if_neg fun h => hr h.1]
    rfl

open Classical in
/-- The marks are on the chosen blocks. -/
theorem marks_apply (i : grid0.Coords) (q : Vec Ideal S256x128 .f32) (km : Vec Ideal S1x16x128 .f32) (c : Fin 256)
    (hG : ∀ b : Fin 16, b.val < (i 2).val ↔ gateCol i q km c b ≠ ⊥) (b : Fin 16) :
    marks i q km (ix2 b c) = if Chosen (gateCol i q km c) (i 2).val b then (1 : EReal) else 0 := by
  rw [marks_rounds]
  rw [show addMark (blk i) 2#32 (nextGate (nextGate (k0_pay60 i q km))) _ (ix2 b c) = _ from addMark_apply i q km c hG 2 _ b,
    show addMark (blk i) 1#32 (nextGate (k0_pay60 i q km)) _ (ix2 b c) = _ from addMark_apply i q km c hG 1 _ b,
    show addMark (blk i) 0#32 (k0_pay60 i q km) _ (ix2 b c) = _ from addMark_apply i q km c hG 0 _ b]
  have hz : (broadcast S16x256 (Scalar.ofBits (F := Ideal) .f32 0x00000000#32) : FVec Ideal S16x256 .f32) (ix2 b c) = (0 : EReal) := by
    show Ideal.ofBits .f32 0x00000000#32 = 0
    exact Ideal.ofBits_zero_f32
  rw [hz]
  by_cases h : Chosen (gateCol i q km c) (i 2).val b
  · rw [if_pos h]
    have h' : ∀ j : Fin 3, (j.val < (i 2).val ∧ ranked (gateCol i q km c) (j.castLE (by decide)) = b) →
        j = 0 ∨ j = 1 ∨ j = 2 := fun j _ => by fin_cases j <;> simp
    obtain ⟨j, hj⟩ := h
    rcases h' j hj with rfl | rfl | rfl
    · rw [if_pos hj]; split <;> [rfl; (split <;> rfl)]
    · rw [if_pos hj]; split <;> rfl
    · rw [if_pos hj]
  · rw [if_neg h, if_neg fun e => h ⟨2, e⟩, if_neg fun e => h ⟨1, e⟩, if_neg fun e => h ⟨0, e⟩]

/-- A query's gates, where it and the block means are finite: the plain products with the earlier blocks' means. -/
theorem gateCol_apply (i : grid0.Coords) (q : Vec Ideal S256x128 .f32) (km : Vec Ideal S1x16x128 .f32) (c : Fin 256)
    (qr : Fin 128 → ℝ) (kmr : Fin 16 → Fin 128 → ℝ) (hq : ∀ d, q (ix2 c d) = (qr d : EReal)) (hkm : ∀ b d, km (ix3 0 b d) = (kmr b d : EReal))
    (b : Fin 16) :
    gateCol i q km c b = if b.val < (i 2).val then ((∑ d, kmr b d * qr d : ℝ) : EReal) else ⊥ := by
  have h16 : (i 2).val < 16 := (i 2).isLt
  unfold gateCol
  pointwise [k0_pay60]
  rw [cmpi_slt_ofNat (by omega) (by omega), select_decide, show Ideal.ofBits FTy.f32 4286578688#32 = (⊥ : EReal) from bits_bot]
  have z : ∀ r : ℝ, (r : EReal) - (r : EReal) = 0 := fun r => by rw [← EReal.coe_sub, sub_self, EReal.coe_zero]
  simp only [hq, hkm, z, mul_zero, zero_mul, Finset.sum_const_zero, add_zero]
  refine if_congr Iff.rfl ?_ rfl
  rw [coe_sum]
  simp only [EReal.coe_mul]

end Cert.KernelIdeal.Attn
-- ==== Proof.Row.lean ====
module

public import proofs.«01_k».proof.Proof.Rounds

/-!
# One row of one head

What the kernel makes of one query of one head: its scores with the keys of a block pair, and its running maximum and
running sums. The running sums are the plain weighted sums times the factor that the maximum takes out, so that the
quotient at the end is the weighted mean over all the keys that the query sees.
-/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise Cert.Attn
open Idealize.ShloMosaic.WordCmp (cmpi_eq_ofNat cmpi_slt_ofNat cmpi_sgt_ofNat cmpi_sge_ofNat cmpi_sgt_eq select_decide)

/-- The scale of the scores: the single-precision number nearest to one over the square root of 128. -/
def scl : ℝ := 11863283 / 134217728

/-- The block that column `col` of pair `p` belongs to. -/
def blockOf (p : Fin 8) (col : Fin 512) : Fin 16 := ⟨2 * p.val + col.val / 256, by omega⟩

/-- Row `r` of block `i` sees key `t` of block `b`: the own block's keys up to itself, and all keys of the chosen blocks. -/
def Seen (G : Fin 16 → EReal) (i r : ℕ) (b : Fin 16) (t : ℕ) : Prop := (b.val = i ∧ t ≤ r) ∨ Chosen G i b

/-- A pair's values beside the column of ones. -/
def withOnes (v : Vec Ideal S512x128 .bf16) (col : Fin 512) (e : Fin 256) : EReal :=
  if h : e.val < 128 then v (ix2 col (⟨e.val, h⟩ : Fin 128)) else 1

/-- The mask's value. -/
theorem mask_val : (Named.named (F := Ideal) (φ := .f32) κ "mask" 0xF149F2CA#32 : EReal) = ⊥ :=
  IdealRules.named_const.ideal_named_scalar _ _ _ _ rfl

/-- The scores' factor. -/
theorem factor_val : (Named.named (F := Ideal) (φ := .f32) κ "scale_log2e" 0x3E0293EE#32 : EReal) = ((scl * (Real.log 2)⁻¹ : ℝ) : EReal) :=
  IdealRules.named_const.ideal_named_scalar _ _ _ _ rfl

/-- A row of the one-hot columns. -/
theorem oneHot_apply (p : Fin 8) (r : Fin 512) (l : Fin 128) :
    oneHot (F := Ideal) (BitVec.ofNat 32 p.val) (ix2 r l) = if l.val = (blockOf p r).val then (1 : EReal) else 0 := by
  pointwise [oneHot, k0_pay59]
  rw [cmpi_sge_ofNat (by omega) (by omega), select_decide]
  have e : IntOp.addi (Scalar.muli 2#32 (BitVec.ofNat 32 p.val)) (if 256 ≤ r.val then 1#32 else 0#32)
      = BitVec.ofNat 32 (2 * p.val + r.val / 256) := by
    rw [show (if 256 ≤ r.val then 1#32 else 0#32 : BitVec 32) = BitVec.ofNat 32 (r.val / 256) by
      split
      · rw [show r.val / 256 = 1 by omega]
      · rw [show r.val / 256 = 0 by omega]]
    show 2#32 * BitVec.ofNat 32 p.val + BitVec.ofNat 32 (r.val / 256) = _
    rw [show (2#32 : BitVec 32) = BitVec.ofNat 32 2 from rfl, ← BitVec.ofNat_mul, ← BitVec.ofNat_add]
  rw [e, cmpi_eq_ofNat (by omega) (by omega), select_decide]
  rfl

/-- A scaled score at an index. -/
theorem pay6_apply (qe : FVec Ideal S256x256 .bf16) (oh kk : FVec Ideal S512x128 .bf16) (r : Fin 256) (c : Fin 512) :
    k0_pay6 qe oh kk (ix2 r c) = (∑ x : Fin 128, qe (ix2 r (⟨x.val, by omega⟩ : Fin 256)) * kk (ix2 c x)
      + ∑ x : Fin 128, qe (ix2 r (⟨128 + x.val, by omega⟩ : Fin 256)) * oh (ix2 c x)) * ((scl * (Real.log 2)⁻¹ : ℝ) : EReal) := by
  pointwise [k0_pay6]
  rw [← factor_val]

section row
variable (i : grid0.Coords) (q : Vec Ideal S256x128 .f32) (km : Vec Ideal S1x16x128 .f32) (r : Fin 256)

open Classical in
/-- The queries' own columns of the widened queries. -/
theorem qAug_left (d : Fin 128) : qAug i q km (ix2 r (⟨d.val, by omega⟩ : Fin 256)) = q (ix2 r d) := by
  pointwise [qAug, k0_pay64]

open Classical in
/-- The bias columns: 0 on the chosen blocks and the own one, nothing on the others. -/
theorem qAug_right (hG : ∀ b : Fin 16, b.val < (i 2).val ↔ gateCol i q km r b ≠ ⊥) (b : Fin 16) :
    qAug i q km (ix2 r (⟨128 + b.val, by omega⟩ : Fin 256))
      = if Chosen (gateCol i q km r) (i 2).val b ∨ b.val = (i 2).val then (0 : EReal) else ⊥ := by
  have h16 : (i 2).val < 16 := (i 2).isLt
  pointwise [qAug, k0_pay64]
  rw [show Named.named (F := Ideal) (φ := .f32) κ "mask" 4048155338#32 = (⊥ : EReal) from mask_val, marks_apply i q km r hG,
    show IntOp.cmpi CmpIPredicate.eq (BitVec.ofNat 32 b.val) (blk i) = _ from cmpi_eq_ofNat (by omega) (by omega)]
  by_cases h1 : Chosen (gateCol i q km r) (i 2).val b <;> by_cases h2 : b.val = (i 2).val <;>
    simp [h1, h2, Scalar.select, IntOp.ori]

open Classical in
/-- A pair's scaled scores: the products with the keys of the chosen blocks and of the own one, nothing elsewhere. -/
theorem raw_score (hG : ∀ b : Fin 16, b.val < (i 2).val ↔ gateCol i q km r b ≠ ⊥) (p : Fin 8) (kk : Vec Ideal S512x128 .bf16)
    (qr : Fin 128 → ℝ) (kr : Fin 512 → Fin 128 → ℝ) (hq : ∀ d, q (ix2 r d) = (qr d : EReal)) (hk : ∀ c d, kk (ix2 c d) = (kr c d : EReal))
    (col : Fin 512) :
    k0_pay6 (qAug i q km) (oneHot (BitVec.ofNat 32 p.val)) kk (ix2 r col)
      = if Chosen (gateCol i q km r) (i 2).val (blockOf p col) ∨ (blockOf p col).val = (i 2).val
        then (((∑ d, qr d * kr col d) * (scl * (Real.log 2)⁻¹) : ℝ) : EReal) else ⊥ := by
  have hpos : 0 < scl * (Real.log 2)⁻¹ :=
    mul_pos (by unfold scl; norm_num) (inv_pos.mpr (Real.log_pos one_lt_two))
  rw [pay6_apply]
  have h1 : (∑ x : Fin 128, qAug i q km (ix2 r (⟨x.val, by omega⟩ : Fin 256)) * kk (ix2 col x)) = ((∑ d, qr d * kr col d : ℝ) : EReal) := by
    rw [coe_sum]
    exact Finset.sum_congr rfl fun d _ => by rw [qAug_left, hq, hk, EReal.coe_mul]
  have h2 : (∑ x : Fin 128, qAug i q km (ix2 r (⟨128 + x.val, by omega⟩ : Fin 256)) * oneHot (BitVec.ofNat 32 p.val) (ix2 col x))
      = qAug i q km (ix2 r (⟨128 + (blockOf p col).val, by omega⟩ : Fin 256)) := by
    rw [Finset.sum_eq_single (⟨(blockOf p col).val, by omega⟩ : Fin 128)]
    · rw [oneHot_apply, if_pos rfl, mul_one]
    · intro x _ hx
      rw [oneHot_apply, if_neg fun e => hx (Fin.ext e), mul_zero]
    · intro h; exact absurd (Finset.mem_univ _) h
  rw [h1, h2, qAug_right i q km r hG]
  split
  · rw [add_zero, ← EReal.coe_mul]
  · rw [EReal.add_bot, EReal.bot_mul_coe_of_pos hpos]

/-- The own pair's number as a word. -/
theorem pairOf_word : ∀ i : grid0.Coords, pairOf i = BitVec.ofNat 32 (ownPair i).val := by decide +kernel
/-- The causal mask's offset as a word. -/
theorem oddOf_word : ∀ i : grid0.Coords, Scalar.muli (oddOf i) 256#32 = BitVec.ofNat 32 ((i 2).val % 2 * 256) := by decide +kernel

/-- The causal comparison of a key's column with a query's row. -/
theorem causal_word (c r m : ℕ) (hc : c < 512) (hr : r < 256) (hm : m ≤ 256) :
    IntOp.cmpi .sgt (IntOp.subi (BitVec.ofNat 32 c) (BitVec.ofNat 32 r)) (BitVec.ofNat 32 m) = BitVec.ofBool (decide (m + r < c)) := by
  rw [cmpi_sgt_eq]
  refine congrArg _ (decide_eq_decide.mpr ?_)
  have key : ∀ n : ℕ, n < 512 → (BitVec.ofNat 32 n).toInt = n := by
    intro n hn
    have e : (BitVec.ofNat 32 n).toNat = n := by rw [BitVec.toNat_ofNat]; omega
    rw [BitVec.toInt_eq_toNat_of_lt (by omega), e]
  have h1 := key m (by omega)
  have h2 : (IntOp.subi (BitVec.ofNat 32 c) (BitVec.ofNat 32 r)).toInt = (c : ℤ) - r := by
    show (BitVec.ofNat 32 c - BitVec.ofNat 32 r).toInt = _
    rw [BitVec.toInt_sub, key c hc, key r (by omega)]; simp only [Int.bmod]; omega
  rw [h1, h2]
  omega

/-- The own pair's scores are a pair's scores under the causal mask. -/
theorem ownScores_apply (kk : Vec Ideal S512x128 .bf16) (col : Fin 512) :
    ownScores i q km kk (ix2 r col) = if (i 2).val % 2 * 256 + r.val < col.val then ⊥
      else k0_pay6 (qAug i q km) (oneHot (BitVec.ofNat 32 (ownPair i).val)) kk (ix2 r col) := by
  have h : ownScores i q km kk = select (cmpi .sgt (subi (iota .tc S256x512 32 [1] iota_S256x512_d1_w32) (iota .tc S256x512 32 [0] iota_S256x512_d0_w32))
      (broadcast S256x512 (Scalar.muli (oddOf i) 256#32))) (broadcast S256x512 (Scalar.ofBits (F := Ideal) .f32 0xFF800000#32))
      (k0_pay6 (qAug i q km) (oneHot (pairOf i)) kk) := rfl
  rw [h, pairOf_word, oddOf_word]
  generalize k0_pay6 (qAug i q km) (oneHot (BitVec.ofNat 32 (ownPair i).val)) kk = X
  pointwise
  rw [causal_word _ _ _ (by omega) (by omega) (by omega), select_decide, show Ideal.ofBits FTy.f32 4286578688#32 = (⊥ : EReal) from bits_bot]

/-- A chosen block is an earlier one. -/
theorem chosen_lt {G : Fin 16 → EReal} {i : ℕ} (hi : i ≤ 16) (hG : ∀ b : Fin 16, b.val < i ↔ G b ≠ ⊥) {b : Fin 16} (h : Chosen G i b) :
    b.val < i := by
  obtain ⟨j, hj, rfl⟩ := h
  exact ranked_lt G i hG _ hj hi

open Classical in
/-- The weight of column `col` of pair `p`. -/
def wt (G : Fin 16 → EReal) (i r : ℕ) (S : Fin 8 → Fin 512 → ℝ) (p : Fin 8) (col : Fin 512) : ℝ :=
  weight scl (Seen G i r (blockOf p col) (col.val % 256)) (S p col)

open Classical in
/-- The own pair's scores: the products with the keys the query sees. -/
theorem own_score (hG : ∀ b : Fin 16, b.val < (i 2).val ↔ gateCol i q km r b ≠ ⊥) (kk : Vec Ideal S512x128 .bf16)
    (qr : Fin 128 → ℝ) (kr : Fin 512 → Fin 128 → ℝ) (hq : ∀ d, q (ix2 r d) = (qr d : EReal)) (hk : ∀ c d, kk (ix2 c d) = (kr c d : EReal))
    (col : Fin 512) :
    ownScores i q km kk (ix2 r col)
      = if Seen (gateCol i q km r) (i 2).val r.val (blockOf (ownPair i) col) (col.val % 256)
        then (((∑ d, qr d * kr col d) * (scl * (Real.log 2)⁻¹) : ℝ) : EReal) else ⊥ := by
  have h16 : (i 2).val < 16 := (i 2).isLt
  rw [ownScores_apply, raw_score i q km r hG (ownPair i) kk qr kr hq hk col]
  have hb : (blockOf (ownPair i) col).val = 2 * ((i 2).val / 2) + col.val / 256 := rfl
  have hlt := fun h => chosen_lt (b := blockOf (ownPair i) col) (by omega) hG h
  unfold Seen
  by_cases h1 : Chosen (gateCol i q km r) (i 2).val (blockOf (ownPair i) col)
  · have := hlt h1
    rw [if_neg (by omega), if_pos (Or.inl h1), if_pos (Or.inr h1)]
  · simp only [h1, false_or, or_false]
    by_cases h2 : (blockOf (ownPair i) col).val = (i 2).val
    · by_cases h3 : (i 2).val % 2 * 256 + r.val < col.val
      · rw [if_pos h3, if_neg (by omega)]
      · rw [if_neg h3, if_pos h2, if_pos (by omega)]
    · rw [if_neg h2, ite_self, if_neg fun h => h2 h.1]

open Classical in
/-- An earlier pair's scores: the products with the keys the query sees. -/
theorem loop_score (hG : ∀ b : Fin 16, b.val < (i 2).val ↔ gateCol i q km r b ≠ ⊥) (p : Fin 8) (hp : p.val < (i 2).val / 2)
    (kk : Vec Ideal S512x128 .bf16)
    (qr : Fin 128 → ℝ) (kr : Fin 512 → Fin 128 → ℝ) (hq : ∀ d, q (ix2 r d) = (qr d : EReal)) (hk : ∀ c d, kk (ix2 c d) = (kr c d : EReal))
    (col : Fin 512) :
    k0_pay6 (qAug i q km) (oneHot (BitVec.ofNat 32 p.val)) kk (ix2 r col)
      = if Seen (gateCol i q km r) (i 2).val r.val (blockOf p col) (col.val % 256)
        then (((∑ d, qr d * kr col d) * (scl * (Real.log 2)⁻¹) : ℝ) : EReal) else ⊥ := by
  rw [raw_score i q km r hG p kk qr kr hq hk col]
  have hb : (blockOf p col).val = 2 * p.val + col.val / 256 := rfl
  have h2 : (blockOf p col).val ≠ (i 2).val := by omega
  unfold Seen
  simp only [h2, false_and, or_false, false_or]

end row

/-! ## The running state -/

/-- A row's state holds the sums `A`: its maximum is real, and its running sums are `A` times the maximum's factor. -/
def Holds (s : St Ideal) (r : Fin 256) (A : Fin 256 → EReal) : Prop :=
  ∃ m : ℝ, s.1 (ix2 r 0) = (m : EReal) ∧ ∀ e : Fin 256, s.2 (ix2 r e) = (scale2 m : EReal) * A e

/-- The first maximum. -/
theorem first_max (i : grid0.Coords) (q : Vec Ideal S256x128 .f32) (km : Vec Ideal S1x16x128 .f32) (kk vv : Vec Ideal S512x128 .bf16) (r : Fin 256) :
    (first i q km kk vv).1 (ix2 r 0) = Finset.univ.fold max ⊥ fun x : Fin 512 => ownScores i q km kk (ix2 r x) := by
  have h : (first i q km kk vv).1 = shapeCast S256x1 (multiReduction .maximumf [1] S256 (ownScores i q km kk) 0xFF800000#32
      reduces_S256x512_S256 (.inl rfl) rfl) shapeCasts_S256_S256x1 := by
    dsimp only [first, ownScores, k0_pay67]
  rw [h]
  generalize ownScores i q km kk = X
  pointwise
  rw [show Ideal.ofBits FTy.f32 4286578688#32 = (⊥ : EReal) from bits_bot]

/-- The first sums. -/
theorem first_sum (i : grid0.Coords) (q : Vec Ideal S256x128 .f32) (km : Vec Ideal S1x16x128 .f32) (kk vv : Vec Ideal S512x128 .bf16) (r e : Fin 256) :
    (first i q km kk vv).2 (ix2 r e)
      = ∑ x : Fin 512, Ideal.exp2 (ownScores i q km kk (ix2 r x) - (first i q km kk vv).1 (ix2 r 0)) * withOnes vv x e := by
  have h : (first i q km kk vv).2 = k0_pay69 (k0_pay65 k0_pay58 vv) (truncf .bf16 (exp2 (subf (ownScores i q km kk)
      (broadcastTo S256x512 (first i q km kk vv).1 broadcasts_S256x1_S256x512))) bitsLt_bf16_f32) := by
    dsimp only [first, ownScores, k0_pay68]
  rw [h]
  generalize (first i q km kk vv).1 = M
  generalize ownScores i q km kk = X
  pointwise [k0_pay69, k0_pay65, k0_pay58]
  rfl

/-- A further maximum. -/
theorem step_max (qe : FVec Ideal S256x256 .bf16) (oh kk vv : FVec Ideal S512x128 .bf16) (s : St Ideal) (r : Fin 256) :
    (step qe oh kk vv s).1 (ix2 r 0) = max (s.1 (ix2 r 0)) (Finset.univ.fold max ⊥ fun x : Fin 512 => k0_pay6 qe oh kk (ix2 r x)) := by
  show k0_pay7 _ _ _ _ _ = _
  pointwise [k0_pay7]
  rw [show Ideal.ofBits FTy.f32 4286578688#32 = (⊥ : EReal) from bits_bot]

/-- Further sums. -/
theorem step_sum (qe : FVec Ideal S256x256 .bf16) (oh kk vv : FVec Ideal S512x128 .bf16) (s : St Ideal) (r e : Fin 256) :
    (step qe oh kk vv s).2 (ix2 r e) = Ideal.exp2 (s.1 (ix2 r 0) - (step qe oh kk vv s).1 (ix2 r 0)) * s.2 (ix2 r e)
      + ∑ x : Fin 512, Ideal.exp2 (k0_pay6 qe oh kk (ix2 r x) - (step qe oh kk vv s).1 (ix2 r 0)) * withOnes vv x e := by
  show k0_pay8 _ _ _ _ _ _ _ (ix2 r e) = _
  pointwise [k0_pay8, k0_pay58]
  rfl

/-- The quotient at the end. -/
theorem out_apply (A : FVec Ideal S256x256 .f32) (r : Fin 256) (e : Fin 128) :
    k0_pay1 A (ix2 r e) = Ideal.div (A (ix2 r (⟨e.val, by omega⟩ : Fin 256))) (A (ix2 r (⟨128 + e.val, by omega⟩ : Fin 256))) := by
  pointwise [k0_pay1]

end Cert.KernelIdeal.Attn
-- ==== Proof.Mean.lean ====
module

public import proofs.«01_k».proof.Proof.Row

/-!
# A head's result is the weighted mean

The state of a row after its own pair and the earlier pairs holds the plain weighted sums over the keys that the query
sees, and the quotient at the end is the weighted mean of the value rows.
-/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise Cert.Attn

/-- A score is never `⊤`. -/
theorem ite_ne_top (P : Prop) [Decidable P] (x : ℝ) : (if P then (x : EReal) else ⊥) ≠ ⊤ := by
  split
  · exact EReal.coe_ne_top x
  · exact bot_ne_top

/-- A later block is not seen. -/
theorem not_seen {G : Fin 16 → EReal} {i r t : ℕ} (hi : i < 16) (hG : ∀ b : Fin 16, b.val < i ↔ G b ≠ ⊥) {b : Fin 16} (h : i < b.val) :
    ¬ Seen G i r b t := by
  rintro (h' | h')
  · omega
  · have := chosen_lt (by omega) hG h'; omega

section mean
variable (i : grid0.Coords) (q : Vec Ideal S256x128 .f32) (km : Vec Ideal S1x16x128 .f32) (ks vs : Fin 8 → Vec Ideal S512x128 .bf16) (r : Fin 256)
  (qr : Fin 128 → ℝ) (kr : Fin 8 → Fin 512 → Fin 128 → ℝ)

/-- The query's products with the keys. -/
def dots (qr : Fin 128 → ℝ) (kr : Fin 8 → Fin 512 → Fin 128 → ℝ) (p : Fin 8) (col : Fin 512) : ℝ := ∑ d, qr d * kr p col d

/-- A pair's weighted sum. -/
def pairSum (G : Fin 16 → EReal) (vs : Fin 8 → Vec Ideal S512x128 .bf16) (i r : ℕ) (S : Fin 8 → Fin 512 → ℝ) (p : Fin 8) (e : Fin 256) : EReal :=
  ∑ col : Fin 512, (wt G i r S p col : EReal) * withOnes (vs p) col e

open Classical in
/-- The state after the own pair. -/
theorem first_holds (hG : ∀ b : Fin 16, b.val < (i 2).val ↔ gateCol i q km r b ≠ ⊥)
    (hq : ∀ d, q (ix2 r d) = (qr d : EReal)) (hk : ∀ p c d, ks p (ix2 c d) = (kr p c d : EReal)) :
    Holds (first i q km (ks (ownPair i)) (vs (ownPair i))) r
      (pairSum (gateCol i q km r) vs (i 2).val r.val (dots qr kr) (ownPair i)) := by
  have h16 : (i 2).val < 16 := (i 2).isLt
  have hs := own_score i q km r hG (ks (ownPair i)) qr (kr (ownPair i)) hq (hk _)
  have hv : Seen (gateCol i q km r) (i 2).val r.val (blockOf (ownPair i) ⟨(i 2).val % 2 * 256 + r.val, by omega⟩) (((i 2).val % 2 * 256 + r.val) % 256) := by
    refine Or.inl ⟨?_, by omega⟩
    show 2 * ((i 2).val / 2) + ((i 2).val % 2 * 256 + r.val) / 256 = (i 2).val
    omega
  obtain ⟨m, hm⟩ := fold_max_real Finset.univ (fun x : Fin 512 => ownScores i q km (ks (ownPair i)) (ix2 r x))
    (fun x _ => by rw [hs]; exact ite_ne_top _ _)
    ⟨(i 2).val % 2 * 256 + r.val, by omega⟩ (Finset.mem_univ _) (by rw [hs, if_pos hv]; exact EReal.coe_ne_bot _)
  have hm' := (first_max i q km (ks (ownPair i)) (vs (ownPair i)) r).trans hm
  refine ⟨m, hm', fun e => ?_⟩
  rw [first_sum, hm']
  unfold pairSum
  rw [← factor_out Finset.univ _ _ (scale2_pos m).le]
  refine Finset.sum_congr rfl fun x _ => ?_
  rw [hs, exp2_score]
  rfl

open Classical in
/-- A further pair comes into the state. -/
theorem step_holds (hG : ∀ b : Fin 16, b.val < (i 2).val ↔ gateCol i q km r b ≠ ⊥)
    (hq : ∀ d, q (ix2 r d) = (qr d : EReal)) (hk : ∀ p c d, ks p (ix2 c d) = (kr p c d : EReal))
    (p : Fin 8) (hp : p.val < (i 2).val / 2) (s : St Ideal) (A : Fin 256 → EReal) (hA : Holds s r A) :
    Holds (step (qAug i q km) (oneHot (BitVec.ofNat 32 p.val)) (ks p) (vs p) s) r
      (fun e => A e + pairSum (gateCol i q km r) vs (i 2).val r.val (dots qr kr) p e) := by
  obtain ⟨m, h1, h2⟩ := hA
  have hs := loop_score i q km r hG p hp (ks p) qr (kr p) hq (hk _)
  obtain ⟨m', hm⟩ := max_fold_real Finset.univ (fun x : Fin 512 => k0_pay6 (qAug i q km) (oneHot (BitVec.ofNat 32 p.val)) (ks p) (ix2 r x))
    (fun x _ => by rw [hs]; exact ite_ne_top _ _) m
  have hm' : (step (qAug i q km) (oneHot (BitVec.ofNat 32 p.val)) (ks p) (vs p) s).1 (ix2 r 0) = (m' : EReal) := by
    rw [step_max, h1, hm]
  refine ⟨m', hm', fun e => ?_⟩
  rw [step_sum, hm', h1, h2]
  unfold pairSum
  rw [← fold_in Finset.univ m m' (A e)]
  refine congrArg _ (Finset.sum_congr rfl fun x _ => ?_)
  rw [hs, exp2_score]
  rfl

/-- The state after the own pair and the pairs below `n`. -/
theorem state_holds (hG : ∀ b : Fin 16, b.val < (i 2).val ↔ gateCol i q km r b ≠ ⊥)
    (hq : ∀ d, q (ix2 r d) = (qr d : EReal)) (hk : ∀ p c d, ks p (ix2 c d) = (kr p c d : EReal)) (n : ℕ) (hn : n ≤ (i 2).val / 2) :
    Holds (headState i q km ks vs n) r
      (fun e => pairSum (gateCol i q km r) vs (i 2).val r.val (dots qr kr) (ownPair i) e
        + ∑ k ∈ Finset.range n, pairSum (gateCol i q km r) vs (i 2).val r.val (dots qr kr) (Fin.ofNat 8 k) e) := by
  have h16 : (i 2).val < 16 := (i 2).isLt
  induction n with
  | zero =>
    simp only [Finset.range_zero, Finset.sum_empty, add_zero]
    exact first_holds i q km ks vs r qr kr hG hq hk
  | succ n ih =>
    have hv : (Fin.ofNat 8 n).val = n := Nat.mod_eq_of_lt (by omega)
    have h := step_holds i q km ks vs r qr kr hG hq hk (Fin.ofNat 8 n) (by omega) _ _ (ih (by omega))
    simp only [hv] at h
    simp only [Finset.sum_range_succ, ← add_assoc]
    exact h

/-- The pairs after the query's own weigh nothing. -/
theorem pairSum_late (G : Fin 16 → EReal) (S : Fin 8 → Fin 512 → ℝ) (hG : ∀ b : Fin 16, b.val < (i 2).val ↔ G b ≠ ⊥) (p : Fin 8)
    (hp : (i 2).val / 2 < p.val) (e : Fin 256) : pairSum G vs (i 2).val r.val S p e = 0 := by
  have h16 : (i 2).val < 16 := (i 2).isLt
  refine Finset.sum_eq_zero fun x _ => ?_
  have h : wt G (i 2).val r.val S p x = 0 := by
    unfold wt weight
    refine if_neg (not_seen h16 hG ?_)
    show (i 2).val < 2 * p.val + x.val / 256
    omega
  rw [h, EReal.coe_zero, zero_mul]

/-- The own pair and the pairs before it are all that weighs. -/
theorem sum_pairs (f : Fin 8 → EReal) (a : Fin 8) (h : ∀ p : Fin 8, a.val < p.val → f p = 0) :
    f a + ∑ k ∈ Finset.range a.val, f (Fin.ofNat 8 k) = ∑ p : Fin 8, f p := by
  have e1 : ∑ k ∈ Finset.range a.val, f (Fin.ofNat 8 k) = ∑ p ∈ Finset.univ.filter (fun p : Fin 8 => p.val < a.val), f p := by
    refine Finset.sum_nbij' (fun k => Fin.ofNat 8 k) (fun p => p.val) ?_ ?_ ?_ ?_ ?_
    · intro k hk
      have hk := Finset.mem_range.mp hk
      refine Finset.mem_filter.mpr ⟨Finset.mem_univ _, ?_⟩
      have : (Fin.ofNat 8 k).val = k := Nat.mod_eq_of_lt (by omega)
      omega
    · intro p hp
      exact Finset.mem_range.mpr (Finset.mem_filter.mp hp).2
    · intro k hk
      have hk := Finset.mem_range.mp hk
      exact Nat.mod_eq_of_lt (by omega)
    · intro p hp
      exact Fin.ext (Nat.mod_eq_of_lt p.isLt)
    · intro k hk; rfl
  have e2 : f a = ∑ p ∈ Finset.univ.filter (fun p : Fin 8 => ¬ p.val < a.val), f p := by
    refine (Finset.sum_eq_single a ?_ ?_).symm
    · intro p hp hne
      have hp := (Finset.mem_filter.mp hp).2
      refine h p (lt_of_le_of_ne (not_lt.mp hp) fun e => hne (Fin.ext e.symm))
    · intro hn
      exact absurd (show a ∈ Finset.univ.filter (fun p : Fin 8 => ¬ p.val < a.val) by simp) hn
  rw [e1, e2, add_comm, Finset.sum_filter_add_sum_filter_not]

/-- The sum of all the weights. -/
def total (G : Fin 16 → EReal) (i r : ℕ) (S : Fin 8 → Fin 512 → ℝ) : ℝ := ∑ p : Fin 8, ∑ col : Fin 512, wt G i r S p col

/-- The weights' sum is positive: a query sees its own key. -/
theorem total_pos (G : Fin 16 → EReal) (S : Fin 8 → Fin 512 → ℝ) : 0 < total G (i 2).val r.val S := by
  have h16 : (i 2).val < 16 := (i 2).isLt
  have hn : ∀ p col, 0 ≤ wt G (i 2).val r.val S p col := fun p col => by unfold wt; exact @weight_nonneg _ _ (Classical.propDecidable _) _
  refine Finset.sum_pos' (fun p _ => Finset.sum_nonneg fun col _ => hn p col) ⟨ownPair i, Finset.mem_univ _, ?_⟩
  refine Finset.sum_pos' (fun col _ => hn _ col) ⟨⟨(i 2).val % 2 * 256 + r.val, by omega⟩, Finset.mem_univ _, ?_⟩
  unfold wt weight
  rw [if_pos]
  · exact Real.exp_pos _
  · refine Or.inl ⟨?_, ?_⟩
    · show 2 * ((i 2).val / 2) + ((i 2).val % 2 * 256 + r.val) / 256 = (i 2).val
      omega
    · show ((i 2).val % 2 * 256 + r.val) % 256 ≤ r.val
      omega

/-- What the kernel stores for a row of a head is the weighted mean of the value rows. -/
theorem headOut_apply (hG : ∀ b : Fin 16, b.val < (i 2).val ↔ gateCol i q km r b ≠ ⊥)
    (hq : ∀ d, q (ix2 r d) = (qr d : EReal)) (hk : ∀ p c d, ks p (ix2 c d) = (kr p c d : EReal)) (e : Fin 128) :
    headOut i q km ks vs (ix2 r e)
      = (∑ p : Fin 8, ∑ col : Fin 512, (wt (gateCol i q km r) (i 2).val r.val (dots qr kr) p col : EReal) * vs p (ix2 col e))
        * ((1 / total (gateCol i q km r) (i 2).val r.val (dots qr kr) : ℝ) : EReal) := by
  obtain ⟨m, -, h⟩ := state_holds i q km ks vs r qr kr hG hq hk ((i 2).val / 2) le_rfl
  unfold headOut
  rw [out_apply, h, h]
  have hall := fun e' => sum_pairs (fun p => pairSum (gateCol i q km r) vs (i 2).val r.val (dots qr kr) p e') (ownPair i)
    (fun p hp => pairSum_late i vs r _ _ hG p hp e')
  beta_reduce
  rw [show (i 2).val / 2 = (ownPair i).val from rfl, hall, hall]
  have h1 : (∑ p : Fin 8, pairSum (gateCol i q km r) vs (i 2).val r.val (dots qr kr) p (⟨128 + e.val, by omega⟩ : Fin 256))
      = ((total (gateCol i q km r) (i 2).val r.val (dots qr kr) : ℝ) : EReal) := by
    unfold total pairSum
    rw [coe_sum]
    refine Finset.sum_congr rfl fun p _ => ?_
    rw [coe_sum]
    refine Finset.sum_congr rfl fun x _ => ?_
    unfold withOnes
    rw [dif_neg (by show ¬ 128 + e.val < 128; omega), mul_one]
  rw [h1, div_factor _ _ (scale2_pos m) (total_pos i r _ _)]
  refine congrArg (· * _) ?_
  unfold pairSum
  refine Finset.sum_congr rfl fun p _ => Finset.sum_congr rfl fun x _ => ?_
  unfold withOnes
  rw [dif_pos (show e.val < 128 from e.isLt)]

end mean
end Cert.KernelIdeal.Attn
-- ==== Proof.Regroup.lean ====
module

public import proofs.«01_k».proof.Proof.Mean

/-!
# The keys of a row, in the reference's order and in the kernel's

The reference lists a row's keys as three chosen blocks and the own block, the kernel as eight pairs of blocks. Both
are sums over the sixteen blocks and their 256 keys, where a key that the row does not see weighs nothing.
-/

@[expose] public section
set_option maxRecDepth 16384
noncomputable section
namespace Cert.KernelIdeal.Attn
open Idealize.ShloMosaic Cert.Attn Idealize.ShloMosaic.Pointwise

/-- A sum over a product of ranges, written as one range. -/
theorem sum_mul_range {M : Type} [AddCommMonoid M] (a b : ℕ) (F : Fin (a * b) → M) :
    ∑ u, F u = ∑ j : Fin a, ∑ t : Fin b, F (finProdFinEquiv (j, t)) := by
  rw [← Fintype.sum_prod_type', ← finProdFinEquiv.sum_comp]

/-- The 1024 keys of a reference row: three blocks of 256, then one. -/
theorem sum_keys {M : Type} [AddCommMonoid M] (F : Fin 1024 → M) :
    ∑ u, F u = ∑ j : Fin 3, ∑ t : Fin 256, F ⟨j.val * 256 + t.val, by omega⟩ + ∑ t : Fin 256, F ⟨768 + t.val, by omega⟩ := by
  have h := Fin.sum_univ_add (M := M) (a := 3 * 256) (b := 256) F
  refine h.trans ?_
  rw [sum_mul_range 3 256]
  refine congrArg₂ _ (Finset.sum_congr rfl fun j _ => Finset.sum_congr rfl fun t _ => congrArg F (Fin.ext ?_))
    (Finset.sum_congr rfl fun t _ => congrArg F (Fin.ext ?_))
  · show t.val + 256 * j.val = j.val * 256 + t.val
    omega
  · rfl

/-- The keys of eight pairs of blocks are the keys of sixteen blocks. -/
theorem sum_pairs_blocks {M : Type} [AddCommMonoid M] (f : Fin 16 → Fin 256 → M) :
    ∑ p : Fin 8, ∑ col : Fin 512, f (blockOf p col) ⟨col.val % 256, by omega⟩ = ∑ b : Fin 16, ∑ t : Fin 256, f b t := by
  have hb := sum_mul_range (M := M) 8 2 (fun b : Fin 16 => ∑ t : Fin 256, f b t)
  refine Eq.trans ?_ hb.symm
  refine Finset.sum_congr rfl fun p _ => ?_
  refine (sum_mul_range (M := M) 2 256 (fun col : Fin 512 => f (blockOf p col) ⟨col.val % 256, by omega⟩)).trans ?_
  refine Finset.sum_congr rfl fun s _ => Finset.sum_congr rfl fun t _ => congrArg₂ f (Fin.ext ?_) (Fin.ext ?_)
  · show 2 * p.val + (t.val + 256 * s.val) / 256 = s.val + 2 * p.val
    omega
  · show (t.val + 256 * s.val) % 256 = t.val
    omega

/-- The block of a reference row's key: the chosen block at its place, or the own block. -/
def keyBlock (G : Fin 16 → EReal) (i : Fin 16) (u : Fin 1024) : Fin 16 :=
  if h : u.val < 768 then ranked G ⟨u.val / 256, by omega⟩ else i

/-- Whether a reference row sees its key. -/
def keySeen (i : Fin 16) (r : ℕ) (u : Fin 1024) : Prop := if u.val < 768 then u.val / 256 < i.val else u.val - 768 ≤ r

open Classical in
/-- The reference's weighted sum over a row's keys is the weighted sum over all blocks' keys. -/
theorem sum_row (G : Fin 16 → EReal) (i : Fin 16) (r : ℕ) (hG : ∀ b : Fin 16, b.val < i.val ↔ G b ≠ ⊥)
    (S : Fin 16 → Fin 256 → ℝ) (V : Fin 16 → Fin 256 → EReal) :
    ∑ u : Fin 1024, (weight scl (keySeen i r u) (S (keyBlock G i u) ⟨u.val % 256, by omega⟩) : EReal) * V (keyBlock G i u) ⟨u.val % 256, by omega⟩
      = ∑ b : Fin 16, ∑ t : Fin 256, (weight scl (Seen G i.val r b t.val) (S b t) : EReal) * V b t := by
  rw [sum_keys]
  have h1 : ∀ j : Fin 3, ∑ t : Fin 256, (weight scl (keySeen i r ⟨j.val * 256 + t.val, by omega⟩)
        (S (keyBlock G i ⟨j.val * 256 + t.val, by omega⟩) ⟨(j.val * 256 + t.val) % 256, by omega⟩) : EReal)
          * V (keyBlock G i ⟨j.val * 256 + t.val, by omega⟩) ⟨(j.val * 256 + t.val) % 256, by omega⟩
      = if j.val < i.val then ∑ t : Fin 256, (weight scl True (S (ranked G (j.castLE (by decide))) t) : EReal) * V (ranked G (j.castLE (by decide))) t else 0 := by
    intro j
    have hk : ∀ t : Fin 256, keyBlock G i ⟨j.val * 256 + t.val, by omega⟩ = ranked G (j.castLE (by decide)) := by
      intro t
      unfold keyBlock
      rw [dif_pos (show j.val * 256 + t.val < 768 by omega)]
      exact congrArg _ (Fin.ext (show (j.val * 256 + t.val) / 256 = j.val by omega))
    have hs : ∀ t : Fin 256, keySeen i r ⟨j.val * 256 + t.val, by omega⟩ = (j.val < i.val) := by
      intro t
      unfold keySeen
      rw [if_pos (show j.val * 256 + t.val < 768 by omega), show (j.val * 256 + t.val) / 256 = j.val by omega]
    have ht : ∀ t : Fin 256, (⟨(j.val * 256 + t.val) % 256, by omega⟩ : Fin 256) = t := fun t => Fin.ext (by show (j.val * 256 + t.val) % 256 = t.val; omega)
    simp only [hk, ht, hs]
    by_cases h : j.val < i.val
    · rw [if_pos h]; simp only [h]
    · rw [if_neg h]
      refine Finset.sum_eq_zero fun t _ => ?_
      unfold weight
      rw [if_neg h, EReal.coe_zero, zero_mul]
  have h2 : ∀ t : Fin 256, (weight scl (keySeen i r ⟨768 + t.val, by omega⟩)
        (S (keyBlock G i ⟨768 + t.val, by omega⟩) ⟨(768 + t.val) % 256, by omega⟩) : EReal)
          * V (keyBlock G i ⟨768 + t.val, by omega⟩) ⟨(768 + t.val) % 256, by omega⟩
      = (weight scl (t.val ≤ r) (S i t) : EReal) * V i t := by
    intro t
    have hk : keyBlock G i ⟨768 + t.val, by omega⟩ = i := by
      unfold keyBlock
      rw [dif_neg (show ¬ 768 + t.val < 768 by omega)]
    have hs : keySeen i r ⟨768 + t.val, by omega⟩ = (t.val ≤ r) := by
      unfold keySeen
      rw [if_neg (show ¬ 768 + t.val < 768 by omega), show 768 + t.val - 768 = t.val by omega]
    have ht : (⟨(768 + t.val) % 256, by omega⟩ : Fin 256) = t := Fin.ext (by show (768 + t.val) % 256 = t.val; omega)
    simp only [hk, ht, hs]
  rw [Finset.sum_congr rfl fun j _ => h1 j, Finset.sum_congr rfl fun t _ => h2 t,
    sum_chosen G i.val (fun b => ∑ t : Fin 256, (weight scl True (S b t) : EReal) * V b t)]
  rw [show ∑ t : Fin 256, (weight scl (t.val ≤ r) (S i t) : EReal) * V i t
      = ∑ b : Fin 16, if b = i then ∑ t : Fin 256, (weight scl (t.val ≤ r) (S b t) : EReal) * V b t else 0 by
    rw [Finset.sum_ite_eq' Finset.univ i]; simp]
  rw [← Finset.sum_add_distrib]
  refine Finset.sum_congr rfl fun b _ => ?_
  by_cases hc : Chosen G i.val b
  · have hlt := chosen_lt (by omega) hG hc
    rw [if_pos hc, if_neg (by rintro rfl; omega), add_zero]
    refine Finset.sum_congr rfl fun t _ => ?_
    simp only [show Seen G i.val r b t.val = True from eq_true (Or.inr hc)]
  · rw [if_neg hc, zero_add]
    by_cases hb : b = i
    · rw [if_pos hb]
      refine Finset.sum_congr rfl fun t _ => ?_
      have : Seen G i.val r b t.val = (t.val ≤ r) := propext ⟨fun h => h.elim (·.2) (fun h => absurd h hc), fun h => Or.inl ⟨congrArg _ hb, h⟩⟩
      simp only [this]
    · rw [if_neg hb]
      refine (Finset.sum_eq_zero fun t _ => ?_).symm
      unfold weight
      rw [if_neg (fun h => h.elim (fun h => hb (Fin.ext h.1)) (fun h => hc h)), EReal.coe_zero, zero_mul]

/-- A row's weights' sum. -/
def rowTotal (G : Fin 16 → EReal) (i r : ℕ) (S : Fin 16 → Fin 256 → ℝ) : ℝ :=
  ∑ b : Fin 16, ∑ t : Fin 256, @weight scl (Seen G i r b t.val) (Classical.propDecidable _) (S b t)

/-- A row's weighted mean of the values. -/
def rowMean (G : Fin 16 → EReal) (i r : ℕ) (S : Fin 16 → Fin 256 → ℝ) (V : Fin 16 → Fin 256 → EReal) : EReal :=
  (∑ b : Fin 16, ∑ t : Fin 256, ((@weight scl (Seen G i r b t.val) (Classical.propDecidable _) (S b t) : ℝ) : EReal) * V b t)
    * ((1 / rowTotal G i r S : ℝ) : EReal)

open Classical in
/-- The reference's weights' sum is the row's. -/
theorem total_row (G : Fin 16 → EReal) (i : Fin 16) (r : ℕ) (hG : ∀ b : Fin 16, b.val < i.val ↔ G b ≠ ⊥) (S : Fin 16 → Fin 256 → ℝ) :
    ∑ u : Fin 1024, weight scl (keySeen i r u) (S (keyBlock G i u) ⟨u.val % 256, by omega⟩) = rowTotal G i.val r S := by
  have h := sum_row G i r hG S (fun _ _ => 1)
  simp only [mul_one] at h
  refine EReal.coe_injective ?_
  unfold rowTotal
  rw [coe_sum, coe_sum, h]
  exact Finset.sum_congr rfl fun b _ => (coe_sum _ _).symm

/-- The row of block `b`'s key `t` in batch `a`. -/
def rowAt (a : Fin 2) (b : Fin 16) (t : Fin 256) : Fin 8192 := ⟨a.val * 4096 + b.val * 256 + t.val, by omega⟩

/-- The column of head `h`'s component `d`. -/
def colAt (h : Fin 8) (d : Fin 128) : Fin 1024 := ⟨h.val * 128 + d.val, by omega⟩

/-- The arrays' real entries. -/
abbrev Rows : Type := (⟨2, ![8192, 1024]⟩ : Shape).Idx → ℝ
/-- The block means' real entries. -/
abbrev Means : Type := (⟨3, ![2, 16, 1024]⟩ : Shape).Idx → ℝ

/-- A query's gates: its product with the mean of each block before its own. -/
def attnGate (qr : Rows) (kmr : Means) (a : Fin 2) (h : Fin 8) (i : Fin 16) (r : Fin 256) (b : Fin 16) : EReal :=
  if b.val < i.val then ((∑ d : Fin 128, kmr (ix3 a b (colAt h d)) * qr (ix2 (rowAt a i r) (colAt h d)) : ℝ) : EReal) else ⊥

/-- A query's product with a key. -/
def attnScore (qr kr : Rows) (a : Fin 2) (h : Fin 8) (i : Fin 16) (r : Fin 256) (b : Fin 16) (t : Fin 256) : ℝ :=
  ∑ d : Fin 128, qr (ix2 (rowAt a i r) (colAt h d)) * kr (ix2 (rowAt a b t) (colAt h d))

/-- The attention at batch `a`, head `h`, block `i`, row `r`, component `e`. -/
def attnAt (qr kr : Rows) (kmr : Means) (v : (⟨2, ![8192, 1024]⟩ : Shape).Idx → EReal) (a : Fin 2) (h : Fin 8) (i : Fin 16)
    (r : Fin 256) (e : Fin 128) : EReal :=
  rowMean (attnGate qr kmr a h i r) i.val r.val (attnScore qr kr a h i r) (fun b t => v (ix2 (rowAt a b t) (colAt h e)))

/-- Only the blocks before the own one have a gate. -/
theorem attnGate_ne_bot (qr : Rows) (kmr : Means) (a : Fin 2) (h : Fin 8) (i : Fin 16) (r : Fin 256) (b : Fin 16) :
    b.val < i.val ↔ attnGate qr kmr a h i r b ≠ ⊥ := by
  unfold attnGate
  split
  · exact iff_of_true ‹_› (EReal.coe_ne_bot _)
  · exact iff_of_false ‹_› (fun h => h rfl)

/-- A row's weights' sum is positive: a query sees its own key. -/
theorem rowTotal_pos (G : Fin 16 → EReal) (i : Fin 16) (r : Fin 256) (S : Fin 16 → Fin 256 → ℝ) : 0 < rowTotal G i.val r.val S := by
  unfold rowTotal
  refine Finset.sum_pos' (fun b _ => Finset.sum_nonneg fun t _ => @weight_nonneg _ _ (Classical.propDecidable _) _) ⟨i, Finset.mem_univ _, ?_⟩
  refine Finset.sum_pos' (fun t _ => @weight_nonneg _ _ (Classical.propDecidable _) _) ⟨r, Finset.mem_univ _, ?_⟩
  unfold weight
  rw [if_pos (show Seen G i.val r.val i r.val from Or.inl ⟨rfl, le_refl _⟩)]
  exact Real.exp_pos _

/-- The attention as an array. -/
def attnArr (qr kr : Rows) (kmr : Means) (v : (⟨2, ![8192, 1024]⟩ : Shape).Idx → EReal) (j : (⟨2, ![8192, 1024]⟩ : Shape).Idx) : EReal :=
  attnAt qr kr kmr v ⟨(j 0).val / 4096, by have h : (j 0).val < 8192 := (j 0).isLt; omega⟩ ⟨(j 1).val / 128, by have h : (j 1).val < 1024 := (j 1).isLt; omega⟩
    ⟨(j 0).val / 256 % 16, by omega⟩ ⟨(j 0).val % 256, by omega⟩ ⟨(j 1).val % 128, by omega⟩

/-- The array at a named place. -/
theorem attnArr_at (qr kr : Rows) (kmr : Means) (v : (⟨2, ![8192, 1024]⟩ : Shape).Idx → EReal) (a : Fin 2) (h : Fin 8) (i : Fin 16)
    (r : Fin 256) (e : Fin 128) : attnArr qr kr kmr v (ix2 (rowAt a i r) (colAt h e)) = attnAt qr kr kmr v a h i r e := by
  unfold attnArr
  have h0 : ∀ p, (⟨(rowAt a i r).val / 4096, p⟩ : Fin 2) = a := fun p => Fin.ext (by show (a.val * 4096 + i.val * 256 + r.val) / 4096 = a.val; omega)
  have h1 : ∀ p, (⟨(colAt h e).val / 128, p⟩ : Fin 8) = h := fun p => Fin.ext (by show (h.val * 128 + e.val) / 128 = h.val; omega)
  have h2 : ∀ p, (⟨(rowAt a i r).val / 256 % 16, p⟩ : Fin 16) = i := fun p => Fin.ext (by show (a.val * 4096 + i.val * 256 + r.val) / 256 % 16 = i.val; omega)
  have h3 : ∀ p, (⟨(rowAt a i r).val % 256, p⟩ : Fin 256) = r := fun p => Fin.ext (by show (a.val * 4096 + i.val * 256 + r.val) % 256 = r.val; omega)
  have h4 : ∀ p, (⟨(colAt h e).val % 128, p⟩ : Fin 128) = e := fun p => Fin.ext (by show (h.val * 128 + e.val) % 128 = e.val; omega)
  have e : ∀ (a' a'' : Fin 2) (h' h'' : Fin 8) (i' i'' : Fin 16) (r' r'' : Fin 256) (e' e'' : Fin 128), a' = a'' → h' = h'' → i' = i'' → r' = r'' → e' = e'' →
      attnAt qr kr kmr v a' h' i' r' e' = attnAt qr kr kmr v a'' h'' i'' r'' e'' := by
    intro a' a'' h' h'' i' i'' r' r'' e' e'' e1 e2 e3 e4 e5
    rw [e1, e2, e3, e4, e5]
  exact e _ _ _ _ _ _ _ _ _ _ (h0 _) (h1 _) (h2 _) (h3 _) (h4 _)

/-- Every place of the array is a named one. -/
theorem place (j : (⟨2, ![8192, 1024]⟩ : Shape).Idx) : ∃ (a : Fin 2) (h : Fin 8) (i : Fin 16) (r : Fin 256) (e : Fin 128),
    j = ix2 (rowAt a i r) (colAt h e) := by
  have h0 : (j 0).val < 8192 := (j 0).isLt
  have h1 : (j 1).val < 1024 := (j 1).isLt
  refine ⟨⟨(j 0).val / 4096, by omega⟩, ⟨(j 1).val / 128, by omega⟩, ⟨(j 0).val / 256 % 16, by omega⟩, ⟨(j 0).val % 256, by omega⟩,
    ⟨(j 1).val % 128, by omega⟩, ?_⟩
  funext x
  match x with
  | ⟨0, _⟩ => exact Fin.ext (by show (j 0).val = (j 0).val / 4096 * 4096 + (j 0).val / 256 % 16 * 256 + (j 0).val % 256; omega)
  | ⟨1, _⟩ => exact Fin.ext (by show (j 1).val = (j 1).val / 128 * 128 + (j 1).val % 128; omega)

end Cert.KernelIdeal.Attn
-- ==== Proof.Output.lean ====
module

public import proofs.«01_k».proof.Proof.HeadsRun
public import proofs.«01_k».proof.Proof.Regroup
public import proofs.«01_k».proof.Proof.Gen.KernelIdeal.Value
public import Idealize.ShloMosaic.Lib.Pipeline.ValueKit

/-!
# The attention kernel's result array

Each grid point writes 256 rows of the result; together they tile it.
-/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pointwise Cert.Attn

/-- The eight stored pieces, read back. -/
theorem pieces_canon (out : Fin 8 → FVec Ideal S256x128 .bf16) (r : Fin 256) (h : Fin 8) (e : Fin 128) :
    View.canon (pieces out) (ix2 r (colAt h e)) = out h (ix2 r e) := by
  have key : ∀ (k : Fin 8) (x : S256x128.Idx), r.val = (x 0).val → h.val * 128 + e.val = 128 * k.val + (x 1).val → (x 1).val < 128 →
      out k x = out h (ix2 r e) := by
    intro k x h0 h1 hlt
    have hk : k = h := Fin.ext (by omega)
    subst hk
    congr 1
    funext a
    match a with
    | ⟨0, _⟩ => exact Fin.ext h0.symm
    | ⟨1, _⟩ => exact Fin.ext (by show (x 1).val = e.val; omega)
  unfold pieces
  canon_tiles x hx
  · exact key 7 x hx0 hx1 x1_lt
  · exact key 6 x hx0 hx1 x1_lt
  · exact key 5 x hx0 hx1 x1_lt
  · exact key 4 x hx0 hx1 x1_lt
  · exact key 3 x hx0 hx1 x1_lt
  · exact key 2 x hx0 hx1 x1_lt
  · exact key 1 x hx0 hx1 x1_lt
  · exact key 0 x hx0 (Eq.trans (show h.val * 128 + e.val = (x 1).val from hx1) (Nat.zero_add _).symm) x1_lt

/-- The queries' block index. -/
theorem index0 : ∀ t : Fin cfg0.N, win0_0.index t = ![(grid0.coords t 0).val * 16 + (grid0.coords t 2).val, 0] :=
  (by decide +kernel : ∀ t : Fin grid0.N, win0_0.index t = ![(grid0.coords t 0).val * 16 + (grid0.coords t 2).val, 0])
/-- The keys' block index. -/
theorem index1 : ∀ t : Fin cfg0.N, win0_1.index t = ![(grid0.coords t 0).val, 0] :=
  (by decide +kernel : ∀ t : Fin grid0.N, win0_1.index t = ![(grid0.coords t 0).val, 0])
/-- The values' block index. -/
theorem index2 : ∀ t : Fin cfg0.N, win0_2.index t = ![(grid0.coords t 0).val, 0] :=
  (by decide +kernel : ∀ t : Fin grid0.N, win0_2.index t = ![(grid0.coords t 0).val, 0])
/-- The block means' block index. -/
theorem index3 : ∀ t : Fin cfg0.N, win0_3.index t = ![(grid0.coords t 0).val, 0, 0] :=
  (by decide +kernel : ∀ t : Fin grid0.N, win0_3.index t = ![(grid0.coords t 0).val, 0, 0])
/-- The result's block index. -/
theorem index4 : ∀ t : Fin cfg0.N, win0_4.index t = ![(grid0.coords t 0).val * 16 + (grid0.coords t 2).val, 0] :=
  (by decide +kernel : ∀ t : Fin grid0.N, win0_4.index t = ![(grid0.coords t 0).val * 16 + (grid0.coords t 2).val, 0])

section row
variable (m : (ℓ : Loc nD τ sig) → Buf (Elt Ideal) ℓ) (c : Dev nD) (t : Fin cfg0.N)

/-- The batch of a grid point. -/
def batchOf (t : Fin cfg0.N) : Fin 2 := ⟨(grid0.coords t 0).val, (grid0.coords t 0).isLt⟩
/-- The query block of a grid point. -/
def blockAt (t : Fin cfg0.N) : Fin 16 := ⟨(grid0.coords t 2).val, (grid0.coords t 2).isLt⟩

/-- A head's queries at a grid point. -/
theorem q_read (h : Fin 8) (r : Fin 256) (d : Fin 128) :
    qSlice (iblk m c 0 t) h (ix2 r d) = m ((c.tc : Thread nD τ).loc main_arg0) (ix2 (rowAt (batchOf t) (blockAt t) r) (colAt h d)) := by
  show iblk m c 0 t (ix2 r (⟨128 * h.val + d.val, by omega⟩ : Fin 1024)) = _
  have e0 : (rowAt (batchOf t) (blockAt t) r).val = (grid0.coords t 0).val * 4096 + (grid0.coords t 2).val * 256 + r.val := rfl
  have e1 : (colAt h d).val = h.val * 128 + d.val := rfl
  blk_ext [iblk, V, index0 t]

/-- A head's keys at a grid point. -/
theorem k_read (h p : Fin 8) (col : Fin 512) (d : Fin 128) :
    kvSlice (iblk m c 1 t) p h (ix2 col d)
      = m ((c.tc : Thread nD τ).loc main_arg1) (ix2 (rowAt (batchOf t) (blockOf p col) ⟨col.val % 256, by omega⟩) (colAt h d)) := by
  show iblk m c 1 t (ix2 (⟨512 * p.val + col.val, by omega⟩ : Fin 4096) (⟨128 * h.val + d.val, by omega⟩ : Fin 1024)) = _
  have e0 : (rowAt (batchOf t) (blockOf p col) ⟨col.val % 256, by omega⟩).val = (grid0.coords t 0).val * 4096 + (2 * p.val + col.val / 256) * 256 + col.val % 256 := rfl
  have e1 : (colAt h d).val = h.val * 128 + d.val := rfl
  blk_ext [iblk, V, index1 t]

/-- A head's values at a grid point. -/
theorem v_read (h p : Fin 8) (col : Fin 512) (d : Fin 128) :
    kvSlice (iblk m c 2 t) p h (ix2 col d)
      = m ((c.tc : Thread nD τ).loc main_arg2) (ix2 (rowAt (batchOf t) (blockOf p col) ⟨col.val % 256, by omega⟩) (colAt h d)) := by
  show iblk m c 2 t (ix2 (⟨512 * p.val + col.val, by omega⟩ : Fin 4096) (⟨128 * h.val + d.val, by omega⟩ : Fin 1024)) = _
  have e0 : (rowAt (batchOf t) (blockOf p col) ⟨col.val % 256, by omega⟩).val = (grid0.coords t 0).val * 4096 + (2 * p.val + col.val / 256) * 256 + col.val % 256 := rfl
  have e1 : (colAt h d).val = h.val * 128 + d.val := rfl
  blk_ext [iblk, V, index2 t]

/-- A head's block means at a grid point. -/
theorem km_read (h : Fin 8) (b : Fin 16) (d : Fin 128) :
    kmSlice (iblk m c 3 t) h (ix3 (0 : Fin 1) b d) = m ((c.tc : Thread nD τ).loc main_arg3) (ix3 (batchOf t) b (colAt h d)) := by
  show iblk m c 3 t (ix3 (0 : Fin 1) b (⟨128 * h.val + d.val, by omega⟩ : Fin 1024)) = _
  have e0 : (batchOf t).val = (grid0.coords t 0).val := rfl
  have e1 : (colAt h d).val = h.val * 128 + d.val := rfl
  blk_ext [iblk, V, index3 t]

variable (qr kr : Rows) (kmr : Means) (hq : ∀ x, m ((c.tc : Thread nD τ).loc main_arg0) x = (qr x : EReal))
  (hk : ∀ x, m ((c.tc : Thread nD τ).loc main_arg1) x = (kr x : EReal)) (hkm : ∀ x, m ((c.tc : Thread nD τ).loc main_arg3) x = (kmr x : EReal))

include hq hk hkm in
/-- A head's output at a grid point is the attention there. -/
theorem head_value (h : Fin 8) (r : Fin 256) (e : Fin 128) :
    headOut (grid0.coords t) (qSlice (iblk m c 0 t) h) (kmSlice (iblk m c 3 t) h) (fun p => kvSlice (iblk m c 1 t) p h) (fun p => kvSlice (iblk m c 2 t) p h) (ix2 r e)
      = attnAt qr kr kmr (m ((c.tc : Thread nD τ).loc main_arg2)) (batchOf t) h (blockAt t) r e := by
  have hg : gateCol (grid0.coords t) (qSlice (iblk m c 0 t) h) (kmSlice (iblk m c 3 t) h) r = attnGate qr kmr (batchOf t) h (blockAt t) r := by
    funext b
    exact gateCol_apply (grid0.coords t) (qSlice (iblk m c 0 t) h) (kmSlice (iblk m c 3 t) h) r
      (fun d => qr (ix2 (rowAt (batchOf t) (blockAt t) r) (colAt h d))) (fun b d => kmr (ix3 (batchOf t) b (colAt h d)))
      (fun d => (q_read m c t h r d).trans (hq _)) (fun b d => (km_read m c t h b d).trans (hkm _)) b
  have hO := headOut_apply (grid0.coords t) (qSlice (iblk m c 0 t) h) (kmSlice (iblk m c 3 t) h) (fun p => kvSlice (iblk m c 1 t) p h)
    (fun p => kvSlice (iblk m c 2 t) p h) r (fun d => qr (ix2 (rowAt (batchOf t) (blockAt t) r) (colAt h d)))
    (fun p col d => kr (ix2 (rowAt (batchOf t) (blockOf p col) ⟨col.val % 256, by omega⟩) (colAt h d)))
    (fun b => by rw [hg]; exact attnGate_ne_bot qr kmr (batchOf t) h (blockAt t) r b)
    (fun d => (q_read m c t h r d).trans (hq _)) (fun p col d => (k_read m c t h p col d).trans (hk _)) e
  rw [hO, hg]
  unfold attnAt rowMean
  have hT := sum_pairs_blocks (fun b s => @weight scl (Seen (attnGate qr kmr (batchOf t) h (blockAt t) r) (blockAt t).val r.val b s.val) (Classical.propDecidable _)
    (attnScore qr kr (batchOf t) h (blockAt t) r b s))
  have hS := sum_pairs_blocks (fun b s => ((@weight scl (Seen (attnGate qr kmr (batchOf t) h (blockAt t) r) (blockAt t).val r.val b s.val) (Classical.propDecidable _)
    (attnScore qr kr (batchOf t) h (blockAt t) r b s) : ℝ) : EReal) * m ((c.tc : Thread nD τ).loc main_arg2) (ix2 (rowAt (batchOf t) b s) (colAt h e)))
  refine congrArg₂ _ ?_ (congrArg (fun W : ℝ => ((1 / W : ℝ) : EReal)) ?_)
  · refine Eq.trans (Finset.sum_congr rfl fun p _ => Finset.sum_congr rfl fun col _ => ?_) hS
    rw [v_read m c t h p col e]
    rfl
  · exact hT

include hq hk hkm in
/-- The result array after the run. -/
theorem final : (dats m 0 c).arrAt 4 cfg0.N = attnArr qr kr kmr (m ((c.tc : Thread nD τ).loc main_arg2)) := by
  refine (dats m 0 c).arrAt_eq_of_covers 4 _ (by decide +kernel) fun t hf y => ?_
  blk_simp
  rw [after0_4]
  have hr : outsAt0 m c t y = View.canon (pieces (fun h => headOut (grid0.coords t) (qSlice (iblk m c 0 t) h) (kmSlice (iblk m c 3 t) h)
      (fun p => kvSlice (iblk m c 1 t) p h) (fun p => kvSlice (iblk m c 2 t) p h))) y := by
    unfold outsAt0 out0_A_4
    rw [View.read_writes_junk_eq_canon, run_pieces]
  have h0 : (y 0).val < 256 := (y 0).isLt
  have h1 : (y 1).val < 1024 := (y 1).isLt
  obtain ⟨r, h, e, hy⟩ : ∃ (r : Fin 256) (h : Fin 8) (e : Fin 128), y = ix2 r (colAt h e) := by
    refine ⟨⟨(y 0).val, h0⟩, ⟨(y 1).val / 128, by omega⟩, ⟨(y 1).val % 128, by omega⟩, ?_⟩
    funext a
    match a with
    | ⟨0, _⟩ => rfl
    | ⟨1, _⟩ => exact Fin.ext (by show (y 1).val = (y 1).val / 128 * 128 + (y 1).val % 128; omega)
  have hp : (win0_4.blk t).view.emb y = ix2 (rowAt (batchOf t) (blockAt t) r) (colAt h e) := by
    subst hy
    have e0 : (rowAt (batchOf t) (blockAt t) r).val = (grid0.coords t 0).val * 4096 + (grid0.coords t 2).val * 256 + r.val := rfl
    blk_ext [index4 t]
  rw [hr, hp, attnArr_at, hy, pieces_canon, head_value m c t qr kr kmr hq hk hkm h r e]

end row
end Cert.KernelIdeal.Attn
-- ==== Proof.RefStages.lean ====
module

public import proofs.«01_k».proof.Proof.Gen.ReferenceIdeal.Run
public import proofs.«01_k».proof.Proof.Select
public import proofs.«01_k».proof.Proof.Mix
public import Idealize.ShloMosaic.Lib.Pointwise
public import Idealize.ShloMosaic.Lib.WordCmp

/-!
# The reference, stage by stage

The reference's result is one long term. Here its stages are named: the arrays split by head and block, the gates, the
choice, the gathered keys and values, the scores, their softmax, and the two weighted sums.
-/

@[expose] public section
set_option maxRecDepth 16384
noncomputable section
namespace Cert.ReferenceIdeal.Attn
open Cert.ReferenceIdeal Cert.ReferenceIdeal.Gen Idealize.ShloMosaic Idealize.ShloMosaic.TcCoe Idealize.SL.Sem
open Idealize.ShloMosaic.Pointwise

/-- An array split by batch-and-head, block and row. -/
def split (x : FVec Ideal S8192x1024 .f32) : FVec Ideal S16x16x256x128 .f32 :=
  shapeCast _ (transpose S2x8x16x256x128 [0, 3, 1, 2, 4] (shapeCast _ x shapeCasts_S8192x1024_S2x16x256x8x128) transposes_S2x16x256x8x128_S2x8x16x256x128_0_3_1_2_4) shapeCasts_S2x8x16x256x128_S16x16x256x128

/-- The block means split by batch-and-head. -/
def splitMeans (x : FVec Ideal S2x16x1024 .f32) : FVec Ideal S16x16x128 .f32 :=
  shapeCast _ (transpose S2x8x16x128 [0, 2, 1, 3] (shapeCast _ x shapeCasts_S2x16x1024_S2x16x8x128) transposes_S2x16x8x128_S2x8x16x128_0_2_1_3) shapeCasts_S2x8x16x128_S16x16x128

/-- The gates. -/
def gates (q : FVec Ideal S16x16x256x128 .f32) (km : FVec Ideal S16x16x128 .f32) : FVec Ideal S16x16x256x16 .f32 :=
  select (broadcastInDim S16x16x256x16 ![0, 1, 2, 3] bcast_S1x16x1x16_S16x16x256x16_0_1_2_3 (cmpi .slt (broadcastInDim S1x16x1x16 ![0, 1, 2, 3] bcast_S1x1x1x16_S1x16x1x16_0_1_2_3 (broadcastInDim S1x1x1x16 ![3] bcast_S16_S1x1x1x16_3 (iotaInDim S16 32 0))) (broadcastInDim S1x16x1x16 ![0, 1, 2, 3] bcast_S1x16x1x1_S1x16x1x16_0_1_2_3 (broadcastInDim S1x16x1x1 ![1] bcast_S16_S1x16x1x1_1 (iotaInDim S16 32 0)))))
    (Host.dotGeneral (F := Ideal) dot_S16x16x256x128_S16x16x128_S16x16x256x16_3_2_12_1_0_0 none q km)
    (broadcastInDim S16x16x256x16 ![] bcast_S_S16x16x256x16 (id (constant (F := Ideal) S_ .f32 0xFF800000#32)))

/-- The chosen blocks' numbers. -/
def chosen (g : FVec Ideal S16x16x256x16 .f32) : IVec S16x16x256x3 32 :=
  (Host.topK S16x16x256x3 3 (FloatOps.cmpfTotal (F := Ideal) (φ := .f32) .gt) g sliceFits_S16x16x256x16_S16x16x256x3).2

/-- Negative numbers count from the end. -/
def wrapped (n : IVec S16x16x256x3 32) : IVec S16x16x256x3 32 :=
  select (cmpi .slt n (broadcastInDim S16x16x256x3 ![] bcast_S_S16x16x256x3 (constantI S_ 32 0#32)))
    (addi n (broadcastInDim S16x16x256x3 ![] bcast_S_S16x16x256x3 (constantI S_ 32 16#32))) n

/-- The chosen blocks' rows. -/
def gathered (x : FVec Ideal S16x16x256x128 .f32) (n : IVec S16x16x256x3 32) : FVec Ideal S16x16x256x3x256x128 .f32 :=
  Host.gather gather_S16x16x256x128_S16x16x256x3x1_S16x16x256x3x256x128_45_1_0_0_1_4_11256128 x
    (broadcastInDim S16x16x256x3x1 ![0, 1, 2, 3] bcast_S16x16x256x3_S16x16x256x3x1_0_1_2_3 n)

/-- The scores with the chosen blocks' keys. -/
def selScores (q : FVec Ideal S16x16x256x128 .f32) (ks : FVec Ideal S16x16x256x3x256x128 .f32) : FVec Ideal S16x16x256x3x256 .f32 :=
  select (broadcastInDim S16x16x256x3x256 ![0, 1, 2, 3, 4] bcast_S1x16x1x3x1_S16x16x256x3x256_0_1_2_3_4 (broadcastInDim S1x16x1x3x1 ![1, 3] bcast_S16x3_S1x16x1x3x1_1_3 (cmpi .slt (broadcastInDim S16x3 ![0, 1] bcast_S1x3_S16x3_0_1 (broadcastInDim S1x3 ![1] bcast_S3_S1x3_1 (iotaInDim S3 32 0))) (broadcastInDim S16x3 ![0, 1] bcast_S16x1_S16x3_0_1 (broadcastInDim S16x1 ![0] bcast_S16_S16x1_0 (iotaInDim S16 32 0))))))
    (mulf (Host.dotGeneral (F := Ideal) dot_S16x16x256x128_S16x16x256x3x256x128_S16x16x256x3x256_3_5_n_34_012_012 none q ks)
      (broadcastInDim S16x16x256x3x256 ![] bcast_S_S16x16x256x3x256 (constant S_ .f32 0x3DB504F3#32)))
    (broadcastInDim S16x16x256x3x256 ![] bcast_S_S16x16x256x3x256 (id (constant (F := Ideal) S_ .f32 0xFF800000#32)))

/-- The scores with the own block's keys. -/
def ownScores (q k : FVec Ideal S16x16x256x128 .f32) : FVec Ideal S16x16x256x256 .f32 :=
  select (broadcastInDim S16x16x256x256 ![2, 3] bcast_S256x256_S16x16x256x256_2_3 (cmpi .sle (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0)))))
    (mulf (Host.dotGeneral (F := Ideal) dot_S16x16x256x128_S16x16x256x128_S16x16x256x256_3_3_2_2_01_01 none q k)
      (broadcastInDim S16x16x256x256 ![] bcast_S_S16x16x256x256 (constant S_ .f32 0x3DB504F3#32)))
    (broadcastInDim S16x16x256x256 ![] bcast_S_S16x16x256x256 (id (constant (F := Ideal) S_ .f32 0xFF800000#32)))

/-- All the scores of a row side by side. -/
def allScores (a : FVec Ideal S16x16x256x3x256 .f32) (b : FVec Ideal S16x16x256x256 .f32) : FVec Ideal S16x16x256x1024 .f32 :=
  concatenate S16x16x256x1024 3 [⟨S16x16x256x768, shapeCast _ a shapeCasts_S16x16x256x3x256_S16x16x256x768⟩, ⟨S16x16x256x256, b⟩] concatenates_S16x16x256x768_S16x16x256x256_S16x16x256x1024_d3

/-- A row's greatest score. -/
def rowMax (s : FVec Ideal S16x16x256x1024 .f32) : FVec Ideal S16x16x256 .f32 :=
  maximumf (broadcastInDim S16x16x256 ![] bcast_S_S16x16x256 (constant (F := Ideal) S_ .f32 0xFF800000#32))
    (Host.reduce FloatOps.maximumf s (constant (F := Ideal) S_ .f32 0xFF800000#32) reducesTo_S16x16x256x1024_S16x16x256_d3 h_S_)

/-- The exponentials relative to the greatest score. -/
def exps (s : FVec Ideal S16x16x256x1024 .f32) (m : FVec Ideal S16x16x256 .f32) : FVec Ideal S16x16x256x1024 .f32 :=
  Host.exp (subf s (broadcastInDim S16x16x256x1024 ![0, 1, 2, 3] bcast_S16x16x256x1_S16x16x256x1024_0_1_2_3 (broadcastInDim S16x16x256x1 ![0, 1, 2] bcast_S16x16x256_S16x16x256x1_0_1_2 m)))

/-- The softmax's weights. -/
def probs (x : FVec Ideal S16x16x256x1024 .f32) : FVec Ideal S16x16x256x1024 .f32 :=
  Host.divf x (broadcastInDim S16x16x256x1024 ![0, 1, 2, 3] bcast_S16x16x256x1_S16x16x256x1024_0_1_2_3 (broadcastInDim S16x16x256x1 ![0, 1, 2] bcast_S16x16x256_S16x16x256x1_0_1_2
    (Host.reduceAdd x (constant (F := Ideal) S_ .f32 0x00000000#32) reducesTo_S16x16x256x1024_S16x16x256_d3 h_S_)))

/-- The weighted sum over the chosen blocks. -/
def selSum (p : FVec Ideal S16x16x256x1024 .f32) (vs : FVec Ideal S16x16x256x3x256x128 .f32) : FVec Ideal S16x16x256x128 .f32 :=
  Host.dotGeneral (F := Ideal) dot_S16x16x256x3x256_S16x16x256x3x256x128_S16x16x256x128_34_34_n_5_012_012 none
    (shapeCast _ (extractStridedSlice S16x16x256x768 ![0, 0, 0, 0] p slices_S16x16x256x1024_S16x16x256x768_0_0_0_0) shapeCasts_S16x16x256x768_S16x16x256x3x256) vs

/-- The weighted sum over the own block. -/
def ownSum (p : FVec Ideal S16x16x256x1024 .f32) (v : FVec Ideal S16x16x256x128 .f32) : FVec Ideal S16x16x256x128 .f32 :=
  Host.dotGeneral (F := Ideal) dot_S16x16x256x256_S16x16x256x128_S16x16x256x128_3_2_2_3_01_01 none
    (extractStridedSlice S16x16x256x256 ![0, 0, 0, 768] p slices_S16x16x256x1024_S16x16x256x256_0_0_0_768) v

/-- The heads side by side again. -/
def joined (x : FVec Ideal S16x16x256x128 .f32) : FVec Ideal S8192x1024 .bf16 :=
  truncf .bf16 (shapeCast _ (transpose S2x16x256x8x128 [0, 2, 3, 1, 4] (shapeCast _ x shapeCasts_S16x16x256x128_S2x8x16x256x128) transposes_S2x8x16x256x128_S2x16x256x8x128_0_2_3_1_4) shapeCasts_S2x16x256x8x128_S8192x1024) bitsLt_bf16_f32

/-- The chosen blocks of every query. -/
def picks (q : FVec Ideal S8192x1024 .f32) (km : FVec Ideal S2x16x1024 .f32) : IVec S16x16x256x3 32 :=
  wrapped (chosen (gates (split q) (splitMeans km)))

/-- The scores of every query. -/
def scores (q : FVec Ideal S8192x1024 .f32) (k : FVec Ideal S8192x1024 .bf16) (km : FVec Ideal S2x16x1024 .f32) : FVec Ideal S16x16x256x1024 .f32 :=
  allScores (selScores (split q) (gathered (split (extf .f32 k bitsLt_bf16_f32)) (picks q km))) (ownScores (split q) (split (extf .f32 k bitsLt_bf16_f32)))

/-- The softmax's weights of every query. -/
def weights (q : FVec Ideal S8192x1024 .f32) (k : FVec Ideal S8192x1024 .bf16) (km : FVec Ideal S2x16x1024 .f32) : FVec Ideal S16x16x256x1024 .f32 :=
  probs (exps (scores q k km) (rowMax (scores q k km)))

/-- The reference's result. -/
def result (q : FVec Ideal S8192x1024 .f32) (k v : FVec Ideal S8192x1024 .bf16) (km : FVec Ideal S2x16x1024 .f32) : FVec Ideal S8192x1024 .bf16 :=
  joined (addf (selSum (weights q k km) (gathered (split (extf .f32 v bitsLt_bf16_f32)) (picks q km))) (ownSum (weights q k km) (split (extf .f32 v bitsLt_bf16_f32))))

set_option maxHeartbeats 4000000 in
/-- The generated term is those stages. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) := rfl

end Cert.ReferenceIdeal.Attn
-- ==== Proof.RefReads.lean ====
module

public import proofs.«01_k».proof.Proof.RefStages

/-!
# The reference's stages, read at an index
-/

@[expose] public section
set_option maxRecDepth 16384
noncomputable section
namespace Cert.ReferenceIdeal.Attn
open Cert.ReferenceIdeal Cert.ReferenceIdeal.Gen Idealize.ShloMosaic Idealize.ShloMosaic.TcCoe Idealize.SL.Sem
open Idealize.ShloMosaic.Pointwise
open Idealize.ShloMosaic.WordCmp (cmpi_eq_ofNat cmpi_slt_ofNat cmpi_sgt_ofNat cmpi_sge_ofNat cmpi_sgt_eq select_decide)
open Cert.Attn (ranked gateBefore)

/-- The bit pattern of −∞. -/
theorem bits_bot : Ideal.ofBits .f32 0xFF800000#32 = (⊥ : EReal) := by
  simp [Ideal.ofBits, Ideal.ieee]

/-- The reference's scale. -/
theorem bits_scale : Ideal.ofBits .f32 0x3DB504F3#32 = ((11863283 / 134217728 : ℝ) : EReal) := by
  simp [Ideal.ofBits, Ideal.ieee]
  rw [← EReal.coe_mul]
  norm_num

/-- A head's rows, one block at a time. -/
theorem split_apply (x : FVec Ideal S8192x1024 .f32) (n b : Fin 16) (r : Fin 256) (d : Fin 128) :
    split x (ix4 n b r d) = x (ix2 ⟨n.val / 8 * 4096 + b.val * 256 + r.val, by omega⟩ ⟨n.val % 8 * 128 + d.val, by omega⟩) := by
  pointwise [split]

/-- A head's block means. -/
theorem splitMeans_apply (x : FVec Ideal S2x16x1024 .f32) (n b : Fin 16) (d : Fin 128) :
    splitMeans x (ix3 n b d) = x (ix3 ⟨n.val / 8, by omega⟩ b ⟨n.val % 8 * 128 + d.val, by omega⟩) := by
  pointwise [splitMeans]

/-- A query against a block mean, where the block is past. -/
theorem gates_apply (q : FVec Ideal S16x16x256x128 .f32) (km : FVec Ideal S16x16x128 .f32) (n i : Fin 16) (r : Fin 256) (b : Fin 16) :
    gates q km (ix4 n i r b) = if b.val < i.val then ∑ d, q (ix4 n i r d) * km (ix3 n b d) else ⊥ := by
  pointwise [gates]
  rw [cmpi_slt_ofNat (by omega) (by omega), select_decide]
  exact if_congr Iff.rfl rfl bits_bot

/-- A query against a chosen block's key. -/
theorem selScores_apply (q : FVec Ideal S16x16x256x128 .f32) (ks : FVec Ideal S16x16x256x3x256x128 .f32) (n i : Fin 16) (r : Fin 256)
    (j : Fin 3) (t : Fin 256) : selScores q ks (ix5 n i r j t)
      = if j.val < i.val then (∑ d, q (ix4 n i r d) * ks (ix6 n i r j t d)) * ((11863283 / 134217728 : ℝ) : EReal) else ⊥ := by
  pointwise [selScores]
  rw [cmpi_slt_ofNat (by omega) (by omega), select_decide]
  exact if_congr Iff.rfl (congrArg _ bits_scale) bits_bot

/-- A query against its own block's key. -/
theorem ownScores_apply (q k : FVec Ideal S16x16x256x128 .f32) (n i : Fin 16) (r t : Fin 256) :
    ownScores q k (ix4 n i r t)
      = if t.val ≤ r.val then (∑ d, q (ix4 n i r d) * k (ix4 n i t d)) * ((11863283 / 134217728 : ℝ) : EReal) else ⊥ := by
  pointwise [ownScores]
  rw [show IntOp.cmpi .sle (BitVec.ofNat 32 t.val) (BitVec.ofNat 32 r.val) = BitVec.ofBool (decide (t.val ≤ r.val)) from ?_, select_decide]
  · exact if_congr Iff.rfl (congrArg _ bits_scale) bits_bot
  · unfold IntOp.cmpi
    congr 1
    have ht : (BitVec.ofNat 32 t.val).toInt = t.val := by
      rw [BitVec.toInt_eq_toNat_of_lt (by rw [BitVec.toNat_ofNat]; omega), BitVec.toNat_ofNat]; omega
    have hr : (BitVec.ofNat 32 r.val).toInt = r.val := by
      rw [BitVec.toInt_eq_toNat_of_lt (by rw [BitVec.toNat_ofNat]; omega), BitVec.toNat_ofNat]; omega
    show BitVec.sle _ _ = _
    unfold BitVec.sle
    rw [ht, hr]
    exact decide_eq_decide.mpr Int.ofNat_le

/-- The chosen scores, then the own ones. -/
theorem allScores_apply (a : FVec Ideal S16x16x256x3x256 .f32) (b : FVec Ideal S16x16x256x256 .f32) (n i : Fin 16) (r : Fin 256) (t : Fin 1024) :
    allScores a b (ix4 n i r t) = if h : t.val < 768 then a (ix5 n i r ⟨t.val / 256, by omega⟩ ⟨t.val % 256, by omega⟩)
      else b (ix4 n i r ⟨t.val - 768, by omega⟩) := by
  pointwise [allScores]

/-- The exponential of a score less the row maximum. -/
theorem exps_apply (s : FVec Ideal S16x16x256x1024 .f32) (m : FVec Ideal S16x16x256 .f32) (n i : Fin 16) (r : Fin 256) (t : Fin 1024) :
    exps s m (ix4 n i r t) = Ideal.exp (s (ix4 n i r t) - m (ix3 n i r)) := by
  pointwise [exps]

/-- A row's probability. -/
theorem probs_apply (x : FVec Ideal S16x16x256x1024 .f32) (n i : Fin 16) (r : Fin 256) (t : Fin 1024) :
    probs x (ix4 n i r t) = Ideal.div (x (ix4 n i r t)) (∑ u : Fin 1024, x (ix4 n i r u)) := by
  pointwise [probs]

/-- The sum over the chosen blocks. -/
theorem selSum_apply (p : FVec Ideal S16x16x256x1024 .f32) (v : FVec Ideal S16x16x256x3x256x128 .f32) (n i : Fin 16) (r : Fin 256) (e : Fin 128) :
    selSum p v (ix4 n i r e) = ∑ j : Fin 3, ∑ t : Fin 256, p (ix4 n i r ⟨j.val * 256 + t.val, by omega⟩) * v (ix6 n i r j t e) := by
  pointwise [selSum]

/-- The sum over the own block. -/
theorem ownSum_apply (p : FVec Ideal S16x16x256x1024 .f32) (v : FVec Ideal S16x16x256x128 .f32) (n i : Fin 16) (r : Fin 256) (e : Fin 128) :
    ownSum p v (ix4 n i r e) = ∑ t : Fin 256, p (ix4 n i r ⟨768 + t.val, by omega⟩) * v (ix4 n i t e) := by
  pointwise [ownSum]

/-- The two sums, added and put back in place. -/
theorem joined_apply (x : FVec Ideal S16x16x256x128 .f32) (n : Fin 8192) (t : Fin 1024) :
    joined x (ix2 n t) = x (ix4 ⟨n.val / 4096 * 8 + t.val / 128, by omega⟩ ⟨n.val / 256 % 16, by omega⟩ ⟨n.val % 256, by omega⟩ ⟨t.val % 128, by omega⟩) := by
  pointwise [joined]

/-- A maximum at an index. -/
theorem max_apply (R : FVec Ideal S16x16x256 .f32) (n i : Fin 16) (r : Fin 256) :
    maximumf (broadcastInDim S16x16x256 ![] bcast_S_S16x16x256 (constant (F := Ideal) S_ .f32 0xFF800000#32)) R (ix3 n i r) = R (ix3 n i r) := by
  pointwise
  rw [show Ideal.ofBits FTy.f32 4286578688#32 = (⊥ : EReal) from bits_bot]
  exact max_eq_right bot_le

/-- A row's greatest score is real, where no score is `⊤` and one of the row is not `⊥`. -/
theorem rowMax_real (s : FVec Ideal S16x16x256x1024 .f32) (hs : ∀ i, s i ≠ ⊤) (n i : Fin 16) (r : Fin 256) (t : Fin 1024)
    (ht : s (ix4 n i r t) ≠ ⊥) : ∃ m : ℝ, rowMax s (ix3 n i r) = (m : EReal) := by
  have hm : reducesTo_S16x16x256x1024_S16x16x256_d3.drop (ix4 n i r t) = ix3 n i r := by
    funext a
    match a with
    | ⟨0, _⟩ => rfl
    | ⟨1, _⟩ => rfl
    | ⟨2, _⟩ => rfl
  unfold rowMax
  rw [max_apply, Host.reduce_eq_fold]
  generalize hu : constant (F := Ideal) S_ .f32 0xFF800000#32 (Shape.Idx.first h_S_) = u
  have hu' : u = (⊥ : EReal) := hu.symm.trans bits_bot
  subst hu'
  refine Cert.Attn.fold_max_real _ s (fun x _ => hs x) (ix4 n i r t) ?_ ht
  exact Finset.mem_filter.mpr ⟨Finset.mem_univ _, hm⟩

/-- The gathered rows are the rows of the block whose number is given. -/
theorem gathered_apply (x : FVec Ideal S16x16x256x128 .f32) (w : IVec S16x16x256x3 32) (n i : Fin 16) (r : Fin 256) (j : Fin 3)
    (t : Fin 256) (e : Fin 128) :
    gathered x w (ix6 n i r j t e) = x (ix4 n ⟨min (w (ix4 n i r j)).toInt.toNat 15, by omega⟩ t e) := by
  unfold gathered Host.gather
  congr 1
  funext a
  refine Fin.ext ?_
  generalize hD : gather_S16x16x256x128_S16x16x256x3x1_S16x16x256x3x256x128_45_1_0_0_1_4_11256128 = D
  generalize hW : (broadcastInDim S16x16x256x3x1 ![0, 1, 2, 3] bcast_S16x16x256x3_S16x16x256x3x1_0_1_2_3 w) = W
  show D.start (ix6 n i r j t e) W a + D.batchCoord (ix6 n i r j t e) a + D.offCoord (ix6 n i r j t e) a = _
  subst hD
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 4) ∈ gather_S16x16x256x128_S16x16x256x3x1_S16x16x256x3x256x128_45_1_0_0_1_4_11256128.operandBatchingDims from List.mem_singleton.mpr rfl)]
    rfl
  · rw [GatherDims.batchCoord_eq_zero _ _ _ (show (1 : Fin 4) ∉ gather_S16x16x256x128_S16x16x256x3x1_S16x16x256x3x256x128_45_1_0_0_1_4_11256128.operandBatchingDims from (by decide : (1 : Fin 4) ∉ [(0 : Fin 4)])),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S16x16x256x128_S16x16x256x3x1_S16x16x256x3x256x128_45_1_0_0_1_4_11256128.startIndexMap from List.mem_singleton.mpr rfl)]
    have hsi : gather_S16x16x256x128_S16x16x256x3x1_S16x16x256x3x256x128_45_1_0_0_1_4_11256128.siIdx (ix6 n i r j t e)
        ⟨List.idxOf (1 : Fin 4) gather_S16x16x256x128_S16x16x256x3x1_S16x16x256x3x256x128_45_1_0_0_1_4_11256128.startIndexMap, List.idxOf_lt_length_iff.2 (List.mem_singleton.mpr rfl)⟩ = ix5 n i r j 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    have hw : W (ix5 n i r j 0) = w (ix4 n i r j) := by
      rw [← hW]
      pointwise
    rw [hw]
    rfl
  · rw [GatherDims.batchCoord_eq_zero _ _ _ (show (2 : Fin 4) ∉ gather_S16x16x256x128_S16x16x256x3x1_S16x16x256x3x256x128_45_1_0_0_1_4_11256128.operandBatchingDims from (by decide : (2 : Fin 4) ∉ [(0 : Fin 4)]))]
    unfold GatherDims.start
    rw [dif_neg (show (2 : Fin 4) ∉ gather_S16x16x256x128_S16x16x256x3x1_S16x16x256x3x256x128_45_1_0_0_1_4_11256128.startIndexMap from (by decide : (2 : Fin 4) ∉ [(1 : Fin 4)]))]
    simp only [Nat.zero_add, Nat.add_zero]
    rfl
  · rw [GatherDims.batchCoord_eq_zero _ _ _ (show (3 : Fin 4) ∉ gather_S16x16x256x128_S16x16x256x3x1_S16x16x256x3x256x128_45_1_0_0_1_4_11256128.operandBatchingDims from (by decide : (3 : Fin 4) ∉ [(0 : Fin 4)]))]
    unfold GatherDims.start
    rw [dif_neg (show (3 : Fin 4) ∉ gather_S16x16x256x128_S16x16x256x3x1_S16x16x256x3x256x128_45_1_0_0_1_4_11256128.startIndexMap from (by decide : (3 : Fin 4) ∉ [(1 : Fin 4)]))]
    simp only [Nat.zero_add, Nat.add_zero]
    rfl

/-- A sort carrying a second operand, read at an index. -/
theorem sort2_apply {α β : Type} (s : Shape) (d : ℕ) (hd : d < s.rank) (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

/-- A counter at an index. -/
theorem iota_apply (n i : Fin 16) (r : Fin 256) (k : Fin 16) : iotaInDim S16x16x256x16 32 3 (ix4 n i r k) = BitVec.ofNat 32 k.val := by
  pointwise

/-- The `j`-th chosen block is the one at place `j` of the sorted order. -/
theorem chosen_apply (g : FVec Ideal S16x16x256x16 .f32) (n i : Fin 16) (r : Fin 256) (j : Fin 3) :
    chosen g (ix4 n i r j) = BitVec.ofNat 32 (ranked (fun a => g (ix4 n i r a)) (j.castLE (by decide))).val := by
  have hal : ∀ k : Fin 16, (ix4 n i r (j.castLE (by decide) : Fin 16) : S16x16x256x16.Idx).along 3 k = ix4 n i r k := by
    intro k; funext a
    match a with
    | ⟨0, _⟩ => rfl
    | ⟨1, _⟩ => rfl
    | ⟨2, _⟩ => rfl
    | ⟨3, _⟩ => rfl
  have h : chosen g (ix4 n i r j) = (Host.sort2 S16x16x256x16 3 (fun l r => FloatOps.cmpfTotal (F := Ideal) (φ := .f32) .gt l.1 r.1) g
      (fun i : S16x16x256x16.Idx => iotaInDim S16x16x256x16 32 3 i)).2 (ix4 n i r (j.castLE (by decide) : Fin 16)) := by
    unfold chosen Host.topK
    refine congrArg (Host.sort2 S16x16x256x16 3 (fun l r => FloatOps.cmpfTotal (F := Ideal) (φ := .f32) .gt l.1 r.1) g
      (fun i : S16x16x256x16.Idx => iotaInDim S16x16x256x16 32 3 i)).2 ?_
    funext a; refine Fin.ext ?_
    match a with
    | ⟨0, _⟩ => exact Nat.zero_add _
    | ⟨1, _⟩ => exact Nat.zero_add _
    | ⟨2, _⟩ => exact Nat.zero_add _
    | ⟨3, _⟩ => exact Nat.zero_add _
  rw [h, sort2_apply (hd := by decide)]
  have hb : (fun k k' : Fin 16 => FloatOps.cmpfTotal (F := Ideal) (φ := .f32) .gt (g ((ix4 n i r (j.castLE (by decide) : Fin 16) : S16x16x256x16.Idx).along 3 k))
      (g ((ix4 n i r (j.castLE (by decide) : Fin 16) : S16x16x256x16.Idx).along 3 k')) == 1#1)
      = gateBefore fun a => g (ix4 n i r a) := by
    funext k k'
    rw [hal, hal]
    show (BitVec.ofBool (decide (g (ix4 n i r k') < g (ix4 n i r k))) == 1#1) = decide (g (ix4 n i r k') < g (ix4 n i r k))
    cases decide (g (ix4 n i r k') < g (ix4 n i r k)) <;> rfl
  refine (congrArg (fun f : Fin 16 → Fin 16 → Bool => iotaInDim S16x16x256x16 32 3 ((ix4 n i r (j.castLE (by decide) : Fin 16) : S16x16x256x16.Idx).along 3
    (sortedFrom f (j.castLE (by decide) : Fin 16)))) hb).trans ?_
  beta_reduce
  refine (congrArg (iotaInDim S16x16x256x16 32 3) (hal _)).trans ?_
  exact iota_apply n i r (ranked (fun a => g (ix4 n i r a)) (j.castLE (by decide)))

/-- A block's number is not below zero, so it stays as it is. -/
theorem wrapped_apply (w : IVec S16x16x256x3 32) (n i : Fin 16) (r : Fin 256) (j : Fin 3) (k : Fin 16)
    (h : w (ix4 n i r j) = BitVec.ofNat 32 k.val) : wrapped w (ix4 n i r j) = BitVec.ofNat 32 k.val := by
  pointwise [wrapped]
  rw [h]
  fin_cases k <;> rfl

/-- The gathered rows, where the block's number is known. -/
theorem gathered_of (x : FVec Ideal S16x16x256x128 .f32) (w : IVec S16x16x256x3 32) (n i : Fin 16) (r : Fin 256) (j : Fin 3)
    (t : Fin 256) (e : Fin 128) (b : Fin 16) (h : w (ix4 n i r j) = BitVec.ofNat 32 b.val) :
    gathered x w (ix6 n i r j t e) = x (ix4 n b t e) := by
  rw [gathered_apply]
  refine congrArg (fun b : Fin 16 => x (ix4 n b t e)) (Fin.ext ?_)
  show min (w (ix4 n i r j)).toInt.toNat 15 = b.val
  rw [h, BitVec.toInt_eq_toNat_of_lt (by rw [BitVec.toNat_ofNat]; omega), BitVec.toNat_ofNat]
  omega

/-- A sum of arrays at an index. -/
theorem addf_apply (x y : FVec Ideal S16x16x256x128 .f32) (j : S16x16x256x128.Idx) : addf x y j = x j + y j := rfl

/-- Every index is its coordinates. -/
theorem idx_coords (x : S16x16x256x1024.Idx) : ∃ (n i : Fin 16) (r : Fin 256) (u : Fin 1024), x = ix4 n i r u := by
  refine ⟨x 0, x 1, x 2, x 3, ?_⟩
  funext a
  match a with
  | ⟨0, _⟩ => rfl
  | ⟨1, _⟩ => rfl
  | ⟨2, _⟩ => rfl
  | ⟨3, _⟩ => rfl

end Cert.ReferenceIdeal.Attn
-- ==== Proof.RefRow.lean ====
module

public import proofs.«01_k».proof.Proof.RefReads
public import proofs.«01_k».proof.Proof.Regroup

/-!
# The reference's result at an index

Where the queries, the keys and the block means are real, the reference's result is each query's weighted mean of the
values, the weights the exponentials of the scaled scores.
-/

@[expose] public section
set_option maxRecDepth 16384
noncomputable section
namespace Cert.ReferenceIdeal.Attn
open Cert.ReferenceIdeal Cert.ReferenceIdeal.Gen Idealize.ShloMosaic Idealize.ShloMosaic.TcCoe Idealize.SL.Sem
open Idealize.ShloMosaic.Pointwise
open Cert.Attn (ranked gateBefore weight coe_sum exp_score sum_div ranked_lt)
open Cert.KernelIdeal.Attn (scl Seen rowAt colAt Rows Means attnGate attnScore attnAt attnGate_ne_bot keyBlock keySeen sum_row total_row
  rowTotal rowMean sum_keys)

section row
variable (q : FVec Ideal S8192x1024 .f32) (k v : FVec Ideal S8192x1024 .bf16) (km : FVec Ideal S2x16x1024 .f32)
  (qr kr : Rows) (kmr : Means) (hq : ∀ x, q x = (qr x : EReal)) (hk : ∀ x, k x = (kr x : EReal)) (hkm : ∀ x, km x = (kmr x : EReal))
  (n i : Fin 16) (r : Fin 256)

/-- The batch of a batch-and-head. -/
abbrev batch (n : Fin 16) : Fin 2 := ⟨n.val / 8, by omega⟩
/-- The head of a batch-and-head. -/
abbrev head (n : Fin 16) : Fin 8 := ⟨n.val % 8, by omega⟩

/-- The split keys are the keys. -/
theorem split_wide (b : Fin 16) (t : Fin 256) (d : Fin 128) :
    split (extf .f32 k bitsLt_bf16_f32) (ix4 n b t d) = k (ix2 (rowAt (batch n) b t) (colAt (head n) d)) := by
  rw [split_apply]
  rfl

include hq hkm in
/-- The gates. -/
theorem gates_row (b : Fin 16) : gates (split q) (splitMeans km) (ix4 n i r b) = attnGate qr kmr (batch n) (head n) i r b := by
  rw [gates_apply]
  unfold attnGate
  refine if_congr Iff.rfl ?_ rfl
  rw [coe_sum]
  refine Finset.sum_congr rfl fun d _ => ?_
  rw [split_apply, splitMeans_apply, hq, hkm, EReal.coe_mul, mul_comm]
  rfl

include hq hkm in
/-- The chosen block's number. -/
theorem picks_row (j : Fin 3) : picks q km (ix4 n i r j)
    = BitVec.ofNat 32 (ranked (attnGate qr kmr (batch n) (head n) i r) (j.castLE (by decide))).val := by
  unfold picks
  refine wrapped_apply _ n i r j _ ?_
  rw [chosen_apply]
  exact congrArg (fun G : Fin 16 → EReal => BitVec.ofNat 32 (ranked G (j.castLE (by decide))).val) (funext fun b => gates_row q km qr kmr hq hkm n i r b)

include hq hkm in
/-- The gathered rows. -/
theorem gathered_row (x : FVec Ideal S16x16x256x128 .f32) (j : Fin 3) (t : Fin 256) (e : Fin 128) :
    gathered x (picks q km) (ix6 n i r j t e)
      = x (ix4 n (ranked (attnGate qr kmr (batch n) (head n) i r) (j.castLE (by decide))) t e) :=
  gathered_of x _ n i r j t e _ (picks_row q km qr kmr hq hkm n i r j)

include hq hk in
/-- A query's product with a key. -/
theorem dot_row (b : Fin 16) (t : Fin 256) :
    (∑ d, split q (ix4 n i r d) * split (extf .f32 k bitsLt_bf16_f32) (ix4 n b t d)) = (attnScore qr kr (batch n) (head n) i r b t : EReal) := by
  unfold attnScore
  rw [coe_sum]
  refine Finset.sum_congr rfl fun d _ => ?_
  rw [split_apply, split_wide, hq, hk, EReal.coe_mul]
  rfl

include hq hk hkm in
open Classical in
/-- A score. -/
theorem scores_row (u : Fin 1024) : scores q k km (ix4 n i r u)
    = if keySeen i r.val u then ((attnScore qr kr (batch n) (head n) i r (keyBlock (attnGate qr kmr (batch n) (head n) i r) i u) ⟨u.val % 256, by omega⟩ * scl : ℝ) : EReal) else ⊥ := by
  unfold scores
  rw [allScores_apply]
  unfold keySeen keyBlock
  split
  · next h =>
    rw [selScores_apply]
    refine if_congr Iff.rfl ?_ rfl
    rw [EReal.coe_mul, ← dot_row q k qr kr hq hk]
    refine congrArg₂ _ (Finset.sum_congr rfl fun d _ => ?_) rfl
    rw [gathered_row q km qr kmr hq hkm]
    rfl
  · next h =>
    rw [ownScores_apply]
    refine if_congr Iff.rfl ?_ rfl
    rw [EReal.coe_mul, ← dot_row q k qr kr hq hk]
    have ht : (⟨u.val - 768, by omega⟩ : Fin 256) = ⟨u.val % 256, by omega⟩ := Fin.ext (by show u.val - 768 = u.val % 256; omega)
    rw [ht]
    rfl

include hq hk hkm in
/-- No score is `⊤`. -/
theorem scores_ne_top (x : S16x16x256x1024.Idx) : scores q k km x ≠ ⊤ := by
  classical
  obtain ⟨n, i, r, u, rfl⟩ := idx_coords x
  rw [scores_row q k km qr kr kmr hq hk hkm]
  split
  · exact EReal.coe_ne_top _
  · exact bot_ne_top

include hq hk hkm in
open Classical in
/-- The softmax's weights. -/
theorem weights_row : ∃ c : ℝ, 0 < c ∧ ∀ u : Fin 1024, weights q k km (ix4 n i r u)
    = Ideal.div ((weight scl (keySeen i r.val u) (attnScore qr kr (batch n) (head n) i r (keyBlock (attnGate qr kmr (batch n) (head n) i r) i u) ⟨u.val % 256, by omega⟩) * c : ℝ) : EReal)
      ((rowTotal (attnGate qr kmr (batch n) (head n) i r) i.val r.val (attnScore qr kr (batch n) (head n) i r) * c : ℝ) : EReal) := by
  obtain ⟨m, hm⟩ := rowMax_real (scores q k km) (scores_ne_top q k km qr kr kmr hq hk hkm) n i r ⟨768, by omega⟩ (by
    rw [scores_row q k km qr kr kmr hq hk hkm, if_pos]
    · exact EReal.coe_ne_bot _
    · unfold keySeen
      rw [if_neg (show ¬ 768 < 768 by omega)]
      exact Nat.zero_le _)
  have he : ∀ u : Fin 1024, exps (scores q k km) (rowMax (scores q k km)) (ix4 n i r u)
      = ((weight scl (keySeen i r.val u) (attnScore qr kr (batch n) (head n) i r (keyBlock (attnGate qr kmr (batch n) (head n) i r) i u) ⟨u.val % 256, by omega⟩) * Real.exp (-m) : ℝ) : EReal) := by
    intro u
    rw [exps_apply, hm, scores_row q k km qr kr kmr hq hk hkm, exp_score]
  refine ⟨Real.exp (-m), Real.exp_pos _, fun u => ?_⟩
  unfold weights
  rw [probs_apply, he u]
  refine congrArg₂ Ideal.div rfl ?_
  rw [Finset.sum_congr rfl fun u _ => he u, ← coe_sum, ← Finset.sum_mul,
    total_row _ i r.val (attnGate_ne_bot qr kmr (batch n) (head n) i r)]

include hq hk hkm in
/-- The attention of a query, before the heads are joined. -/
theorem attn_row (hW : 0 < rowTotal (attnGate qr kmr (batch n) (head n) i r) i.val r.val (attnScore qr kr (batch n) (head n) i r)) (e : Fin 128) :
    addf (selSum (weights q k km) (gathered (split (extf .f32 v bitsLt_bf16_f32)) (picks q km))) (ownSum (weights q k km) (split (extf .f32 v bitsLt_bf16_f32))) (ix4 n i r e)
      = attnAt qr kr kmr v (batch n) (head n) i r e := by
  classical
  obtain ⟨c, hc, hw⟩ := weights_row q k km qr kr kmr hq hk hkm n i r
  rw [addf_apply, selSum_apply, ownSum_apply]
  have hg := fun x => gathered_row q km qr kmr hq hkm n i r x
  have hG := attnGate_ne_bot qr kmr (batch n) (head n) i r
  unfold attnAt
  generalize attnGate qr kmr (batch n) (head n) i r = G at *
  generalize attnScore qr kr (batch n) (head n) i r = S at *
  generalize picks q km = P at *
  generalize weights q k km = W at *
  have hkeys := sum_keys (fun u : Fin 1024 => W (ix4 n i r u) * v (ix2 (rowAt (batch n) (keyBlock G i u) ⟨u.val % 256, by omega⟩) (colAt (head n) e)))
  have hw' : ∀ u : Fin 1024, W (ix4 n i r u) * v (ix2 (rowAt (batch n) (keyBlock G i u) ⟨u.val % 256, by omega⟩) (colAt (head n) e))
      = Ideal.div ((weight scl (keySeen i r.val u) (S (keyBlock G i u) ⟨u.val % 256, by omega⟩) * c : ℝ) : EReal) ((rowTotal G i.val r.val S * c : ℝ) : EReal)
        * v (ix2 (rowAt (batch n) (keyBlock G i u) ⟨u.val % 256, by omega⟩) (colAt (head n) e)) := fun u => by rw [hw u]
  have hsum : (∑ u : Fin 1024, W (ix4 n i r u) * v (ix2 (rowAt (batch n) (keyBlock G i u) ⟨u.val % 256, by omega⟩) (colAt (head n) e)))
      = rowMean G i.val r.val S (fun b t => v (ix2 (rowAt (batch n) b t) (colAt (head n) e))) := by
    rw [Finset.sum_congr rfl fun u _ => hw' u, sum_div _ _ c _ hc hW]
    unfold rowMean
    rw [← sum_row G i r.val hG S (fun b t => v (ix2 (rowAt (batch n) b t) (colAt (head n) e)))]
  rw [← hsum, hkeys]
  refine congrArg₂ _ (Finset.sum_congr rfl fun j _ => Finset.sum_congr rfl fun t _ => ?_) (Finset.sum_congr rfl fun t _ => ?_)
  · refine congrArg₂ _ rfl ?_
    rw [hg, split_wide]
    have hb : keyBlock G i ⟨j.val * 256 + t.val, by omega⟩ = ranked G (j.castLE (by decide)) := by
      unfold keyBlock
      rw [dif_pos (show j.val * 256 + t.val < 768 by omega)]
      exact congrArg _ (Fin.ext (show (j.val * 256 + t.val) / 256 = j.val by omega))
    rw [hb]
    refine congrArg (fun t : Fin 256 => v (ix2 (rowAt (batch n) (ranked G (j.castLE (by decide))) t) (colAt (head n) e))) (Fin.ext ?_)
    show t.val = (j.val * 256 + t.val) % 256
    omega
  · refine congrArg₂ _ rfl ?_
    rw [split_wide]
    have hb : keyBlock G i ⟨768 + t.val, by omega⟩ = i := by
      unfold keyBlock
      rw [dif_neg (show ¬ 768 + t.val < 768 by omega)]
    rw [hb]
    refine congrArg (fun t : Fin 256 => v (ix2 (rowAt (batch n) i t) (colAt (head n) e))) (Fin.ext ?_)
    show t.val = (768 + t.val) % 256
    omega

end row

/-- The reference's result at an index. -/
theorem result_apply (q : FVec Ideal S8192x1024 .f32) (k v : FVec Ideal S8192x1024 .bf16) (km : FVec Ideal S2x16x1024 .f32)
    (qr kr : Rows) (kmr : Means) (hq : ∀ x, q x = (qr x : EReal)) (hk : ∀ x, k x = (kr x : EReal)) (hkm : ∀ x, km x = (kmr x : EReal))
    (hW : ∀ a h i r, 0 < rowTotal (attnGate qr kmr a h i r) i.val r.val (attnScore qr kr a h i r))
    (a : Fin 2) (h : Fin 8) (i : Fin 16) (r : Fin 256) (e : Fin 128) :
    result q k v km (ix2 (rowAt a i r) (colAt h e)) = attnAt qr kr kmr v a h i r e := by
  unfold result
  rw [joined_apply]
  have h0 : (⟨(rowAt a i r).val / 4096 * 8 + (colAt h e).val / 128, by omega⟩ : Fin 16) = ⟨a.val * 8 + h.val, by omega⟩ :=
    Fin.ext (by show (a.val * 4096 + i.val * 256 + r.val) / 4096 * 8 + (h.val * 128 + e.val) / 128 = a.val * 8 + h.val; omega)
  have h1 : (⟨(rowAt a i r).val / 256 % 16, by omega⟩ : Fin 16) = i :=
    Fin.ext (by show (a.val * 4096 + i.val * 256 + r.val) / 256 % 16 = i.val; omega)
  have h2 : (⟨(rowAt a i r).val % 256, by omega⟩ : Fin 256) = r :=
    Fin.ext (by show (a.val * 4096 + i.val * 256 + r.val) % 256 = r.val; omega)
  have h3 : (⟨(colAt h e).val % 128, by omega⟩ : Fin 128) = e :=
    Fin.ext (by show (h.val * 128 + e.val) % 128 = e.val; omega)
  rw [h0, h1, h2, h3, attn_row q k v km qr kr kmr hq hk hkm _ i r (hW _ _ _ _)]
  have e0 : batch ⟨a.val * 8 + h.val, by omega⟩ = a := Fin.ext (by show (a.val * 8 + h.val) / 8 = a.val; omega)
  have e1 : head ⟨a.val * 8 + h.val, by omega⟩ = h := Fin.ext (by show (a.val * 8 + h.val) % 8 = h.val; omega)
  rw [e0, e1]

end Cert.ReferenceIdeal.Attn
-- ==== Proof.Finite.lean ====
module

public import proofs.«01_k».proof.Defs
public import Idealize.ShloMosaic.Lib.ReduceAll
public import Idealize.ShloMosaic.Lib.Affine

/-!
# The precondition, element by element

The precondition asks that the queries, the keys and the block means be finite.
-/

@[expose] public section
noncomputable section
namespace Cert.Pre_finite
open Idealize.ShloMosaic Idealize.ShloMosaic.IntOp

/-- The side conditions of the precondition's operations. -/
theorem gen_facts : Facts where
  bcast_S_S8192x1024 := by decide
  reducesTo_S8192x1024_S_d0_1 := by decide
  h_S_ := by decide
  bitsLt_bf16_f32 := by decide
  bcast_S_S2x16x1024 := by decide
  reducesTo_S2x16x1024_S_d0_1_2 := by decide

variable [Facts]

/-- An extended real whose absolute value compares below infinity is a real number. -/
theorem real_of_lt (x : EReal) (h : FloatOps.cmpf (F := Ideal) (φ := .f32) .olt (FloatOps.hostAbsf (F := Ideal) (φ := .f32) x) (FloatOps.ofBits (F := Ideal) .f32 0x7F800000#32) = 1#1) :
    x = ((EReal.toReal x : ℝ) : EReal) := by
  have htop : Ideal.ofBits .f32 0x7F800000#32 = (⊤ : EReal) := by simp [Ideal.ofBits, Ideal.ieee]
  have hc : Ideal.cmp .olt (max x (-x)) (⊤ : EReal) = 1#1 := by rw [← htop]; exact h
  have hl : max x (-x) < ⊤ := by
    by_contra hn
    unfold Ideal.cmp at hc
    simp [hn] at hc
  rw [max_lt_iff] at hl
  refine (EReal.coe_toReal hl.1.ne fun hb => ?_).symm
  rw [hb] at hl
  simp at hl

/-- Where the precondition holds, the three arrays are of real numbers. -/
theorem reals (q : FVec Ideal S8192x1024 .f32) (k v : FVec Ideal S8192x1024 .bf16) (km : FVec Ideal S2x16x1024 .f32)
    (h : fn (F := Ideal) q k v km = fun _ => 1#1) :
    (∀ x, q x = ((EReal.toReal (q x) : ℝ) : EReal)) ∧ (∀ x, k x = ((EReal.toReal (k x) : ℝ) : EReal)) ∧ (∀ x, km x = ((EReal.toReal (km x) : ℝ) : EReal)) := by
  obtain ⟨h12, h3⟩ := andi_eq_one.1 (congrFun h (fun x => x.elim0))
  obtain ⟨h1, h2⟩ := andi_eq_one.1 h12
  exact ⟨fun x => real_of_lt _ (Host.reduce_andi_all _ _ _ _ _ h1 x), fun x => real_of_lt _ (Host.reduce_andi_all _ _ _ _ _ h2 x),
    fun x => real_of_lt _ (Host.reduce_andi_all _ _ _ _ _ h3 x)⟩

end Cert.Pre_finite
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2
public import proofs.«01_k».proof.Proof.InEnd
public import proofs.«01_k».proof.Proof.InRef
public import proofs.«01_k».proof.Proof.Gen.Kernel3
public import proofs.«01_k».proof.Proof.MeOut
public import proofs.«01_k».proof.Proof.MeRef
public import proofs.«01_k».proof.Proof.Output
public import proofs.«01_k».proof.Proof.RefRow
public import proofs.«01_k».proof.Proof.Finite
public import Idealize.ShloMosaic.Lib.Claim
public import Idealize.ShloMosaic.Adequacy
public import Idealize.ShloMosaic.Init

@[expose] public section
noncomputable section
namespace Cert.Proof
open Idealize.ShloMosaic Idealize.ShloMosaic.TcCoe Idealize.SL.Sem Idealize.ShloMosaic.Pointwise

instance : Cert.Pre_finite.Facts := Cert.Pre_finite.gen_facts

/-- The kernel as printed ends with its arguments unchanged. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- The reference ends with its arguments unchanged, from any memory. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The two value arrays agree where the precondition holds. -/
theorem arrays_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out0 m' c = (Cert.KernelIdeal.Gen.dats m 0 c).arrAt 4 Cert.KernelIdeal.cfg0.N := by
  obtain ⟨hq, hk, hkm⟩ := Cert.Pre_finite.reals _ _ _ _ (hpre c)
  rw [Cert.KernelIdeal.Attn.final m c _ _ _ hq hk hkm, Cert.ReferenceIdeal.Attn.res_eq m' c]
  funext j
  obtain ⟨a, h, i, r, e, rfl⟩ := Cert.KernelIdeal.Attn.place j
  rw [Cert.KernelIdeal.Attn.attnArr_at, ← h2]
  exact Cert.ReferenceIdeal.Attn.result_apply _ _ _ _ _ _ _ (fun x => (congrFun h0 x).trans (hq x)) (fun x => (congrFun h1 x).trans (hk x))
    (fun x => (congrFun h3 x).trans (hkm x)) (fun a h i r => Cert.KernelIdeal.Attn.rowTotal_pos _ i r _) a h i r e

/-- At the extended reals the kernel's result and the reference's agree. -/
theorem algebraic : Cert.algebraic_KernelIdeal_ReferenceIdeal_pre_finite := by
  intro m g m' g' hpre hargs
  refine ⟨fun c => (Cert.KernelIdeal.Gen.dats m 0 c).arrAt 4 Cert.KernelIdeal.cfg0.N, ?_, ?_⟩
  · exact Cert.KernelIdeal.Value.run_blocks m g
  · refine (θ_run Cert.ReferenceIdeal.defs _ _).mono (fun r h c => ⟨?_, (h c).2⟩) (Cert.ReferenceIdeal.Value.run (F := Ideal) m' g')
    exact (h c).1.trans (arrays_agree m m' c hpre (hargs c).1 (hargs c).2.1 (hargs c).2.2.1 (hargs c).2.2.2)

/-- The input projection and its idealization have the same body. -/
theorem bodies2_eq : Cert.Kernel2.defs₀ (F := Bits) = (Cert.Kernel2Ideal.defs₀ (F := Bits) : Defs Cert.Kernel2.nD Cert.Kernel2.τ Cert.Kernel2.sig (Elt Bits) Cert.Kernel2.Λ₀) := by
  unfold Cert.Kernel2.defs₀ Cert.Kernel2Ideal.defs₀
  refine congrArg Defs.onTc (funext fun l => funext fun x => ?_)
  match l, x with
  | 0, (t, s) => exact rfl

/-- So they run the same bodies. -/
theorem defs2_eq : Cert.Kernel2.defs (F := Bits) = Cert.Kernel2Ideal.defs (F := Bits) :=
  congrArg (Pipeline.defs (Cert.Kernel2.pcfgs (F := Bits))) bodies2_eq

/-- The input projection as printed ends with its arguments unchanged. -/
theorem frame_kernel2 : Cert.quiescent_Kernel2 := fun m ρ _ => by
  have h := (θ_run Cert.Kernel2Ideal.defs _ _).mono (fun _ h => h) (Cert.Kernel2Ideal.Inproj.frame_any (F := Bits) m ρ)
  rw [defs2_eq]
  exact h

/-- So does its idealization. -/
theorem frame_kernel2Ideal : Cert.quiescent_Kernel2Ideal := fun m ρ _ => Cert.Kernel2Ideal.Inproj.frame_any (F := Ideal) m ρ

/-- The input projection's reference ends with its arguments unchanged. -/
theorem frame_reference2Ideal : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- At the extended reals the input projection's five results and its reference's agree. -/
theorem algebraic2 : Cert.algebraic_Kernel2Ideal_Reference2Ideal := by
  intro m g m' g' _ hargs
  refine ⟨fun c => Cert.Inproj.projArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Inproj.turnArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) 0,
    fun c => Cert.Inproj.turnArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) 1,
    fun c => Cert.Inproj.valArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Inproj.meanArr2 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    (θ_run Cert.Kernel2Ideal.defs _ _).mono (fun r h c => ?_) (θ_run_and (Cert.Kernel2Ideal.Inproj.run_all (F := Ideal) m g) (Cert.Kernel2Ideal.Inproj.frame_any (F := Ideal) m g)), ?_⟩
  · have e := Cert.Kernel2Ideal.Inproj.results m h.1.1 c
    exact ⟨e.1, e.2.1, e.2.2.1, e.2.2.2.1, e.2.2.2.2, h.2.1 c⟩
  · refine (θ_run Cert.Reference2Ideal.defs _ _).mono (fun r h c => ?_) (Cert.Reference2Ideal.Inproj.results m' g')
    obtain ⟨e1, e2, e3, e4, e5, ea⟩ := h c
    rw [(hargs c).1, (hargs c).2.2.1, (hargs c).2.2.2] at e1 e4
    rw [(hargs c).1, (hargs c).2.1, (hargs c).2.2.1, (hargs c).2.2.2] at e2 e3 e5
    exact ⟨e1, e2, e3, e4, e5, ea⟩

set_option maxHeartbeats 4000000 in
/-- The merge and its idealization have the same body. -/
theorem bodies3_eq : Cert.Kernel3.defs₀ (F := Bits) = (Cert.Kernel3Ideal.defs₀ (F := Bits) : Defs Cert.Kernel3.nD Cert.Kernel3.τ Cert.Kernel3.sig (Elt Bits) Cert.Kernel3.Λ₀) := by
  unfold Cert.Kernel3.defs₀ Cert.Kernel3Ideal.defs₀
  refine congrArg Defs.onTc (funext fun l => funext fun x => ?_)
  match l, x with
  | 0, (t, s) => exact rfl

/-- So they run the same bodies. -/
theorem defs3_eq : Cert.Kernel3.defs (F := Bits) = Cert.Kernel3Ideal.defs (F := Bits) :=
  congrArg (Pipeline.defs (Cert.Kernel3.pcfgs (F := Bits))) bodies3_eq

/-- The merge as printed ends with its arguments unchanged. -/
theorem frame_kernel3 : Cert.quiescent_Kernel3 := fun m ρ _ => by
  have h := (θ_run Cert.Kernel3Ideal.defs _ _).mono (fun _ h => h) (Cert.Kernel3Ideal.Gen.frame (F := Bits) m ρ)
  rw [defs3_eq]
  exact h

/-- So does its idealization. -/
theorem frame_kernel3Ideal : Cert.quiescent_Kernel3Ideal := fun m ρ _ => Cert.Kernel3Ideal.Gen.frame (F := Ideal) m ρ

/-- The merge's reference ends with its arguments unchanged. -/
theorem frame_reference3Ideal : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- At the extended reals the merge's three results and its reference's agree. -/
theorem algebraic3 : Cert.algebraic_Kernel3Ideal_Reference3Ideal := by
  intro m g m' g' _ hargs
  refine ⟨fun c => Cert.Merge.sumArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)),
    fun c => Cert.Merge.normArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)),
    fun c => Cert.Merge.turnedArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)),
    (θ_run Cert.Kernel3Ideal.defs _ _).mono (fun r h c => ?_) (Cert.Kernel3Ideal.Value.run_blocks m g), ?_⟩
  · obtain ⟨e1, e2, e3, ea⟩ := h c
    exact ⟨e1.trans (Cert.Kernel3Ideal.Merge.final_sum m c), e2.trans (Cert.Kernel3Ideal.Merge.final_norm m c), e3.trans (Cert.Kernel3Ideal.Merge.final_normT m c), ea⟩
  · refine (θ_run Cert.Reference3Ideal.defs _ _).mono (fun r h c => ?_) (Cert.Reference3Ideal.Merge.results m' g')
    obtain ⟨e1, e2, e3, ea⟩ := h c
    rw [(hargs c).1, (hargs c).2.1, (hargs c).2.2.1, (hargs c).2.2.2.1, (hargs c).2.2.2.2.1, (hargs c).2.2.2.2.2.1, (hargs c).2.2.2.2.2.2.1, (hargs c).2.2.2.2.2.2.2.1] at e1 e2 e3
    rw [(hargs c).2.2.2.2.2.2.2.2] at e2 e3
    exact ⟨e1, e2, e3, ea⟩

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.gen_facts,
  frame_p, frame_pi, fun m ρ _ => Cert.KernelIdeal.Gen.frame m ρ, fun m ρ _ => ref_run m ρ, fun m ρ _ => ref_run m ρ,
  frame_kernel2, frame_kernel2Ideal, frame_reference2Ideal, frame_kernel3, frame_kernel3Ideal, frame_reference3Ideal,
  ⟨IdealRules.named_const.statement Cert.KernelIdeal.κ "mask" .f32 0xF149F2CA#32 ⊥ rfl,
    IdealRules.named_const.statement Cert.KernelIdeal.κ "scale_log2e" .f32 0x3E0293EE#32 (((11863283 / 134217728) * (Real.log 2)⁻¹ : ℝ) : EReal) rfl⟩, algebraic, trivial, algebraic2, trivial, algebraic3⟩

end Cert.Proof

end
